-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v300) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S512x3x32x32 : Shape := ⟨4, ![512, 3, 32, 32]⟩
abbrev S128x3x4x4 : Shape := ⟨4, ![128, 3, 4, 4]⟩
abbrev S128 : Shape := ⟨1, ![128]⟩
abbrev S128x128x1x1 : Shape := ⟨4, ![128, 128, 1, 1]⟩
abbrev S3x128 : Shape := ⟨2, ![3, 128]⟩
abbrev S3 : Shape := ⟨1, ![3]⟩
abbrev S3x16x3x5x5 : Shape := ⟨5, ![3, 16, 3, 5, 5]⟩
abbrev S3x16 : Shape := ⟨2, ![3, 16]⟩
abbrev S3x12x16x1x1 : Shape := ⟨5, ![3, 12, 16, 1, 1]⟩
abbrev S3x12 : Shape := ⟨2, ![3, 12]⟩
abbrev S3x3x12x12x3x3 : Shape := ⟨6, ![3, 3, 12, 12, 3, 3]⟩
abbrev S3x3x12 : Shape := ⟨3, ![3, 3, 12]⟩
abbrev S3x16x12x1x1 : Shape := ⟨5, ![3, 16, 12, 1, 1]⟩
abbrev S3x3x16x9x9 : Shape := ⟨5, ![3, 3, 16, 9, 9]⟩
abbrev S3x3 : Shape := ⟨2, ![3, 3]⟩
abbrev S_ : Shape := ⟨0, ![]⟩

class Facts : Prop where
  bcast_S_S512x3x32x32 : S_.BroadcastsInDim S512x3x32x32 (![] : Fin 0 → Fin S512x3x32x32.rank)
  bcast_S_S128x3x4x4 : S_.BroadcastsInDim S128x3x4x4 (![] : Fin 0 → Fin S128x3x4x4.rank)
  bcast_S_S128 : S_.BroadcastsInDim S128 (![] : Fin 0 → Fin S128.rank)
  bcast_S_S128x128x1x1 : S_.BroadcastsInDim S128x128x1x1 (![] : Fin 0 → Fin S128x128x1x1.rank)
  bcast_S_S3x128 : S_.BroadcastsInDim S3x128 (![] : Fin 0 → Fin S3x128.rank)
  bcast_S_S3 : S_.BroadcastsInDim S3 (![] : Fin 0 → Fin S3.rank)

variable [Facts]

def fn_part1 {F : FTy → Type} [FloatOps F] (main_arg6 : FVec F S128 .f32) (main_arg7 : FVec F S3x128 .f32) (main_arg8 : FVec F S3 .f32) (main_v2 : IVec S512x3x32x32 1) (main_v5 : IVec S128x3x4x4 1) (main_v8 : IVec S128 1) (main_v11 : IVec S128x128x1x1 1) (main_v14 : IVec S128 1) (main_v17 : IVec S128x128x1x1 1) : IVec S512x3x32x32 1 × IVec S128x3x4x4 1 × IVec S128 1 × IVec S128x128x1x1 1 × IVec S128 1 × IVec S128x128x1x1 1 × IVec S128 1 × IVec S3x128 1 × IVec S3 1 :=
  let main_v18 : FVec F S128 .f32 := Host.absf main_arg6
  let main_cst_5 : FVec F S_ .f32 := constant S_ .f32 0x7F800000#32
  let main_v19 : FVec F S128 .f32 := broadcastInDim S128 ![] bcast_S_S128 main_cst_5
  let main_v20 : IVec S128 1 := cmpf .olt main_v18 main_v19
  let main_v21 : FVec F S3x128 .f32 := Host.absf main_arg7
  let main_cst_6 : FVec F S_ .f32 := constant S_ .f32 0x7F800000#32
  let main_v22 : FVec F S3x128 .f32 := broadcastInDim S3x128 ![] bcast_S_S3x128 main_cst_6
  let main_v23 : IVec S3x128 1 := cmpf .olt main_v21 main_v22
  let main_v24 : FVec F S3 .f32 := Host.absf main_arg8
  let main_cst_7 : FVec F S_ .f32 := constant S_ .f32 0x7F800000#32
  let main_v25 : FVec F S3 .f32 := broadcastInDim S3 ![] bcast_S_S3 main_cst_7
  let main_v26 : IVec S3 1 := cmpf .olt main_v24 main_v25
  (main_v2, main_v5, main_v8, main_v11, main_v14, main_v17, main_v20, main_v23, main_v26)

def fn {F : FTy → Type} [FloatOps F] (main_arg0 : FVec F S512x3x32x32 .f32) (main_arg1 : FVec F S128x3x4x4 .f32) (main_arg2 : FVec F S128 .f32) (main_arg3 : FVec F S128x128x1x1 .f32) (main_arg4 : FVec F S128 .f32) (main_arg5 : FVec F S128x128x1x1 .f32) (main_arg6 : FVec F S128 .f32) (main_arg7 : FVec F S3x128 .f32) (main_arg8 : FVec F S3 .f32) (main_arg9 : FVec F S3x16x3x5x5 .f32) (main_arg10 : FVec F S3x16 .f32) (main_arg11 : FVec F S3x16 .f32) (main_arg12 : FVec F S3x12x16x1x1 .f32) (main_arg13 : FVec F S3x12 .f32) (main_arg14 : FVec F S3x12 .f32) (main_arg15 : FVec F S3x3x12x12x3x3 .f32) (main_arg16 : FVec F S3x3x12 .f32) (main_arg17 : FVec F S3x3x12 .f32) (main_arg18 : FVec F S3x16x12x1x1 .f32) (main_arg19 : FVec F S3x16 .f32) (main_arg20 : FVec F S3x16 .f32) (main_arg21 : FVec F S3x3x16x9x9 .f32) (main_arg22 : FVec F S3x3 .f32) : IVec S512x3x32x32 1 × IVec S128x3x4x4 1 × IVec S128 1 × IVec S128x128x1x1 1 × IVec S128 1 × IVec S128x128x1x1 1 × IVec S128 1 × IVec S3x128 1 × IVec S3 1 :=
  let main_v0 : FVec F S512x3x32x32 .f32 := Host.absf main_arg0
  let main_cst : FVec F S_ .f32 := constant S_ .f32 0x7F800000#32
  let main_v1 : FVec F S512x3x32x32 .f32 := broadcastInDim S512x3x32x32 ![] bcast_S_S512x3x32x32 main_cst
  let main_v2 : IVec S512x3x32x32 1 := cmpf .olt main_v0 main_v1
  let main_v3 : FVec F S128x3x4x4 .f32 := Host.absf main_arg1
  let main_cst_0 : FVec F S_ .f32 := constant S_ .f32 0x7F800000#32
  let main_v4 : FVec F S128x3x4x4 .f32 := broadcastInDim S128x3x4x4 ![] bcast_S_S128x3x4x4 main_cst_0
  let main_v5 : IVec S128x3x4x4 1 := cmpf .olt main_v3 main_v4
  let main_v6 : FVec F S128 .f32 := Host.absf main_arg2
  let main_cst_1 : FVec F S_ .f32 := constant S_ .f32 0x7F800000#32
  let main_v7 : FVec F S128 .f32 := broadcastInDim S128 ![] bcast_S_S128 main_cst_1
  let main_v8 : IVec S128 1 := cmpf .olt main_v6 main_v7
  let main_v9 : FVec F S128x128x1x1 .f32 := Host.absf main_arg3
  let main_cst_2 : FVec F S_ .f32 := constant S_ .f32 0x7F800000#32
  let main_v10 : FVec F S128x128x1x1 .f32 := broadcastInDim S128x128x1x1 ![] bcast_S_S128x128x1x1 main_cst_2
  let main_v11 : IVec S128x128x1x1 1 := cmpf .olt main_v9 main_v10
  let main_v12 : FVec F S128 .f32 := Host.absf main_arg4
  let main_cst_3 : FVec F S_ .f32 := constant S_ .f32 0x7F800000#32
  let main_v13 : FVec F S128 .f32 := broadcastInDim S128 ![] bcast_S_S128 main_cst_3
  let main_v14 : IVec S128 1 := cmpf .olt main_v12 main_v13
  let main_v15 : FVec F S128x128x1x1 .f32 := Host.absf main_arg5
  let main_cst_4 : FVec F S_ .f32 := constant S_ .f32 0x7F800000#32
  let main_v16 : FVec F S128x128x1x1 .f32 := broadcastInDim S128x128x1x1 ![] bcast_S_S128x128x1x1 main_cst_4
  let main_v17 : IVec S128x128x1x1 1 := cmpf .olt main_v15 main_v16
  fn_part1 (F := F) main_arg6 main_arg7 main_arg8 main_v2 main_v5 main_v8 main_v11 main_v14 main_v17
-- ==== Kernel.lean ====
abbrev S512x3x32x32 : Shape := ⟨4, ![512, 3, 32, 32]⟩
abbrev S128x3x4x4 : Shape := ⟨4, ![128, 3, 4, 4]⟩
abbrev S128 : Shape := ⟨1, ![128]⟩
abbrev S128x128x1x1 : Shape := ⟨4, ![128, 128, 1, 1]⟩
abbrev S3x128 : Shape := ⟨2, ![3, 128]⟩
abbrev S3 : Shape := ⟨1, ![3]⟩
abbrev S3x16x3x5x5 : Shape := ⟨5, ![3, 16, 3, 5, 5]⟩
abbrev S3x16 : Shape := ⟨2, ![3, 16]⟩
abbrev S3x12x16x1x1 : Shape := ⟨5, ![3, 12, 16, 1, 1]⟩
abbrev S3x12 : Shape := ⟨2, ![3, 12]⟩
abbrev S3x3x12x12x3x3 : Shape := ⟨6, ![3, 3, 12, 12, 3, 3]⟩
abbrev S3x3x12 : Shape := ⟨3, ![3, 3, 12]⟩
abbrev S3x16x12x1x1 : Shape := ⟨5, ![3, 16, 12, 1, 1]⟩
abbrev S3x3x16x9x9 : Shape := ⟨5, ![3, 3, 16, 9, 9]⟩
abbrev S3x3 : Shape := ⟨2, ![3, 3]⟩
abbrev S3x4 : Shape := ⟨2, ![3, 4]⟩
abbrev S3x4x3x4 : Shape := ⟨4, ![3, 4, 3, 4]⟩
abbrev S1x1x1x3x4x3x4 : Shape := ⟨7, ![1, 1, 1, 3, 4, 3, 4]⟩
abbrev S3x512x32x32 : Shape := ⟨4, ![3, 512, 32, 32]⟩
abbrev S3x524288 : Shape := ⟨2, ![3, 524288]⟩
abbrev S512x3x8x4x8x4 : Shape := ⟨6, ![512, 3, 8, 4, 8, 4]⟩
abbrev S512x8x8x3x4x4 : Shape := ⟨6, ![512, 8, 8, 3, 4, 4]⟩
abbrev S512x64x48 : Shape := ⟨3, ![512, 64, 48]⟩
abbrev S128x48 : Shape := ⟨2, ![128, 48]⟩
abbrev S48x128 : Shape := ⟨2, ![48, 128]⟩
abbrev S128x128 : Shape := ⟨2, ![128, 128]⟩
abbrev S128x3 : Shape := ⟨2, ![128, 3]⟩
abbrev S3x16x5x5x3 : Shape := ⟨5, ![3, 16, 5, 5, 3]⟩
abbrev S_ : Shape := ⟨0, ![]⟩
abbrev S3x16x5x5x8 : Shape := ⟨5, ![3, 16, 5, 5, 8]⟩
abbrev S3x16x200 : Shape := ⟨3, ![3, 16, 200]⟩
abbrev S3x12x16 : Shape := ⟨3, ![3, 12, 16]⟩
abbrev S3x16x16 : Shape := ⟨3, ![3, 16, 16]⟩
abbrev S3x16x1 : Shape := ⟨3, ![3, 16, 1]⟩
abbrev S3x3x12x3x3x12 : Shape := ⟨6, ![3, 3, 12, 3, 3, 12]⟩
abbrev S3x3x16x3x3x16 : Shape := ⟨6, ![3, 3, 16, 3, 3, 16]⟩
abbrev S3x3x16x144 : Shape := ⟨4, ![3, 3, 16, 144]⟩
abbrev S3x3x16 : Shape := ⟨3, ![3, 3, 16]⟩
abbrev S3x3x16x1 : Shape := ⟨4, ![3, 3, 16, 1]⟩
abbrev S3x16x12 : Shape := ⟨3, ![3, 16, 12]⟩
abbrev S3x4x1 : Shape := ⟨3, ![3, 4, 1]⟩
abbrev S3x3x16x3x4x9 : Shape := ⟨6, ![3, 3, 16, 3, 4, 9]⟩
abbrev S3x3x16x3x4x3x4 : Shape := ⟨7, ![3, 3, 16, 3, 4, 3, 4]⟩
abbrev S3x3x4x4x3x3x16 : Shape := ⟨7, ![3, 3, 4, 4, 3, 3, 16]⟩
abbrev S3x48x144 : Shape := ⟨3, ![3, 48, 144]⟩
abbrev S3x3x1 : Shape := ⟨3, ![3, 3, 1]⟩
abbrev S3x48x1 : Shape := ⟨3, ![3, 48, 1]⟩
abbrev S1x128 : Shape := ⟨2, ![1, 128]⟩
abbrev S1x3 : Shape := ⟨2, ![1, 3]⟩
abbrev S512x48x1024 : Shape := ⟨3, ![512, 48, 1024]⟩
abbrev S3x4096 : Shape := ⟨2, ![3, 4096]⟩
abbrev S4x64x48 : Shape := ⟨3, ![4, 64, 48]⟩
abbrev S4x48x1024 : Shape := ⟨3, ![4, 48, 1024]⟩
abbrev S200x4096 : Shape := ⟨2, ![200, 4096]⟩
abbrev S144x4096 : Shape := ⟨2, ![144, 4096]⟩
abbrev S256x48 : Shape := ⟨2, ![256, 48]⟩
abbrev S256x128 : Shape := ⟨2, ![256, 128]⟩
abbrev S4x64x128 : Shape := ⟨3, ![4, 64, 128]⟩
abbrev S4x128 : Shape := ⟨2, ![4, 128]⟩
abbrev S4x3 : Shape := ⟨2, ![4, 3]⟩
abbrev S4x1 : Shape := ⟨2, ![4, 1]⟩
abbrev S1x4096 : Shape := ⟨2, ![1, 4096]⟩
abbrev S5x4096 : Shape := ⟨2, ![5, 4096]⟩
abbrev S8x4096 : Shape := ⟨2, ![8, 4096]⟩
abbrev S8x66 : Shape := ⟨2, ![8, 66]⟩
abbrev S8x4162 : Shape := ⟨2, ![8, 4162]⟩
abbrev S8x4228 : Shape := ⟨2, ![8, 4228]⟩
abbrev S1x1 : Shape := ⟨2, ![1, 1]⟩
abbrev S1x16x200 : Shape := ⟨3, ![1, 16, 200]⟩
abbrev S16x200 : Shape := ⟨2, ![16, 200]⟩
abbrev S200x1024 : Shape := ⟨2, ![200, 1024]⟩
abbrev S16x1024 : Shape := ⟨2, ![16, 1024]⟩
abbrev S1x16x1 : Shape := ⟨3, ![1, 16, 1]⟩
abbrev S16x1 : Shape := ⟨2, ![16, 1]⟩
abbrev S16x4096 : Shape := ⟨2, ![16, 4096]⟩
abbrev S1x16x16 : Shape := ⟨3, ![1, 16, 16]⟩
abbrev S16x16 : Shape := ⟨2, ![16, 16]⟩
abbrev S16x33 : Shape := ⟨2, ![16, 33]⟩
abbrev S16x4129 : Shape := ⟨2, ![16, 4129]⟩
abbrev S16x4162 : Shape := ⟨2, ![16, 4162]⟩
abbrev S1x1x16x144 : Shape := ⟨4, ![1, 1, 16, 144]⟩
abbrev S16x144 : Shape := ⟨2, ![16, 144]⟩
abbrev S144x1024 : Shape := ⟨2, ![144, 1024]⟩
abbrev S1x1x16x1 : Shape := ⟨4, ![1, 1, 16, 1]⟩
abbrev S1x48x144 : Shape := ⟨3, ![1, 48, 144]⟩
abbrev S48x144 : Shape := ⟨2, ![48, 144]⟩
abbrev S48x1024 : Shape := ⟨2, ![48, 1024]⟩
abbrev S1x48x1 : Shape := ⟨3, ![1, 48, 1]⟩
abbrev S48x1 : Shape := ⟨2, ![48, 1]⟩
abbrev S48x4096 : Shape := ⟨2, ![48, 4096]⟩
abbrev S1x48x1024 : Shape := ⟨3, ![1, 48, 1024]⟩

abbrev nBuf : Space → Nat
  | .hbm => 105
  | .vmem => 30
  | .smem => 0
  | _ => 0

abbrev bufTy : (tb : Table) → Fin (tcTables nBuf tb) → BufTy
  | .hbm, ⟨0, _⟩ => ⟨S512x3x32x32, .f32⟩
  | .hbm, ⟨1, _⟩ => ⟨S128x3x4x4, .f32⟩
  | .hbm, ⟨2, _⟩ => ⟨S128, .f32⟩
  | .hbm, ⟨3, _⟩ => ⟨S128x128x1x1, .f32⟩
  | .hbm, ⟨4, _⟩ => ⟨S128, .f32⟩
  | .hbm, ⟨5, _⟩ => ⟨S128x128x1x1, .f32⟩
  | .hbm, ⟨6, _⟩ => ⟨S128, .f32⟩
  | .hbm, ⟨7, _⟩ => ⟨S3x128, .f32⟩
  | .hbm, ⟨8, _⟩ => ⟨S3, .f32⟩
  | .hbm, ⟨9, _⟩ => ⟨S3x16x3x5x5, .f32⟩
  | .hbm, ⟨10, _⟩ => ⟨S3x16, .f32⟩
  | .hbm, ⟨11, _⟩ => ⟨S3x16, .f32⟩
  | .hbm, ⟨12, _⟩ => ⟨S3x12x16x1x1, .f32⟩
  | .hbm, ⟨13, _⟩ => ⟨S3x12, .f32⟩
  | .hbm, ⟨14, _⟩ => ⟨S3x12, .f32⟩
  | .hbm, ⟨15, _⟩ => ⟨S3x3x12x12x3x3, .f32⟩
  | .hbm, ⟨16, _⟩ => ⟨S3x3x12, .f32⟩
  | .hbm, ⟨17, _⟩ => ⟨S3x3x12, .f32⟩
  | .hbm, ⟨18, _⟩ => ⟨S3x16x12x1x1, .f32⟩
  | .hbm, ⟨19, _⟩ => ⟨S3x16, .f32⟩
  | .hbm, ⟨20, _⟩ => ⟨S3x16, .f32⟩
  | .hbm, ⟨21, _⟩ => ⟨S3x3x16x9x9, .f32⟩
  | .hbm, ⟨22, _⟩ => ⟨S3x3, .f32⟩
  | .hbm, ⟨23, _⟩ => ⟨S3x4, .i32⟩
  | .hbm, ⟨24, _⟩ => ⟨S3x4, .i1⟩
  | .hbm, ⟨25, _⟩ => ⟨S3x4, .i1⟩
  | .hbm, ⟨26, _⟩ => ⟨S3x4x3x4, .i1⟩
  | .hbm, ⟨27, _⟩ => ⟨S1x1x1x3x4x3x4, .i1⟩
  | .hbm, ⟨28, _⟩ => ⟨S3x512x32x32, .f32⟩
  | .hbm, ⟨29, _⟩ => ⟨S3x524288, .f32⟩
  | .hbm, ⟨30, _⟩ => ⟨S512x3x8x4x8x4, .f32⟩
  | .hbm, ⟨31, _⟩ => ⟨S512x8x8x3x4x4, .f32⟩
  | .hbm, ⟨32, _⟩ => ⟨S512x64x48, .f32⟩
  | .hbm, ⟨33, _⟩ => ⟨S128x48, .f32⟩
  | .hbm, ⟨34, _⟩ => ⟨S48x128, .f32⟩
  | .hbm, ⟨35, _⟩ => ⟨S128x128, .f32⟩
  | .hbm, ⟨36, _⟩ => ⟨S128x128, .f32⟩
  | .hbm, ⟨37, _⟩ => ⟨S128x128, .f32⟩
  | .hbm, ⟨38, _⟩ => ⟨S128x128, .f32⟩
  | .hbm, ⟨39, _⟩ => ⟨S128x3, .f32⟩
  | .hbm, ⟨40, _⟩ => ⟨S3x16x5x5x3, .f32⟩
  | .hbm, ⟨41, _⟩ => ⟨S_, .i32⟩
  | .hbm, ⟨42, _⟩ => ⟨S_, .f32⟩
  | .hbm, ⟨43, _⟩ => ⟨S3x16x5x5x8, .f32⟩
  | .hbm, ⟨44, _⟩ => ⟨S3x16x200, .f32⟩
  | .hbm, ⟨45, _⟩ => ⟨S3x12x16, .f32⟩
  | .hbm, ⟨46, _⟩ => ⟨S_, .i32⟩
  | .hbm, ⟨47, _⟩ => ⟨S_, .f32⟩
  | .hbm, ⟨48, _⟩ => ⟨S3x16x16, .f32⟩
  | .hbm, ⟨49, _⟩ => ⟨S_, .i32⟩
  | .hbm, ⟨50, _⟩ => ⟨S_, .f32⟩
  | .hbm, ⟨51, _⟩ => ⟨S3x16, .f32⟩
  | .hbm, ⟨52, _⟩ => ⟨S3x16x1, .f32⟩
  | .hbm, ⟨53, _⟩ => ⟨S_, .i32⟩
  | .hbm, ⟨54, _⟩ => ⟨S_, .f32⟩
  | .hbm, ⟨55, _⟩ => ⟨S3x16, .f32⟩
  | .hbm, ⟨56, _⟩ => ⟨S3x16x1, .f32⟩
  | .hbm, ⟨57, _⟩ => ⟨S3x3x12x3x3x12, .f32⟩
  | .hbm, ⟨58, _⟩ => ⟨S_, .i32⟩
  | .hbm, ⟨59, _⟩ => ⟨S_, .f32⟩
  | .hbm, ⟨60, _⟩ => ⟨S3x3x16x3x3x16, .f32⟩
  | .hbm, ⟨61, _⟩ => ⟨S3x3x16x144, .f32⟩
  | .hbm, ⟨62, _⟩ => ⟨S_, .i32⟩
  | .hbm, ⟨63, _⟩ => ⟨S_, .f32⟩
  | .hbm, ⟨64, _⟩ => ⟨S3x3x16, .f32⟩
  | .hbm, ⟨65, _⟩ => ⟨S3x3x16x1, .f32⟩
  | .hbm, ⟨66, _⟩ => ⟨S_, .i32⟩
  | .hbm, ⟨67, _⟩ => ⟨S_, .f32⟩
  | .hbm, ⟨68, _⟩ => ⟨S3x3x16, .f32⟩
  | .hbm, ⟨69, _⟩ => ⟨S3x3x16x1, .f32⟩
  | .hbm, ⟨70, _⟩ => ⟨S3x16x12, .f32⟩
  | .hbm, ⟨71, _⟩ => ⟨S_, .i32⟩
  | .hbm, ⟨72, _⟩ => ⟨S_, .f32⟩
  | .hbm, ⟨73, _⟩ => ⟨S3x16x16, .f32⟩
  | .hbm, ⟨74, _⟩ => ⟨S_, .i32⟩
  | .hbm, ⟨75, _⟩ => ⟨S3x4, .i32⟩
  | .hbm, ⟨76, _⟩ => ⟨S3x4, .i32⟩
  | .hbm, ⟨77, _⟩ => ⟨S3x4, .i32⟩
  | .hbm, ⟨78, _⟩ => ⟨S3x4x1, .i32⟩
  | .hbm, ⟨79, _⟩ => ⟨S3x3x16x3x4x9, .f32⟩
  | .hbm, ⟨80, _⟩ => ⟨S_, .i32⟩
  | .hbm, ⟨81, _⟩ => ⟨S3x4, .i32⟩
  | .hbm, ⟨82, _⟩ => ⟨S3x4, .i32⟩
  | .hbm, ⟨83, _⟩ => ⟨S3x4, .i32⟩
  | .hbm, ⟨84, _⟩ => ⟨S3x4x1, .i32⟩
  | .hbm, ⟨85, _⟩ => ⟨S3x3x16x3x4x3x4, .f32⟩
  | .hbm, ⟨86, _⟩ => ⟨S_, .f32⟩
  | .hbm, ⟨87, _⟩ => ⟨S_, .f32⟩
  | .hbm, ⟨88, _⟩ => ⟨S3x3x16x3x4x3x4, .i1⟩
  | .hbm, ⟨89, _⟩ => ⟨S3x3x16x3x4x3x4, .f32⟩
  | .hbm, ⟨90, _⟩ => ⟨S3x3x16x3x4x3x4, .f32⟩
  | .hbm, ⟨91, _⟩ => ⟨S3x3x4x4x3x3x16, .f32⟩
  | .hbm, ⟨92, _⟩ => ⟨S3x48x144, .f32⟩
  | .hbm, ⟨93, _⟩ => ⟨S3x3x1, .f32⟩
  | .hbm, ⟨94, _⟩ => ⟨S3x3x16, .f32⟩
  | .hbm, ⟨95, _⟩ => ⟨S3x48x1, .f32⟩
  | .hbm, ⟨96, _⟩ => ⟨S1x128, .f32⟩
  | .hbm, ⟨97, _⟩ => ⟨S1x128, .f32⟩
  | .hbm, ⟨98, _⟩ => ⟨S1x128, .f32⟩
  | .hbm, ⟨99, _⟩ => ⟨S1x3, .f32⟩
  | .hbm, ⟨100, _⟩ => ⟨S3x16x1, .f32⟩
  | .hbm, ⟨101, _⟩ => ⟨S3x16x1, .f32⟩
  | .hbm, ⟨102, _⟩ => ⟨S3x16x1, .f32⟩
  | .hbm, ⟨103, _⟩ => ⟨S3x16x1, .f32⟩
  | .hbm, ⟨104, _⟩ => ⟨S512x48x1024, .bf16⟩
  | .local _ .vmem, ⟨0, _⟩ => ⟨S3x4096, .f32⟩
  | .local _ .vmem, ⟨1, _⟩ => ⟨S3x4096, .f32⟩
  | .local _ .vmem, ⟨2, _⟩ => ⟨S4x64x48, .f32⟩
  | .local _ .vmem, ⟨3, _⟩ => ⟨S4x64x48, .f32⟩
  | .local _ .vmem, ⟨4, _⟩ => ⟨S48x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S128x3, .f32⟩
  | .local _ .vmem, ⟨11, _⟩ => ⟨S1x3, .f32⟩
  | .local _ .vmem, ⟨12, _⟩ => ⟨S3x16x200, .f32⟩
  | .local _ .vmem, ⟨13, _⟩ => ⟨S3x16x1, .f32⟩
  | .local _ .vmem, ⟨14, _⟩ => ⟨S3x16x1, .f32⟩
  | .local _ .vmem, ⟨15, _⟩ => ⟨S3x16x16, .f32⟩
  | .local _ .vmem, ⟨16, _⟩ => ⟨S3x16x1, .f32⟩
  | .local _ .vmem, ⟨17, _⟩ => ⟨S3x16x1, .f32⟩
  | .local _ .vmem, ⟨18, _⟩ => ⟨S3x3x16x144, .f32⟩
  | .local _ .vmem, ⟨19, _⟩ => ⟨S3x3x16x1, .f32⟩
  | .local _ .vmem, ⟨20, _⟩ => ⟨S3x3x16x1, .f32⟩
  | .local _ .vmem, ⟨21, _⟩ => ⟨S3x16x16, .f32⟩
  | .local _ .vmem, ⟨22, _⟩ => ⟨S3x16x1, .f32⟩
  | .local _ .vmem, ⟨23, _⟩ => ⟨S3x16x1, .f32⟩
  | .local _ .vmem, ⟨24, _⟩ => ⟨S3x48x144, .f32⟩
  | .local _ .vmem, ⟨25, _⟩ => ⟨S3x48x1, .f32⟩
  | .local _ .vmem, ⟨26, _⟩ => ⟨S4x48x1024, .bf16⟩
  | .local _ .vmem, ⟨27, _⟩ => ⟨S4x48x1024, .bf16⟩
  | .local _ .vmem, ⟨28, _⟩ => ⟨S200x4096, .f32⟩
  | .local _ .vmem, ⟨29, _⟩ => ⟨S144x4096, .f32⟩
  | _, _ => ⟨S512x3x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_c : Ref sig .tc := ⟨.hbm, 23, rfl⟩
abbrev main_c_0 : Ref sig .tc := ⟨.hbm, 24, rfl⟩
abbrev main_c_1 : Ref sig .tc := ⟨.hbm, 25, rfl⟩
abbrev main_c_2 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_c_3 : Ref sig .tc := ⟨.hbm, 41, rfl⟩
abbrev main_call0_v0 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_c_4 : Ref sig .tc := ⟨.hbm, 46, rfl⟩
abbrev main_call1_v0 : Ref sig .tc := ⟨.hbm, 47, rfl⟩
abbrev main_v17 : Ref sig .tc := ⟨.hbm, 48, rfl⟩
abbrev main_c_5 : Ref sig .tc := ⟨.hbm, 49, rfl⟩
abbrev main_call2_v0 : Ref sig .tc := ⟨.hbm, 50, rfl⟩
abbrev main_v18 : Ref sig .tc := ⟨.hbm, 51, rfl⟩
abbrev main_v19 : Ref sig .tc := ⟨.hbm, 52, rfl⟩
abbrev main_c_6 : Ref sig .tc := ⟨.hbm, 53, rfl⟩
abbrev main_call3_v0 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_c_7 : Ref sig .tc := ⟨.hbm, 58, rfl⟩
abbrev main_call4_v0 : Ref sig .tc := ⟨.hbm, 59, rfl⟩
abbrev main_v23 : Ref sig .tc := ⟨.hbm, 60, rfl⟩
abbrev main_v24 : Ref sig .tc := ⟨.hbm, 61, rfl⟩
abbrev main_c_8 : Ref sig .tc := ⟨.hbm, 62, rfl⟩
abbrev main_call5_v0 : Ref sig .tc := ⟨.hbm, 63, rfl⟩
abbrev main_v25 : Ref sig .tc := ⟨.hbm, 64, rfl⟩
abbrev main_v26 : Ref sig .tc := ⟨.hbm, 65, rfl⟩
abbrev main_c_9 : Ref sig .tc := ⟨.hbm, 66, rfl⟩
abbrev main_call6_v0 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_c_10 : Ref sig .tc := ⟨.hbm, 71, rfl⟩
abbrev main_call7_v0 : Ref sig .tc := ⟨.hbm, 72, rfl⟩
abbrev main_v30 : Ref sig .tc := ⟨.hbm, 73, rfl⟩
abbrev main_c_11 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_c_12 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_cst : Ref sig .tc := ⟨.hbm, 86, rfl⟩
abbrev main_call8_v0 : Ref sig .tc := ⟨.hbm, 87, rfl⟩
abbrev main_call8_v1 : Ref sig .tc := ⟨.hbm, 88, rfl⟩
abbrev main_call8_v2 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg20_0 : Ref sig .tc := ⟨.vmem, 22, rfl⟩
abbrev cc0_stg21_0 : Ref sig .tc := ⟨.vmem, 23, rfl⟩
abbrev cc0_stg22_0 : Ref sig .tc := ⟨.vmem, 24, rfl⟩
abbrev cc0_stg23_0 : Ref sig .tc := ⟨.vmem, 25, rfl⟩
abbrev cc0_stg24_0 : Ref sig .tc := ⟨.vmem, 26, rfl⟩
abbrev cc0_stg24_1 : Ref sig .tc := ⟨.vmem, 27, rfl⟩
abbrev cc0_scratch0 : Ref sig .tc := ⟨.vmem, 28, rfl⟩
abbrev cc0_scratch1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem20_0 : DmaSem sig := 22
abbrev cc0_sem21_0 : DmaSem sig := 23
abbrev cc0_sem22_0 : DmaSem sig := 24
abbrev cc0_sem23_0 : DmaSem sig := 25
abbrev cc0_sem24_0 : DmaSem sig := 26
abbrev cc0_sem24_1 : DmaSem sig := 27

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_17 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_18 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_24 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S3x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x64x48 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S48x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x3 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x3 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S3x16x200 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S3x16x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S3x16x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S3x16x16 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S3x16x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S3x16x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S3x3x16x144 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S3x3x16x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S3x3x16x1 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S3x16x16 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S3x16x1 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S3x16x1 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S3x48x144 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S3x48x1 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 2 → Memref sig .tc .vmem S4x48x1024 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]
-- ==== ReferenceIdeal.lean ====
abbrev S512x3x32x32 : Shape := ⟨4, ![512, 3, 32, 32]⟩
abbrev S128x3x4x4 : Shape := ⟨4, ![128, 3, 4, 4]⟩
abbrev S128 : Shape := ⟨1, ![128]⟩
abbrev S128x128x1x1 : Shape := ⟨4, ![128, 128, 1, 1]⟩
abbrev S3x128 : Shape := ⟨2, ![3, 128]⟩
abbrev S3 : Shape := ⟨1, ![3]⟩
abbrev S3x16x3x5x5 : Shape := ⟨5, ![3, 16, 3, 5, 5]⟩
abbrev S3x16 : Shape := ⟨2, ![3, 16]⟩
abbrev S3x12x16x1x1 : Shape := ⟨5, ![3, 12, 16, 1, 1]⟩
abbrev S3x12 : Shape := ⟨2, ![3, 12]⟩
abbrev S3x3x12x12x3x3 : Shape := ⟨6, ![3, 3, 12, 12, 3, 3]⟩
abbrev S3x3x12 : Shape := ⟨3, ![3, 3, 12]⟩
abbrev S3x16x12x1x1 : Shape := ⟨5, ![3, 16, 12, 1, 1]⟩
abbrev S3x3x16x9x9 : Shape := ⟨5, ![3, 3, 16, 9, 9]⟩
abbrev S3x3 : Shape := ⟨2, ![3, 3]⟩
abbrev S_ : Shape := ⟨0, ![]⟩
abbrev S512x3x8x32 : Shape := ⟨4, ![512, 3, 8, 32]⟩
abbrev S512x3x1x8x32 : Shape := ⟨5, ![512, 3, 1, 8, 32]⟩
abbrev S512x3x4x8x32 : Shape := ⟨5, ![512, 3, 4, 8, 32]⟩
abbrev S512x3x4x8x8 : Shape := ⟨5, ![512, 3, 4, 8, 8]⟩
abbrev S512x3x4x1x8x8 : Shape := ⟨6, ![512, 3, 4, 1, 8, 8]⟩
abbrev S512x3x4x4x8x8 : Shape := ⟨6, ![512, 3, 4, 4, 8, 8]⟩
abbrev S128x512x8x8 : Shape := ⟨4, ![128, 512, 8, 8]⟩
abbrev S512x128x8x8 : Shape := ⟨4, ![512, 128, 8, 8]⟩
abbrev S1x128x1x1 : Shape := ⟨4, ![1, 128, 1, 1]⟩
abbrev S512x128x1x8x8 : Shape := ⟨5, ![512, 128, 1, 8, 8]⟩
abbrev S512x128x1x1x8x8 : Shape := ⟨6, ![512, 128, 1, 1, 8, 8]⟩
abbrev S512x128 : Shape := ⟨2, ![512, 128]⟩
abbrev S128x3 : Shape := ⟨2, ![128, 3]⟩
abbrev S512x3 : Shape := ⟨2, ![512, 3]⟩
abbrev S1x3 : Shape := ⟨2, ![1, 3]⟩
abbrev S512 : Shape := ⟨1, ![512]⟩
abbrev S512x1 : Shape := ⟨2, ![512, 1]⟩
abbrev S512x3x36x36 : Shape := ⟨4, ![512, 3, 36, 36]⟩
abbrev S512x3x32x36 : Shape := ⟨4, ![512, 3, 32, 36]⟩
abbrev S512x3x1x32x36 : Shape := ⟨5, ![512, 3, 1, 32, 36]⟩
abbrev S512x3x5x32x36 : Shape := ⟨5, ![512, 3, 5, 32, 36]⟩
abbrev S512x3x5x32x32 : Shape := ⟨5, ![512, 3, 5, 32, 32]⟩
abbrev S512x3x5x1x32x32 : Shape := ⟨6, ![512, 3, 5, 1, 32, 32]⟩
abbrev S512x3x5x5x32x32 : Shape := ⟨6, ![512, 3, 5, 5, 32, 32]⟩
abbrev S3x16x512x32x32 : Shape := ⟨5, ![3, 16, 512, 32, 32]⟩
abbrev S3x512x16x32x32 : Shape := ⟨5, ![3, 512, 16, 32, 32]⟩
abbrev S3x1x16x1x1 : Shape := ⟨5, ![3, 1, 16, 1, 1]⟩
abbrev S3x512x16x1x32x32 : Shape := ⟨6, ![3, 512, 16, 1, 32, 32]⟩
abbrev S3x512x16x1x1x32x32 : Shape := ⟨7, ![3, 512, 16, 1, 1, 32, 32]⟩
abbrev S3x12x512x32x32 : Shape := ⟨5, ![3, 12, 512, 32, 32]⟩
abbrev S3x512x12x32x32 : Shape := ⟨5, ![3, 512, 12, 32, 32]⟩
abbrev S3x1x12x1x1 : Shape := ⟨5, ![3, 1, 12, 1, 1]⟩
abbrev S3x1x12x12x3x3 : Shape := ⟨6, ![3, 1, 12, 12, 3, 3]⟩
abbrev S3x12x12x3x3 : Shape := ⟨5, ![3, 12, 12, 3, 3]⟩
abbrev S3x1x12 : Shape := ⟨3, ![3, 1, 12]⟩
abbrev S3x512x12x34x34 : Shape := ⟨5, ![3, 512, 12, 34, 34]⟩
abbrev S3x512x12x32x34 : Shape := ⟨5, ![3, 512, 12, 32, 34]⟩
abbrev S3x512x12x1x32x34 : Shape := ⟨6, ![3, 512, 12, 1, 32, 34]⟩
abbrev S3x512x12x3x32x34 : Shape := ⟨6, ![3, 512, 12, 3, 32, 34]⟩
abbrev S3x512x12x3x32x32 : Shape := ⟨6, ![3, 512, 12, 3, 32, 32]⟩
abbrev S3x512x12x3x1x32x32 : Shape := ⟨7, ![3, 512, 12, 3, 1, 32, 32]⟩
abbrev S3x512x12x3x3x32x32 : Shape := ⟨7, ![3, 512, 12, 3, 3, 32, 32]⟩
abbrev S3x512x12x1x32x32 : Shape := ⟨6, ![3, 512, 12, 1, 32, 32]⟩
abbrev S3x512x12x1x1x32x32 : Shape := ⟨7, ![3, 512, 12, 1, 1, 32, 32]⟩
abbrev S3x512x16x136x136 : Shape := ⟨5, ![3, 512, 16, 136, 136]⟩
abbrev S3x512x16x128x136 : Shape := ⟨5, ![3, 512, 16, 128, 136]⟩
abbrev S3x512x16x1x128x136 : Shape := ⟨6, ![3, 512, 16, 1, 128, 136]⟩
abbrev S3x512x16x9x128x136 : Shape := ⟨6, ![3, 512, 16, 9, 128, 136]⟩
abbrev S3x512x16x9x128x128 : Shape := ⟨6, ![3, 512, 16, 9, 128, 128]⟩
abbrev S3x512x16x9x1x128x128 : Shape := ⟨7, ![3, 512, 16, 9, 1, 128, 128]⟩
abbrev S3x512x16x9x9x128x128 : Shape := ⟨7, ![3, 512, 16, 9, 9, 128, 128]⟩
abbrev S3x3x512x128x128 : Shape := ⟨5, ![3, 3, 512, 128, 128]⟩
abbrev S3x512x3x128x128 : Shape := ⟨5, ![3, 512, 3, 128, 128]⟩
abbrev S3x1x3x1x1 : Shape := ⟨5, ![3, 1, 3, 1, 1]⟩
abbrev S512x1x1x1 : Shape := ⟨4, ![512, 1, 1, 1]⟩
abbrev S1x512x3x128x128 : Shape := ⟨5, ![1, 512, 3, 128, 128]⟩
abbrev S512x3x128x128 : Shape := ⟨4, ![512, 3, 128, 128]⟩
abbrev S512x3x32x4x32x4 : Shape := ⟨6, ![512, 3, 32, 4, 32, 4]⟩
abbrev S512x3x4x4x32x32 : Shape := ⟨6, ![512, 3, 4, 4, 32, 32]⟩
abbrev S512x48x1024 : Shape := ⟨3, ![512, 48, 1024]⟩

abbrev nBuf : Space → Nat
  | .hbm => 378
  | .vmem => 0
  | .smem => 0
  | _ => 0

abbrev hbmTy0_0 (i : Nat) : BufTy := match i % 128 with
  | 0 => ⟨S512x3x32x32, .f32⟩
  | 1 => ⟨S128x3x4x4, .f32⟩
  | 2 => ⟨S128, .f32⟩
  | 3 => ⟨S128x128x1x1, .f32⟩
  | 4 => ⟨S128, .f32⟩
  | 5 => ⟨S128x128x1x1, .f32⟩
  | 6 => ⟨S128, .f32⟩
  | 7 => ⟨S3x128, .f32⟩
  | 8 => ⟨S3, .f32⟩
  | 9 => ⟨S3x16x3x5x5, .f32⟩
  | 10 => ⟨S3x16, .f32⟩
  | 11 => ⟨S3x16, .f32⟩
  | 12 => ⟨S3x12x16x1x1, .f32⟩
  | 13 => ⟨S3x12, .f32⟩
  | 14 => ⟨S3x12, .f32⟩
  | 15 => ⟨S3x3x12x12x3x3, .f32⟩
  | 16 => ⟨S3x3x12, .f32⟩
  | 17 => ⟨S3x3x12, .f32⟩
  | 18 => ⟨S3x16x12x1x1, .f32⟩
  | 19 => ⟨S3x16, .f32⟩
  | 20 => ⟨S3x16, .f32⟩
  | 21 => ⟨S3x3x16x9x9, .f32⟩
  | 22 => ⟨S3x3, .f32⟩
  | 23 => ⟨S_, .f32⟩
  | 24 => ⟨S512x3x32x32, .f32⟩
  | 25 => ⟨S512x3x8x32, .f32⟩
  | 26 => ⟨S512x3x8x32, .f32⟩
  | 27 => ⟨S512x3x8x32, .f32⟩
  | 28 => ⟨S512x3x8x32, .f32⟩
  | 29 => ⟨S512x3x1x8x32, .f32⟩
  | 30 => ⟨S512x3x1x8x32, .f32⟩
  | 31 => ⟨S512x3x1x8x32, .f32⟩
  | 32 => ⟨S512x3x1x8x32, .f32⟩
  | 33 => ⟨S512x3x4x8x32, .f32⟩
  | 34 => ⟨S512x3x4x8x8, .f32⟩
  | 35 => ⟨S512x3x4x8x8, .f32⟩
  | 36 => ⟨S512x3x4x8x8, .f32⟩
  | 37 => ⟨S512x3x4x8x8, .f32⟩
  | 38 => ⟨S512x3x4x1x8x8, .f32⟩
  | 39 => ⟨S512x3x4x1x8x8, .f32⟩
  | 40 => ⟨S512x3x4x1x8x8, .f32⟩
  | 41 => ⟨S512x3x4x1x8x8, .f32⟩
  | 42 => ⟨S512x3x4x4x8x8, .f32⟩
  | 43 => ⟨S128x512x8x8, .f32⟩
  | 44 => ⟨S512x128x8x8, .f32⟩
  | 45 => ⟨S1x128x1x1, .f32⟩
  | 46 => ⟨S512x128x8x8, .f32⟩
  | 47 => ⟨S512x128x8x8, .f32⟩
  | 48 => ⟨S_, .f32⟩
  | 49 => ⟨S_, .f32⟩
  | 50 => ⟨S512x128x8x8, .f32⟩
  | 51 => ⟨S512x128x8x8, .i1⟩
  | 52 => ⟨S_, .f32⟩
  | 53 => ⟨S512x128x8x8, .f32⟩
  | 54 => ⟨S512x128x8x8, .f32⟩
  | 55 => ⟨S512x128x8x8, .f32⟩
  | 56 => ⟨S_, .f32⟩
  | 57 => ⟨S512x128x8x8, .f32⟩
  | 58 => ⟨S512x128x1x8x8, .f32⟩
  | 59 => ⟨S512x128x1x1x8x8, .f32⟩
  | 60 => ⟨S128x512x8x8, .f32⟩
  | 61 => ⟨S512x128x8x8, .f32⟩
  | 62 => ⟨S1x128x1x1, .f32⟩
  | 63 => ⟨S512x128x8x8, .f32⟩
  | 64 => ⟨S512x128x8x8, .f32⟩
  | 65 => ⟨S_, .f32⟩
  | 66 => ⟨S_, .f32⟩
  | 67 => ⟨S512x128x8x8, .f32⟩
  | 68 => ⟨S512x128x8x8, .i1⟩
  | 69 => ⟨S_, .f32⟩
  | 70 => ⟨S512x128x8x8, .f32⟩
  | 71 => ⟨S512x128x8x8, .f32⟩
  | 72 => ⟨S512x128x8x8, .f32⟩
  | 73 => ⟨S_, .f32⟩
  | 74 => ⟨S512x128x8x8, .f32⟩
  | 75 => ⟨S512x128x1x8x8, .f32⟩
  | 76 => ⟨S512x128x1x1x8x8, .f32⟩
  | 77 => ⟨S128x512x8x8, .f32⟩
  | 78 => ⟨S512x128x8x8, .f32⟩
  | 79 => ⟨S1x128x1x1, .f32⟩
  | 80 => ⟨S512x128x8x8, .f32⟩
  | 81 => ⟨S512x128x8x8, .f32⟩
  | 82 => ⟨S_, .f32⟩
  | 83 => ⟨S_, .f32⟩
  | 84 => ⟨S512x128x8x8, .f32⟩
  | 85 => ⟨S512x128x8x8, .i1⟩
  | 86 => ⟨S_, .f32⟩
  | 87 => ⟨S512x128x8x8, .f32⟩
  | 88 => ⟨S512x128x8x8, .f32⟩
  | 89 => ⟨S512x128x8x8, .f32⟩
  | 90 => ⟨S_, .f32⟩
  | 91 => ⟨S512x128, .f32⟩
  | 92 => ⟨S_, .f32⟩
  | 93 => ⟨S512x128, .f32⟩
  | 94 => ⟨S512x128, .f32⟩
  | 95 => ⟨S128x3, .f32⟩
  | 96 => ⟨S512x3, .f32⟩
  | 97 => ⟨S1x3, .f32⟩
  | 98 => ⟨S512x3, .f32⟩
  | 99 => ⟨S512x3, .f32⟩
  | 100 => ⟨S_, .f32⟩
  | 101 => ⟨S512, .f32⟩
  | 102 => ⟨S_, .f32⟩
  | 103 => ⟨S512, .f32⟩
  | 104 => ⟨S512, .f32⟩
  | 105 => ⟨S512x1, .f32⟩
  | 106 => ⟨S512x3, .f32⟩
  | 107 => ⟨S512x3, .f32⟩
  | 108 => ⟨S512x3, .f32⟩
  | 109 => ⟨S_, .f32⟩
  | 110 => ⟨S512, .f32⟩
  | 111 => ⟨S512x1, .f32⟩
  | 112 => ⟨S512x3, .f32⟩
  | 113 => ⟨S512x3, .f32⟩
  | 114 => ⟨S_, .f32⟩
  | 115 => ⟨S512, .f32⟩
  | 116 => ⟨S512x1, .f32⟩
  | 117 => ⟨S512x3, .f32⟩
  | 118 => ⟨S512x3, .i1⟩
  | 119 => ⟨S3, .i32⟩
  | 120 => ⟨S_, .i32⟩
  | 121 => ⟨S_, .i32⟩
  | 122 => ⟨S512x3, .i32⟩
  | 123 => ⟨S512x3, .i32⟩
  | 124 => ⟨S512x3, .i32⟩
  | 125 => ⟨S_, .i32⟩
  | 126 => ⟨S512, .i32⟩
  | 127 => ⟨S512x1, .i32⟩
  | _ => ⟨S512x3x32x32, .f32⟩

abbrev hbmTy0_1 (i : Nat) : BufTy := match i % 128 with
  | 0 => ⟨S1x3, .i32⟩
  | 1 => ⟨S512x3, .i32⟩
  | 2 => ⟨S512x3, .i32⟩
  | 3 => ⟨S512x3, .i1⟩
  | 4 => ⟨S512x3, .f32⟩
  | 5 => ⟨S_, .f32⟩
  | 6 => ⟨S512x3x36x36, .f32⟩
  | 7 => ⟨S512x3x32x36, .f32⟩
  | 8 => ⟨S512x3x32x36, .f32⟩
  | 9 => ⟨S512x3x32x36, .f32⟩
  | 10 => ⟨S512x3x32x36, .f32⟩
  | 11 => ⟨S512x3x32x36, .f32⟩
  | 12 => ⟨S512x3x1x32x36, .f32⟩
  | 13 => ⟨S512x3x1x32x36, .f32⟩
  | 14 => ⟨S512x3x1x32x36, .f32⟩
  | 15 => ⟨S512x3x1x32x36, .f32⟩
  | 16 => ⟨S512x3x1x32x36, .f32⟩
  | 17 => ⟨S512x3x5x32x36, .f32⟩
  | 18 => ⟨S512x3x5x32x32, .f32⟩
  | 19 => ⟨S512x3x5x32x32, .f32⟩
  | 20 => ⟨S512x3x5x32x32, .f32⟩
  | 21 => ⟨S512x3x5x32x32, .f32⟩
  | 22 => ⟨S512x3x5x32x32, .f32⟩
  | 23 => ⟨S512x3x5x1x32x32, .f32⟩
  | 24 => ⟨S512x3x5x1x32x32, .f32⟩
  | 25 => ⟨S512x3x5x1x32x32, .f32⟩
  | 26 => ⟨S512x3x5x1x32x32, .f32⟩
  | 27 => ⟨S512x3x5x1x32x32, .f32⟩
  | 28 => ⟨S512x3x5x5x32x32, .f32⟩
  | 29 => ⟨S3x16x512x32x32, .f32⟩
  | 30 => ⟨S3x512x16x32x32, .f32⟩
  | 31 => ⟨S3x1x16x1x1, .f32⟩
  | 32 => ⟨S3x512x16x32x32, .f32⟩
  | 33 => ⟨S3x512x16x32x32, .f32⟩
  | 34 => ⟨S_, .f32⟩
  | 35 => ⟨S3x512x16x32x32, .f32⟩
  | 36 => ⟨S3x512x16x32x32, .i1⟩
  | 37 => ⟨S3x1x16x1x1, .f32⟩
  | 38 => ⟨S3x512x16x32x32, .f32⟩
  | 39 => ⟨S3x512x16x32x32, .f32⟩
  | 40 => ⟨S3x512x16x32x32, .f32⟩
  | 41 => ⟨S_, .f32⟩
  | 42 => ⟨S3x512x16x32x32, .f32⟩
  | 43 => ⟨S3x512x16x1x32x32, .f32⟩
  | 44 => ⟨S3x512x16x1x1x32x32, .f32⟩
  | 45 => ⟨S3x12x512x32x32, .f32⟩
  | 46 => ⟨S3x512x12x32x32, .f32⟩
  | 47 => ⟨S3x1x12x1x1, .f32⟩
  | 48 => ⟨S3x512x12x32x32, .f32⟩
  | 49 => ⟨S3x512x12x32x32, .f32⟩
  | 50 => ⟨S_, .f32⟩
  | 51 => ⟨S3x512x12x32x32, .f32⟩
  | 52 => ⟨S3x512x12x32x32, .i1⟩
  | 53 => ⟨S3x1x12x1x1, .f32⟩
  | 54 => ⟨S3x512x12x32x32, .f32⟩
  | 55 => ⟨S3x512x12x32x32, .f32⟩
  | 56 => ⟨S3x512x12x32x32, .f32⟩
  | 57 => ⟨S3x1x12x12x3x3, .f32⟩
  | 58 => ⟨S3x12x12x3x3, .f32⟩
  | 59 => ⟨S3x1x12, .f32⟩
  | 60 => ⟨S3x12, .f32⟩
  | 61 => ⟨S_, .f32⟩
  | 62 => ⟨S3x512x12x34x34, .f32⟩
  | 63 => ⟨S3x512x12x32x34, .f32⟩
  | 64 => ⟨S3x512x12x32x34, .f32⟩
  | 65 => ⟨S3x512x12x32x34, .f32⟩
  | 66 => ⟨S3x512x12x1x32x34, .f32⟩
  | 67 => ⟨S3x512x12x1x32x34, .f32⟩
  | 68 => ⟨S3x512x12x1x32x34, .f32⟩
  | 69 => ⟨S3x512x12x3x32x34, .f32⟩
  | 70 => ⟨S3x512x12x3x32x32, .f32⟩
  | 71 => ⟨S3x512x12x3x32x32, .f32⟩
  | 72 => ⟨S3x512x12x3x32x32, .f32⟩
  | 73 => ⟨S3x512x12x3x1x32x32, .f32⟩
  | 74 => ⟨S3x512x12x3x1x32x32, .f32⟩
  | 75 => ⟨S3x512x12x3x1x32x32, .f32⟩
  | 76 => ⟨S3x512x12x3x3x32x32, .f32⟩
  | 77 => ⟨S3x12x512x32x32, .f32⟩
  | 78 => ⟨S3x512x12x32x32, .f32⟩
  | 79 => ⟨S3x1x12x1x1, .f32⟩
  | 80 => ⟨S3x512x12x32x32, .f32⟩
  | 81 => ⟨S3x512x12x32x32, .f32⟩
  | 82 => ⟨S3x1x12, .f32⟩
  | 83 => ⟨S3x12, .f32⟩
  | 84 => ⟨S_, .f32⟩
  | 85 => ⟨S3x512x12x32x32, .f32⟩
  | 86 => ⟨S3x512x12x32x32, .i1⟩
  | 87 => ⟨S3x1x12x1x1, .f32⟩
  | 88 => ⟨S3x512x12x32x32, .f32⟩
  | 89 => ⟨S3x512x12x32x32, .f32⟩
  | 90 => ⟨S3x512x12x32x32, .f32⟩
  | 91 => ⟨S3x1x12x12x3x3, .f32⟩
  | 92 => ⟨S3x12x12x3x3, .f32⟩
  | 93 => ⟨S3x1x12, .f32⟩
  | 94 => ⟨S3x12, .f32⟩
  | 95 => ⟨S_, .f32⟩
  | 96 => ⟨S3x512x12x34x34, .f32⟩
  | 97 => ⟨S3x512x12x32x34, .f32⟩
  | 98 => ⟨S3x512x12x32x34, .f32⟩
  | 99 => ⟨S3x512x12x32x34, .f32⟩
  | 100 => ⟨S3x512x12x1x32x34, .f32⟩
  | 101 => ⟨S3x512x12x1x32x34, .f32⟩
  | 102 => ⟨S3x512x12x1x32x34, .f32⟩
  | 103 => ⟨S3x512x12x3x32x34, .f32⟩
  | 104 => ⟨S3x512x12x3x32x32, .f32⟩
  | 105 => ⟨S3x512x12x3x32x32, .f32⟩
  | 106 => ⟨S3x512x12x3x32x32, .f32⟩
  | 107 => ⟨S3x512x12x3x1x32x32, .f32⟩
  | 108 => ⟨S3x512x12x3x1x32x32, .f32⟩
  | 109 => ⟨S3x512x12x3x1x32x32, .f32⟩
  | 110 => ⟨S3x512x12x3x3x32x32, .f32⟩
  | 111 => ⟨S3x12x512x32x32, .f32⟩
  | 112 => ⟨S3x512x12x32x32, .f32⟩
  | 113 => ⟨S3x1x12x1x1, .f32⟩
  | 114 => ⟨S3x512x12x32x32, .f32⟩
  | 115 => ⟨S3x512x12x32x32, .f32⟩
  | 116 => ⟨S3x1x12, .f32⟩
  | 117 => ⟨S3x12, .f32⟩
  | 118 => ⟨S_, .f32⟩
  | 119 => ⟨S3x512x12x32x32, .f32⟩
  | 120 => ⟨S3x512x12x32x32, .i1⟩
  | 121 => ⟨S3x1x12x1x1, .f32⟩
  | 122 => ⟨S3x512x12x32x32, .f32⟩
  | 123 => ⟨S3x512x12x32x32, .f32⟩
  | 124 => ⟨S3x512x12x32x32, .f32⟩
  | 125 => ⟨S3x1x12x12x3x3, .f32⟩
  | 126 => ⟨S3x12x12x3x3, .f32⟩
  | 127 => ⟨S3x1x12, .f32⟩
  | _ => ⟨S512x3x32x32, .f32⟩

abbrev hbmTy0_2 (i : Nat) : BufTy := match i % 128 with
  | 0 => ⟨S3x12, .f32⟩
  | 1 => ⟨S_, .f32⟩
  | 2 => ⟨S3x512x12x34x34, .f32⟩
  | 3 => ⟨S3x512x12x32x34, .f32⟩
  | 4 => ⟨S3x512x12x32x34, .f32⟩
  | 5 => ⟨S3x512x12x32x34, .f32⟩
  | 6 => ⟨S3x512x12x1x32x34, .f32⟩
  | 7 => ⟨S3x512x12x1x32x34, .f32⟩
  | 8 => ⟨S3x512x12x1x32x34, .f32⟩
  | 9 => ⟨S3x512x12x3x32x34, .f32⟩
  | 10 => ⟨S3x512x12x3x32x32, .f32⟩
  | 11 => ⟨S3x512x12x3x32x32, .f32⟩
  | 12 => ⟨S3x512x12x3x32x32, .f32⟩
  | 13 => ⟨S3x512x12x3x1x32x32, .f32⟩
  | 14 => ⟨S3x512x12x3x1x32x32, .f32⟩
  | 15 => ⟨S3x512x12x3x1x32x32, .f32⟩
  | 16 => ⟨S3x512x12x3x3x32x32, .f32⟩
  | 17 => ⟨S3x12x512x32x32, .f32⟩
  | 18 => ⟨S3x512x12x32x32, .f32⟩
  | 19 => ⟨S3x1x12x1x1, .f32⟩
  | 20 => ⟨S3x512x12x32x32, .f32⟩
  | 21 => ⟨S3x512x12x32x32, .f32⟩
  | 22 => ⟨S3x1x12, .f32⟩
  | 23 => ⟨S3x12, .f32⟩
  | 24 => ⟨S_, .f32⟩
  | 25 => ⟨S3x512x12x32x32, .f32⟩
  | 26 => ⟨S3x512x12x32x32, .i1⟩
  | 27 => ⟨S3x1x12x1x1, .f32⟩
  | 28 => ⟨S3x512x12x32x32, .f32⟩
  | 29 => ⟨S3x512x12x32x32, .f32⟩
  | 30 => ⟨S3x512x12x32x32, .f32⟩
  | 31 => ⟨S_, .f32⟩
  | 32 => ⟨S3x512x12x32x32, .f32⟩
  | 33 => ⟨S3x512x12x1x32x32, .f32⟩
  | 34 => ⟨S3x512x12x1x1x32x32, .f32⟩
  | 35 => ⟨S3x16x512x32x32, .f32⟩
  | 36 => ⟨S3x512x16x32x32, .f32⟩
  | 37 => ⟨S3x1x16x1x1, .f32⟩
  | 38 => ⟨S3x512x16x32x32, .f32⟩
  | 39 => ⟨S3x512x16x32x32, .f32⟩
  | 40 => ⟨S_, .f32⟩
  | 41 => ⟨S3x512x16x32x32, .f32⟩
  | 42 => ⟨S3x512x16x32x32, .i1⟩
  | 43 => ⟨S3x1x16x1x1, .f32⟩
  | 44 => ⟨S3x512x16x32x32, .f32⟩
  | 45 => ⟨S3x512x16x32x32, .f32⟩
  | 46 => ⟨S3x512x16x32x32, .f32⟩
  | 47 => ⟨S_, .f32⟩
  | 48 => ⟨S3x512x16x136x136, .f32⟩
  | 49 => ⟨S3x512x16x128x136, .f32⟩
  | 50 => ⟨S3x512x16x128x136, .f32⟩
  | 51 => ⟨S3x512x16x128x136, .f32⟩
  | 52 => ⟨S3x512x16x128x136, .f32⟩
  | 53 => ⟨S3x512x16x128x136, .f32⟩
  | 54 => ⟨S3x512x16x128x136, .f32⟩
  | 55 => ⟨S3x512x16x128x136, .f32⟩
  | 56 => ⟨S3x512x16x128x136, .f32⟩
  | 57 => ⟨S3x512x16x128x136, .f32⟩
  | 58 => ⟨S3x512x16x1x128x136, .f32⟩
  | 59 => ⟨S3x512x16x1x128x136, .f32⟩
  | 60 => ⟨S3x512x16x1x128x136, .f32⟩
  | 61 => ⟨S3x512x16x1x128x136, .f32⟩
  | 62 => ⟨S3x512x16x1x128x136, .f32⟩
  | 63 => ⟨S3x512x16x1x128x136, .f32⟩
  | 64 => ⟨S3x512x16x1x128x136, .f32⟩
  | 65 => ⟨S3x512x16x1x128x136, .f32⟩
  | 66 => ⟨S3x512x16x1x128x136, .f32⟩
  | 67 => ⟨S3x512x16x9x128x136, .f32⟩
  | 68 => ⟨S3x512x16x9x128x128, .f32⟩
  | 69 => ⟨S3x512x16x9x128x128, .f32⟩
  | 70 => ⟨S3x512x16x9x128x128, .f32⟩
  | 71 => ⟨S3x512x16x9x128x128, .f32⟩
  | 72 => ⟨S3x512x16x9x128x128, .f32⟩
  | 73 => ⟨S3x512x16x9x128x128, .f32⟩
  | 74 => ⟨S3x512x16x9x128x128, .f32⟩
  | 75 => ⟨S3x512x16x9x128x128, .f32⟩
  | 76 => ⟨S3x512x16x9x128x128, .f32⟩
  | 77 => ⟨S3x512x16x9x1x128x128, .f32⟩
  | 78 => ⟨S3x512x16x9x1x128x128, .f32⟩
  | 79 => ⟨S3x512x16x9x1x128x128, .f32⟩
  | 80 => ⟨S3x512x16x9x1x128x128, .f32⟩
  | 81 => ⟨S3x512x16x9x1x128x128, .f32⟩
  | 82 => ⟨S3x512x16x9x1x128x128, .f32⟩
  | 83 => ⟨S3x512x16x9x1x128x128, .f32⟩
  | 84 => ⟨S3x512x16x9x1x128x128, .f32⟩
  | 85 => ⟨S3x512x16x9x1x128x128, .f32⟩
  | 86 => ⟨S3x512x16x9x9x128x128, .f32⟩
  | 87 => ⟨S3x3x512x128x128, .f32⟩
  | 88 => ⟨S3x512x3x128x128, .f32⟩
  | 89 => ⟨S3x1x3x1x1, .f32⟩
  | 90 => ⟨S3x512x3x128x128, .f32⟩
  | 91 => ⟨S3x512x3x128x128, .f32⟩
  | 92 => ⟨S512x1, .f32⟩
  | 93 => ⟨S512, .f32⟩
  | 94 => ⟨S512x1x1x1, .f32⟩
  | 95 => ⟨S1x512x3x128x128, .f32⟩
  | 96 => ⟨S512x3x128x128, .f32⟩
  | 97 => ⟨S512x3x128x128, .f32⟩
  | 98 => ⟨S512x3x128x128, .f32⟩
  | 99 => ⟨S_, .f32⟩
  | 100 => ⟨S512x3x128x128, .f32⟩
  | 101 => ⟨S512x3x128x128, .f32⟩
  | 102 => ⟨S512x1, .f32⟩
  | 103 => ⟨S512, .f32⟩
  | 104 => ⟨S512x1x1x1, .f32⟩
  | 105 => ⟨S1x512x3x128x128, .f32⟩
  | 106 => ⟨S512x3x128x128, .f32⟩
  | 107 => ⟨S512x3x128x128, .f32⟩
  | 108 => ⟨S512x3x128x128, .f32⟩
  | 109 => ⟨S512x3x128x128, .f32⟩
  | 110 => ⟨S512x1, .f32⟩
  | 111 => ⟨S512, .f32⟩
  | 112 => ⟨S512x1x1x1, .f32⟩
  | 113 => ⟨S1x512x3x128x128, .f32⟩
  | 114 => ⟨S512x3x128x128, .f32⟩
  | 115 => ⟨S512x3x128x128, .f32⟩
  | 116 => ⟨S512x3x128x128, .f32⟩
  | 117 => ⟨S512x3x128x128, .f32⟩
  | 118 => ⟨S512x3x32x4x32x4, .f32⟩
  | 119 => ⟨S512x3x4x4x32x32, .f32⟩
  | 120 => ⟨S512x48x1024, .f32⟩
  | 121 => ⟨S512x48x1024, .bf16⟩
  | _ => ⟨S512x3x32x32, .f32⟩

abbrev hbmTy (i : Nat) : BufTy := match i / 128 with
  | 0 => hbmTy0_0 i
  | 1 => hbmTy0_1 i
  | 2 => hbmTy0_2 i
  | _ => ⟨S512x3x32x32, .f32⟩

abbrev bufTy : (tb : Table) → Fin (tcTables nBuf tb) → BufTy
  | .hbm, ⟨i, _⟩ => hbmTy i
  | _, _ => ⟨S512x3x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_cst : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_cst_0 : Ref sig .tc := ⟨.hbm, 48, rfl⟩
abbrev main_call0_cst : Ref sig .tc := ⟨.hbm, 49, rfl⟩
abbrev main_call0_v0 : Ref sig .tc := ⟨.hbm, 50, rfl⟩
abbrev main_call0_v1 : Ref sig .tc := ⟨.hbm, 51, rfl⟩
abbrev main_call0_v2 : Ref sig .tc := ⟨.hbm, 52, rfl⟩
abbrev main_call0_v3 : Ref sig .tc := ⟨.hbm, 53, rfl⟩
abbrev main_call0_v4 : Ref sig .tc := ⟨.hbm, 54, rfl⟩
abbrev main_v24 : Ref sig .tc := ⟨.hbm, 55, rfl⟩
abbrev main_cst_1 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_cst_2 : Ref sig .tc := ⟨.hbm, 65, rfl⟩
abbrev main_call1_cst : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_v33 : Ref sig .tc := ⟨.hbm, 72, rfl⟩
abbrev main_cst_3 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_cst_4 : Ref sig .tc := ⟨.hbm, 82, rfl⟩
abbrev main_call2_cst : Ref sig .tc := ⟨.hbm, 83, rfl⟩
abbrev main_call2_v0 : Ref sig .tc := ⟨.hbm, 84, rfl⟩
abbrev main_call2_v1 : Ref sig .tc := ⟨.hbm, 85, rfl⟩
abbrev main_call2_v2 : Ref sig .tc := ⟨.hbm, 86, rfl⟩
abbrev main_call2_v3 : Ref sig .tc := ⟨.hbm, 87, rfl⟩
abbrev main_call2_v4 : Ref sig .tc := ⟨.hbm, 88, rfl⟩
abbrev main_v42 : Ref sig .tc := ⟨.hbm, 89, rfl⟩
abbrev main_cst_5 : Ref sig .tc := ⟨.hbm, 90, rfl⟩
abbrev main_v43 : Ref sig .tc := ⟨.hbm, 91, rfl⟩
abbrev main_cst_6 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_cst_7 : Ref sig .tc := ⟨.hbm, 100, rfl⟩
abbrev main_v51 : Ref sig .tc := ⟨.hbm, 101, rfl⟩
abbrev main_cst_8 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_cst_9 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_cst_10 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_c : Ref sig .tc := ⟨.hbm, 120, rfl⟩
abbrev main_call3_v0 : Ref sig .tc := ⟨.hbm, 121, rfl⟩
abbrev main_call3_v1 : Ref sig .tc := ⟨.hbm, 122, rfl⟩
abbrev main_call3_v2 : Ref sig .tc := ⟨.hbm, 123, rfl⟩
abbrev main_v67 : Ref sig .tc := ⟨.hbm, 124, rfl⟩
abbrev main_c_11 : Ref sig .tc := ⟨.hbm, 125, rfl⟩
abbrev main_v68 : Ref sig .tc := ⟨.hbm, 126, rfl⟩
abbrev main_call4_v0 : Ref sig .tc := ⟨.hbm, 127, rfl⟩
abbrev main_call4_v1 : Ref sig .tc := ⟨.hbm, 128, rfl⟩
abbrev main_call4_v2 : Ref sig .tc := ⟨.hbm, 129, rfl⟩
abbrev main_call4_v3 : Ref sig .tc := ⟨.hbm, 130, rfl⟩
abbrev main_call4_v4 : Ref sig .tc := ⟨.hbm, 131, rfl⟩
abbrev main_v69 : Ref sig .tc := ⟨.hbm, 132, rfl⟩
abbrev main_cst_12 : Ref sig .tc := ⟨.hbm, 133, rfl⟩
abbrev main_v70 : Ref sig .tc := ⟨.hbm, 134, rfl⟩
abbrev main_v71 : Ref sig .tc := ⟨.hbm, 135, rfl⟩
abbrev main_v72 : Ref sig .tc := ⟨.hbm, 136, rfl⟩
abbrev main_v73 : Ref sig .tc := ⟨.hbm, 137, rfl⟩
abbrev main_v74 : Ref sig .tc := ⟨.hbm, 138, rfl⟩
abbrev main_v75 : Ref sig .tc := ⟨.hbm, 139, rfl⟩
abbrev main_v76 : Ref sig .tc := ⟨.hbm, 140, rfl⟩
abbrev main_v77 : Ref sig .tc := ⟨.hbm, 141, rfl⟩
abbrev main_v78 : Ref sig .tc := ⟨.hbm, 142, rfl⟩
abbrev main_v79 : Ref sig .tc := ⟨.hbm, 143, rfl⟩
abbrev main_v80 : Ref sig .tc := ⟨.hbm, 144, rfl⟩
abbrev main_v81 : Ref sig .tc := ⟨.hbm, 145, rfl⟩
abbrev main_v82 : Ref sig .tc := ⟨.hbm, 146, rfl⟩
abbrev main_v83 : Ref sig .tc := ⟨.hbm, 147, rfl⟩
abbrev main_v84 : Ref sig .tc := ⟨.hbm, 148, rfl⟩
abbrev main_v85 : Ref sig .tc := ⟨.hbm, 149, rfl⟩
abbrev main_v86 : Ref sig .tc := ⟨.hbm, 150, rfl⟩
abbrev main_v87 : Ref sig .tc := ⟨.hbm, 151, rfl⟩
abbrev main_v88 : Ref sig .tc := ⟨.hbm, 152, rfl⟩
abbrev main_v89 : Ref sig .tc := ⟨.hbm, 153, rfl⟩
abbrev main_v90 : Ref sig .tc := ⟨.hbm, 154, rfl⟩
abbrev main_v91 : Ref sig .tc := ⟨.hbm, 155, rfl⟩
abbrev main_v92 : Ref sig .tc := ⟨.hbm, 156, rfl⟩
abbrev main_v93 : Ref sig .tc := ⟨.hbm, 157, rfl⟩
abbrev main_v94 : Ref sig .tc := ⟨.hbm, 158, rfl⟩
abbrev main_v95 : Ref sig .tc := ⟨.hbm, 159, rfl⟩
abbrev main_v96 : Ref sig .tc := ⟨.hbm, 160, rfl⟩
abbrev main_v97 : Ref sig .tc := ⟨.hbm, 161, rfl⟩
abbrev main_cst_13 : Ref sig .tc := ⟨.hbm, 162, rfl⟩
abbrev main_v98 : Ref sig .tc := ⟨.hbm, 163, rfl⟩
abbrev main_v99 : Ref sig .tc := ⟨.hbm, 164, rfl⟩
abbrev main_v100 : Ref sig .tc := ⟨.hbm, 165, rfl⟩
abbrev main_v101 : Ref sig .tc := ⟨.hbm, 166, rfl⟩
abbrev main_v102 : Ref sig .tc := ⟨.hbm, 167, rfl⟩
abbrev main_v103 : Ref sig .tc := ⟨.hbm, 168, rfl⟩
abbrev main_cst_14 : Ref sig .tc := ⟨.hbm, 169, rfl⟩
abbrev main_v104 : Ref sig .tc := ⟨.hbm, 170, rfl⟩
abbrev main_v105 : Ref sig .tc := ⟨.hbm, 171, rfl⟩
abbrev main_v106 : Ref sig .tc := ⟨.hbm, 172, rfl⟩
abbrev main_v107 : Ref sig .tc := ⟨.hbm, 173, rfl⟩
abbrev main_v108 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_cst_15 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_v115 : Ref sig .tc := ⟨.hbm, 182, rfl⟩
abbrev main_v116 : Ref sig .tc := ⟨.hbm, 183, rfl⟩
abbrev main_v117 : Ref sig .tc := ⟨.hbm, 184, rfl⟩
abbrev main_v118 : Ref sig .tc := ⟨.hbm, 185, rfl⟩
abbrev main_v119 : Ref sig .tc := ⟨.hbm, 186, rfl⟩
abbrev main_v120 : Ref sig .tc := ⟨.hbm, 187, rfl⟩
abbrev main_v121 : Ref sig .tc := ⟨.hbm, 188, rfl⟩
abbrev main_cst_16 : Ref sig .tc := ⟨.hbm, 189, rfl⟩
abbrev main_v122 : Ref sig .tc := ⟨.hbm, 190, rfl⟩
abbrev main_v123 : Ref sig .tc := ⟨.hbm, 191, rfl⟩
abbrev main_v124 : Ref sig .tc := ⟨.hbm, 192, rfl⟩
abbrev main_v125 : Ref sig .tc := ⟨.hbm, 193, rfl⟩
abbrev main_v126 : Ref sig .tc := ⟨.hbm, 194, rfl⟩
abbrev main_v127 : Ref sig .tc := ⟨.hbm, 195, rfl⟩
abbrev main_v128 : Ref sig .tc := ⟨.hbm, 196, rfl⟩
abbrev main_v129 : Ref sig .tc := ⟨.hbm, 197, rfl⟩
abbrev main_v130 : Ref sig .tc := ⟨.hbm, 198, rfl⟩
abbrev main_v131 : Ref sig .tc := ⟨.hbm, 199, rfl⟩
abbrev main_v132 : Ref sig .tc := ⟨.hbm, 200, rfl⟩
abbrev main_v133 : Ref sig .tc := ⟨.hbm, 201, rfl⟩
abbrev main_v134 : Ref sig .tc := ⟨.hbm, 202, rfl⟩
abbrev main_v135 : Ref sig .tc := ⟨.hbm, 203, rfl⟩
abbrev main_v136 : Ref sig .tc := ⟨.hbm, 204, rfl⟩
abbrev main_v137 : Ref sig .tc := ⟨.hbm, 205, rfl⟩
abbrev main_v138 : Ref sig .tc := ⟨.hbm, 206, rfl⟩
abbrev main_v139 : Ref sig .tc := ⟨.hbm, 207, rfl⟩
abbrev main_v140 : Ref sig .tc := ⟨.hbm, 208, rfl⟩
abbrev main_v141 : Ref sig .tc := ⟨.hbm, 209, rfl⟩
abbrev main_v142 : Ref sig .tc := ⟨.hbm, 210, rfl⟩
abbrev main_v143 : Ref sig .tc := ⟨.hbm, 211, rfl⟩
abbrev main_cst_17 : Ref sig .tc := ⟨.hbm, 212, rfl⟩
abbrev main_v144 : Ref sig .tc := ⟨.hbm, 213, rfl⟩
abbrev main_v145 : Ref sig .tc := ⟨.hbm, 214, rfl⟩
abbrev main_v146 : Ref sig .tc := ⟨.hbm, 215, rfl⟩
abbrev main_v147 : Ref sig .tc := ⟨.hbm, 216, rfl⟩
abbrev main_v148 : Ref sig .tc := ⟨.hbm, 217, rfl⟩
abbrev main_v149 : Ref sig .tc := ⟨.hbm, 218, rfl⟩
abbrev main_v150 : Ref sig .tc := ⟨.hbm, 219, rfl⟩
abbrev main_v151 : Ref sig .tc := ⟨.hbm, 220, rfl⟩
abbrev main_v152 : Ref sig .tc := ⟨.hbm, 221, rfl⟩
abbrev main_v153 : Ref sig .tc := ⟨.hbm, 222, rfl⟩
abbrev main_cst_18 : Ref sig .tc := ⟨.hbm, 223, rfl⟩
abbrev main_v154 : Ref sig .tc := ⟨.hbm, 224, rfl⟩
abbrev main_v155 : Ref sig .tc := ⟨.hbm, 225, rfl⟩
abbrev main_v156 : Ref sig .tc := ⟨.hbm, 226, rfl⟩
abbrev main_v157 : Ref sig .tc := ⟨.hbm, 227, rfl⟩
abbrev main_v158 : Ref sig .tc := ⟨.hbm, 228, rfl⟩
abbrev main_v159 : Ref sig .tc := ⟨.hbm, 229, rfl⟩
abbrev main_v160 : Ref sig .tc := ⟨.hbm, 230, rfl⟩
abbrev main_v161 : Ref sig .tc := ⟨.hbm, 231, rfl⟩
abbrev main_v162 : Ref sig .tc := ⟨.hbm, 232, rfl⟩
abbrev main_v163 : Ref sig .tc := ⟨.hbm, 233, rfl⟩
abbrev main_v164 : Ref sig .tc := ⟨.hbm, 234, rfl⟩
abbrev main_v165 : Ref sig .tc := ⟨.hbm, 235, rfl⟩
abbrev main_v166 : Ref sig .tc := ⟨.hbm, 236, rfl⟩
abbrev main_v167 : Ref sig .tc := ⟨.hbm, 237, rfl⟩
abbrev main_v168 : Ref sig .tc := ⟨.hbm, 238, rfl⟩
abbrev main_v169 : Ref sig .tc := ⟨.hbm, 239, rfl⟩
abbrev main_v170 : Ref sig .tc := ⟨.hbm, 240, rfl⟩
abbrev main_v171 : Ref sig .tc := ⟨.hbm, 241, rfl⟩
abbrev main_v172 : Ref sig .tc := ⟨.hbm, 242, rfl⟩
abbrev main_v173 : Ref sig .tc := ⟨.hbm, 243, rfl⟩
abbrev main_v174 : Ref sig .tc := ⟨.hbm, 244, rfl⟩
abbrev main_v175 : Ref sig .tc := ⟨.hbm, 245, rfl⟩
abbrev main_cst_19 : Ref sig .tc := ⟨.hbm, 246, rfl⟩
abbrev main_v176 : Ref sig .tc := ⟨.hbm, 247, rfl⟩
abbrev main_v177 : Ref sig .tc := ⟨.hbm, 248, rfl⟩
abbrev main_v178 : Ref sig .tc := ⟨.hbm, 249, rfl⟩
abbrev main_v179 : Ref sig .tc := ⟨.hbm, 250, rfl⟩
abbrev main_v180 : Ref sig .tc := ⟨.hbm, 251, rfl⟩
abbrev main_v181 : Ref sig .tc := ⟨.hbm, 252, rfl⟩
abbrev main_v182 : Ref sig .tc := ⟨.hbm, 253, rfl⟩
abbrev main_v183 : Ref sig .tc := ⟨.hbm, 254, rfl⟩
abbrev main_v184 : Ref sig .tc := ⟨.hbm, 255, rfl⟩
abbrev main_v185 : Ref sig .tc := ⟨.hbm, 256, rfl⟩
abbrev main_cst_20 : Ref sig .tc := ⟨.hbm, 257, rfl⟩
abbrev main_v186 : Ref sig .tc := ⟨.hbm, 258, rfl⟩
abbrev main_v187 : Ref sig .tc := ⟨.hbm, 259, rfl⟩
abbrev main_v188 : Ref sig .tc := ⟨.hbm, 260, rfl⟩
abbrev main_v189 : Ref sig .tc := ⟨.hbm, 261, rfl⟩
abbrev main_v190 : Ref sig .tc := ⟨.hbm, 262, rfl⟩
abbrev main_v191 : Ref sig .tc := ⟨.hbm, 263, rfl⟩
abbrev main_v192 : Ref sig .tc := ⟨.hbm, 264, rfl⟩
abbrev main_v193 : Ref sig .tc := ⟨.hbm, 265, rfl⟩
abbrev main_v194 : Ref sig .tc := ⟨.hbm, 266, rfl⟩
abbrev main_v195 : Ref sig .tc := ⟨.hbm, 267, rfl⟩
abbrev main_v196 : Ref sig .tc := ⟨.hbm, 268, rfl⟩
abbrev main_v197 : Ref sig .tc := ⟨.hbm, 269, rfl⟩
abbrev main_v198 : Ref sig .tc := ⟨.hbm, 270, rfl⟩
abbrev main_v199 : Ref sig .tc := ⟨.hbm, 271, rfl⟩
abbrev main_v200 : Ref sig .tc := ⟨.hbm, 272, rfl⟩
abbrev main_v201 : Ref sig .tc := ⟨.hbm, 273, rfl⟩
abbrev main_v202 : Ref sig .tc := ⟨.hbm, 274, rfl⟩
abbrev main_v203 : Ref sig .tc := ⟨.hbm, 275, rfl⟩
abbrev main_v204 : Ref sig .tc := ⟨.hbm, 276, rfl⟩
abbrev main_v205 : Ref sig .tc := ⟨.hbm, 277, rfl⟩
abbrev main_v206 : Ref sig .tc := ⟨.hbm, 278, rfl⟩
abbrev main_v207 : Ref sig .tc := ⟨.hbm, 279, rfl⟩
abbrev main_cst_21 : Ref sig .tc := ⟨.hbm, 280, rfl⟩
abbrev main_v208 : Ref sig .tc := ⟨.hbm, 281, rfl⟩
abbrev main_v209 : Ref sig .tc := ⟨.hbm, 282, rfl⟩
abbrev main_v210 : Ref sig .tc := ⟨.hbm, 283, rfl⟩
abbrev main_v211 : Ref sig .tc := ⟨.hbm, 284, rfl⟩
abbrev main_v212 : Ref sig .tc := ⟨.hbm, 285, rfl⟩
abbrev main_v213 : Ref sig .tc := ⟨.hbm, 286, rfl⟩
abbrev main_cst_22 : Ref sig .tc := ⟨.hbm, 287, rfl⟩
abbrev main_v214 : Ref sig .tc := ⟨.hbm, 288, rfl⟩
abbrev main_v215 : Ref sig .tc := ⟨.hbm, 289, rfl⟩
abbrev main_v216 : Ref sig .tc := ⟨.hbm, 290, rfl⟩
abbrev main_v217 : Ref sig .tc := ⟨.hbm, 291, rfl⟩
abbrev main_v218 : Ref sig .tc := ⟨.hbm, 292, rfl⟩
abbrev main_v219 : Ref sig .tc := ⟨.hbm, 293, rfl⟩
abbrev main_v220 : Ref sig .tc := ⟨.hbm, 294, rfl⟩
abbrev main_v221 : Ref sig .tc := ⟨.hbm, 295, rfl⟩
abbrev main_cst_23 : Ref sig .tc := ⟨.hbm, 296, rfl⟩
abbrev main_v222 : Ref sig .tc := ⟨.hbm, 297, rfl⟩
abbrev main_v223 : Ref sig .tc := ⟨.hbm, 298, rfl⟩
abbrev main_v224 : Ref sig .tc := ⟨.hbm, 299, rfl⟩
abbrev main_v225 : Ref sig .tc := ⟨.hbm, 300, rfl⟩
abbrev main_v226 : Ref sig .tc := ⟨.hbm, 301, rfl⟩
abbrev main_v227 : Ref sig .tc := ⟨.hbm, 302, rfl⟩
abbrev main_cst_24 : Ref sig .tc := ⟨.hbm, 303, rfl⟩
abbrev main_v228 : Ref sig .tc := ⟨.hbm, 304, rfl⟩
abbrev main_v229 : Ref sig .tc := ⟨.hbm, 305, rfl⟩
abbrev main_v230 : Ref sig .tc := ⟨.hbm, 306, rfl⟩
abbrev main_v231 : Ref sig .tc := ⟨.hbm, 307, rfl⟩
abbrev main_v232 : Ref sig .tc := ⟨.hbm, 308, rfl⟩
abbrev main_v233 : Ref sig .tc := ⟨.hbm, 309, rfl⟩
abbrev main_v234 : Ref sig .tc := ⟨.hbm, 310, rfl⟩
abbrev main_v235 : Ref sig .tc := ⟨.hbm, 311, rfl⟩
abbrev main_v236 : Ref sig .tc := ⟨.hbm, 312, rfl⟩
abbrev main_v237 : Ref sig .tc := ⟨.hbm, 313, rfl⟩
abbrev main_v238 : Ref sig .tc := ⟨.hbm, 314, rfl⟩
abbrev main_v239 : Ref sig .tc := ⟨.hbm, 315, rfl⟩
abbrev main_v240 : Ref sig .tc := ⟨.hbm, 316, rfl⟩
abbrev main_v241 : Ref sig .tc := ⟨.hbm, 317, rfl⟩
abbrev main_v242 : Ref sig .tc := ⟨.hbm, 318, rfl⟩
abbrev main_v243 : Ref sig .tc := ⟨.hbm, 319, rfl⟩
abbrev main_v244 : Ref sig .tc := ⟨.hbm, 320, rfl⟩
abbrev main_v245 : Ref sig .tc := ⟨.hbm, 321, rfl⟩
abbrev main_v246 : Ref sig .tc := ⟨.hbm, 322, rfl⟩
abbrev main_v247 : Ref sig .tc := ⟨.hbm, 323, rfl⟩
abbrev main_v248 : Ref sig .tc := ⟨.hbm, 324, rfl⟩
abbrev main_v249 : Ref sig .tc := ⟨.hbm, 325, rfl⟩
abbrev main_v250 : Ref sig .tc := ⟨.hbm, 326, rfl⟩
abbrev main_v251 : Ref sig .tc := ⟨.hbm, 327, rfl⟩
abbrev main_v252 : Ref sig .tc := ⟨.hbm, 328, rfl⟩
abbrev main_v253 : Ref sig .tc := ⟨.hbm, 329, rfl⟩
abbrev main_v254 : Ref sig .tc := ⟨.hbm, 330, rfl⟩
abbrev main_v255 : Ref sig .tc := ⟨.hbm, 331, rfl⟩
abbrev main_v256 : Ref sig .tc := ⟨.hbm, 332, rfl⟩
abbrev main_v257 : Ref sig .tc := ⟨.hbm, 333, rfl⟩
abbrev main_v258 : Ref sig .tc := ⟨.hbm, 334, rfl⟩
abbrev main_v259 : Ref sig .tc := ⟨.hbm, 335, rfl⟩
abbrev main_v260 : Ref sig .tc := ⟨.hbm, 336, rfl⟩
abbrev main_v261 : Ref sig .tc := ⟨.hbm, 337, rfl⟩
abbrev main_v262 : Ref sig .tc := ⟨.hbm, 338, rfl⟩
abbrev main_v263 : Ref sig .tc := ⟨.hbm, 339, rfl⟩
abbrev main_v264 : Ref sig .tc := ⟨.hbm, 340, rfl⟩
abbrev main_v265 : Ref sig .tc := ⟨.hbm, 341, rfl⟩
abbrev main_v266 : Ref sig .tc := ⟨.hbm, 342, rfl⟩
abbrev main_v267 : Ref sig .tc := ⟨.hbm, 343, rfl⟩
abbrev main_v268 : Ref sig .tc := ⟨.hbm, 344, rfl⟩
abbrev main_v269 : Ref sig .tc := ⟨.hbm, 345, rfl⟩
abbrev main_v270 : Ref sig .tc := ⟨.hbm, 346, rfl⟩
abbrev main_v271 : Ref sig .tc := ⟨.hbm, 347, rfl⟩
abbrev main_v272 : Ref sig .tc := ⟨.hbm, 348, rfl⟩
abbrev main_v273 : Ref sig .tc := ⟨.hbm, 349, rfl⟩
abbrev main_v274 : Ref sig .tc := ⟨.hbm, 350, rfl⟩
abbrev main_v275 : Ref sig .tc := ⟨.hbm, 351, rfl⟩
abbrev main_v276 : Ref sig .tc := ⟨.hbm, 352, rfl⟩
abbrev main_v277 : Ref sig .tc := ⟨.hbm, 353, rfl⟩
abbrev main_v278 : Ref sig .tc := ⟨.hbm, 354, rfl⟩
abbrev main_cst_25 : Ref sig .tc := ⟨.hbm, 355, rfl⟩
abbrev main_v279 : Ref sig .tc := ⟨.hbm, 356, rfl⟩
abbrev main_v280 : Ref sig .tc := ⟨.hbm, 357, rfl⟩
abbrev main_v281 : Ref sig .tc := ⟨.hbm, 358, rfl⟩
abbrev main_v282 : Ref sig .tc := ⟨.hbm, 359, rfl⟩
abbrev main_v283 : Ref sig .tc := ⟨.hbm, 360, rfl⟩
abbrev main_v284 : Ref sig .tc := ⟨.hbm, 361, rfl⟩
abbrev main_v285 : Ref sig .tc := ⟨.hbm, 362, rfl⟩
abbrev main_v286 : Ref sig .tc := ⟨.hbm, 363, rfl⟩
abbrev main_v287 : Ref sig .tc := ⟨.hbm, 364, rfl⟩
abbrev main_v288 : Ref sig .tc := ⟨.hbm, 365, rfl⟩
abbrev main_v289 : Ref sig .tc := ⟨.hbm, 366, rfl⟩
abbrev main_v290 : Ref sig .tc := ⟨.hbm, 367, rfl⟩
abbrev main_v291 : Ref sig .tc := ⟨.hbm, 368, rfl⟩
abbrev main_v292 : Ref sig .tc := ⟨.hbm, 369, rfl⟩
abbrev main_v293 : Ref sig .tc := ⟨.hbm, 370, rfl⟩
abbrev main_v294 : Ref sig .tc := ⟨.hbm, 371, rfl⟩
abbrev main_v295 : Ref sig .tc := ⟨.hbm, 372, rfl⟩
abbrev main_v296 : Ref sig .tc := ⟨.hbm, 373, rfl⟩
abbrev main_v297 : Ref sig .tc := ⟨.hbm, 374, rfl⟩
abbrev main_v298 : Ref sig .tc := ⟨.hbm, 375, rfl⟩
abbrev main_v299 : Ref sig .tc := ⟨.hbm, 376, rfl⟩
abbrev main_v300 : Ref sig .tc := ⟨.hbm, 377, rfl⟩

abbrev nD : Nat := 1
abbrev τ : Topo := Topo.v7x

variable {F : FTy → Type} [FloatOps F]
-- ==== Proof.IdealFrame.lean ====
/- The frame of the kernel read at extended reals: what every grid point leaves in the output's block, the body's
   triple, the run and the unchanged arguments. It is the generated frame with a larger budget for the step that
   restates the body's triple. -/
module

public import proofs.«01_k».proof.Proof.Gen.KernelIdeal.Frame.RunA
public import Idealize.ShloMosaic.Lib.Claim

@[expose] public section

-- membership in a rectangle of production extents (`View.cover_of_tiled`): the elaborator's structural look
-- recurses once per coordinate of the long axes
set_option maxRecDepth 16384

noncomputable section

namespace Cert.KernelIdeal.Whole

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The four stores of the body, one image each, together cover the output's block. -/
theorem cover0_A_24 (c : Dev nD) (i : grid0.Coords) (arg1 : Memref sig .tc .vmem S3x4096 .f32) (harg1 : arg1.IsWhole) (arg2 : Memref sig .tc .vmem S4x64x48 .f32) (harg2 : arg2.IsWhole) (arg3 : Memref sig .tc .vmem S48x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x3 .f32) (harg9 : arg9.IsWhole) (arg10 : Memref sig .tc .vmem S1x3 .f32) (harg10 : arg10.IsWhole) (arg11 : Memref sig .tc .vmem S3x16x200 .f32) (harg11 : arg11.IsWhole) (arg12 : Memref sig .tc .vmem S3x16x1 .f32) (harg12 : arg12.IsWhole) (arg13 : Memref sig .tc .vmem S3x16x1 .f32) (harg13 : arg13.IsWhole) (arg14 : Memref sig .tc .vmem S3x16x16 .f32) (harg14 : arg14.IsWhole) (arg15 : Memref sig .tc .vmem S3x16x1 .f32) (harg15 : arg15.IsWhole) (arg16 : Memref sig .tc .vmem S3x16x1 .f32) (harg16 : arg16.IsWhole) (arg17 : Memref sig .tc .vmem S3x3x16x144 .f32) (harg17 : arg17.IsWhole) (arg18 : Memref sig .tc .vmem S3x3x16x1 .f32) (harg18 : arg18.IsWhole) (arg19 : Memref sig .tc .vmem S3x3x16x1 .f32) (harg19 : arg19.IsWhole) (arg20 : Memref sig .tc .vmem S3x16x16 .f32) (harg20 : arg20.IsWhole) (arg21 : Memref sig .tc .vmem S3x16x1 .f32) (harg21 : arg21.IsWhole) (arg22 : Memref sig .tc .vmem S3x16x1 .f32) (harg22 : arg22.IsWhole) (arg23 : Memref sig .tc .vmem S3x48x144 .f32) (harg23 : arg23.IsWhole) (arg24 : Memref sig .tc .vmem S3x48x1 .f32) (harg24 : arg24.IsWhole) (arg25 : Memref sig .tc .vmem S4x48x1024 .bf16) (harg25 : arg25.IsWhole) (arg26 : Memref sig .tc .vmem S200x4096 .f32) (harg26 : arg26.IsWhole) (arg27 : Memref sig .tc .vmem S144x4096 .f32) (harg27 : arg27.IsWhole)
    (x0 : Vec F S3x4096 .f32) (x1 : Vec F S4x64x48 .f32) (x2 : Vec F S48x128 .f32) (x3 : Vec F S1x128 .f32) (x4 : Vec F S128x128 .f32) (x5 : Vec F S1x128 .f32) (x6 : Vec F S128x128 .f32) (x7 : Vec F S1x128 .f32) (x8 : Vec F S128x3 .f32) (x9 : Vec F S1x3 .f32) (x10 : Vec F S3x16x200 .f32) (x11 : Vec F S3x16x1 .f32) (x12 : Vec F S3x16x1 .f32) (x13 : Vec F S3x16x16 .f32) (x14 : Vec F S3x16x1 .f32) (x15 : Vec F S3x16x1 .f32) (x16 : Vec F S3x3x16x144 .f32) (x17 : Vec F S3x3x16x1 .f32) (x18 : Vec F S3x3x16x1 .f32) (x19 : Vec F S3x16x16 .f32) (x20 : Vec F S3x16x1 .f32) (x21 : Vec F S3x16x1 .f32) (x22 : Vec F S3x48x144 .f32) (x23 : Vec F S3x48x1 .f32) (y : S4x48x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 x18 x19 x20 x21 x22 x23).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 x18 x19 x20 x21 x22 x23).1 S1x48x1024.size (by sl_kernel_rfl) y

/-- What the run leaves in output 24's staging buffer: its pieces read back over junk. -/
def out0_A_24 (c : Dev nD) (i : grid0.Coords) (arg1 : Memref sig .tc .vmem S3x4096 .f32) (harg1 : arg1.IsWhole) (arg2 : Memref sig .tc .vmem S4x64x48 .f32) (harg2 : arg2.IsWhole) (arg3 : Memref sig .tc .vmem S48x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x3 .f32) (harg9 : arg9.IsWhole) (arg10 : Memref sig .tc .vmem S1x3 .f32) (harg10 : arg10.IsWhole) (arg11 : Memref sig .tc .vmem S3x16x200 .f32) (harg11 : arg11.IsWhole) (arg12 : Memref sig .tc .vmem S3x16x1 .f32) (harg12 : arg12.IsWhole) (arg13 : Memref sig .tc .vmem S3x16x1 .f32) (harg13 : arg13.IsWhole) (arg14 : Memref sig .tc .vmem S3x16x16 .f32) (harg14 : arg14.IsWhole) (arg15 : Memref sig .tc .vmem S3x16x1 .f32) (harg15 : arg15.IsWhole) (arg16 : Memref sig .tc .vmem S3x16x1 .f32) (harg16 : arg16.IsWhole) (arg17 : Memref sig .tc .vmem S3x3x16x144 .f32) (harg17 : arg17.IsWhole) (arg18 : Memref sig .tc .vmem S3x3x16x1 .f32) (harg18 : arg18.IsWhole) (arg19 : Memref sig .tc .vmem S3x3x16x1 .f32) (harg19 : arg19.IsWhole) (arg20 : Memref sig .tc .vmem S3x16x16 .f32) (harg20 : arg20.IsWhole) (arg21 : Memref sig .tc .vmem S3x16x1 .f32) (harg21 : arg21.IsWhole) (arg22 : Memref sig .tc .vmem S3x16x1 .f32) (harg22 : arg22.IsWhole) (arg23 : Memref sig .tc .vmem S3x48x144 .f32) (harg23 : arg23.IsWhole) (arg24 : Memref sig .tc .vmem S3x48x1 .f32) (harg24 : arg24.IsWhole) (arg25 : Memref sig .tc .vmem S4x48x1024 .bf16) (harg25 : arg25.IsWhole) (arg26 : Memref sig .tc .vmem S200x4096 .f32) (harg26 : arg26.IsWhole) (arg27 : Memref sig .tc .vmem S144x4096 .f32) (harg27 : arg27.IsWhole)
    (x0 : Vec F S3x4096 .f32) (x1 : Vec F S4x64x48 .f32) (x2 : Vec F S48x128 .f32) (x3 : Vec F S1x128 .f32) (x4 : Vec F S128x128 .f32) (x5 : Vec F S1x128 .f32) (x6 : Vec F S128x128 .f32) (x7 : Vec F S1x128 .f32) (x8 : Vec F S128x3 .f32) (x9 : Vec F S1x3 .f32) (x10 : Vec F S3x16x200 .f32) (x11 : Vec F S3x16x1 .f32) (x12 : Vec F S3x16x1 .f32) (x13 : Vec F S3x16x16 .f32) (x14 : Vec F S3x16x1 .f32) (x15 : Vec F S3x16x1 .f32) (x16 : Vec F S3x3x16x144 .f32) (x17 : Vec F S3x3x16x1 .f32) (x18 : Vec F S3x3x16x1 .f32) (x19 : Vec F S3x16x16 .f32) (x20 : Vec F S3x16x1 .f32) (x21 : Vec F S3x16x1 .f32) (x22 : Vec F S3x48x144 .f32) (x23 : Vec F S3x48x1 .f32) : Vec F S4x48x1024 .bf16 :=
  VO0_24.read (Elt F) (VO0_24.writes (Elt F) VO0_24.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 x18 x19 x20 x21 x22 x23).1)

/-! ## What the outputs hold after each point -/

/-- What the outputs' staging buffers hold after the body at point `t`: the run's contents at
    the point's memrefs and input blocks. -/
def outsAt0 (c : Dev nD) (t : Fin cfg0.N) : Vec F S4x48x1024 .bf16 :=
  out0_A_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)

/-! ## The pipeline's proof data -/

/-- The proof data of the one pipeline on core `c`: the arrays as the pipeline finds them (`V`), and after the body at
    point `t` each input's buffer at its block and the output's at `outsAt0`. Nothing is owed, and all shares are full. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => (outsAt0 m c t)
    | ⟨_ + 25, h⟩ => absurd h (Nat.not_lt.2 (Nat.le_add_left _ _))
  Φ _ := Pipeline.ΦA spec0 c
  q _ := fullShare
  owed _ := 0

/-- The arrays of the proof data are the contents with which the pipeline starts. -/
theorem A_eq (c : Dev nD) (w : Fin cfg0.W) : (dats m 0 c).A w = V m c (Pipeline.arrRef spec0 w) := by
  dsimp only [dats]

/-- What the body leaves, window by window: an input's block is as it was. -/
theorem after0_0 (c : Dev nD) (t : Fin cfg0.N) : (dats m 0 c).after 0 t = iblk m c 0 t := by dsimp only [dats]
/-- What the body leaves in window 1. -/
theorem after0_1 (c : Dev nD) (t : Fin cfg0.N) : (dats m 0 c).after 1 t = iblk m c 1 t := by dsimp only [dats]
/-- What the body leaves in window 2. -/
theorem after0_2 (c : Dev nD) (t : Fin cfg0.N) : (dats m 0 c).after 2 t = iblk m c 2 t := by dsimp only [dats]
/-- What the body leaves in window 3. -/
theorem after0_3 (c : Dev nD) (t : Fin cfg0.N) : (dats m 0 c).after 3 t = iblk m c 3 t := by dsimp only [dats]
/-- What the body leaves in window 4. -/
theorem after0_4 (c : Dev nD) (t : Fin cfg0.N) : (dats m 0 c).after 4 t = iblk m c 4 t := by dsimp only [dats]
/-- What the body leaves in window 5. -/
theorem after0_5 (c : Dev nD) (t : Fin cfg0.N) : (dats m 0 c).after 5 t = iblk m c 5 t := by dsimp only [dats]
/-- What the body leaves in window 6. -/
theorem after0_6 (c : Dev nD) (t : Fin cfg0.N) : (dats m 0 c).after 6 t = iblk m c 6 t := by dsimp only [dats]
/-- What the body leaves in window 7. -/
theorem after0_7 (c : Dev nD) (t : Fin cfg0.N) : (dats m 0 c).after 7 t = iblk m c 7 t := by dsimp only [dats]
/-- What the body leaves in window 8. -/
theorem after0_8 (c : Dev nD) (t : Fin cfg0.N) : (dats m 0 c).after 8 t = iblk m c 8 t := by dsimp only [dats]
/-- What the body leaves in window 9. -/
theorem after0_9 (c : Dev nD) (t : Fin cfg0.N) : (dats m 0 c).after 9 t = iblk m c 9 t := by dsimp only [dats]
/-- What the body leaves in window 10. -/
theorem after0_10 (c : Dev nD) (t : Fin cfg0.N) : (dats m 0 c).after 10 t = iblk m c 10 t := by dsimp only [dats]
/-- What the body leaves in window 11. -/
theorem after0_11 (c : Dev nD) (t : Fin cfg0.N) : (dats m 0 c).after 11 t = iblk m c 11 t := by dsimp only [dats]
/-- What the body leaves in window 12. -/
theorem after0_12 (c : Dev nD) (t : Fin cfg0.N) : (dats m 0 c).after 12 t = iblk m c 12 t := by dsimp only [dats]
/-- What the body leaves in window 13. -/
theorem after0_13 (c : Dev nD) (t : Fin cfg0.N) : (dats m 0 c).after 13 t = iblk m c 13 t := by dsimp only [dats]
/-- What the body leaves in window 14. -/
theorem after0_14 (c : Dev nD) (t : Fin cfg0.N) : (dats m 0 c).after 14 t = iblk m c 14 t := by dsimp only [dats]
/-- What the body leaves in window 15. -/
theorem after0_15 (c : Dev nD) (t : Fin cfg0.N) : (dats m 0 c).after 15 t = iblk m c 15 t := by dsimp only [dats]
/-- What the body leaves in window 16. -/
theorem after0_16 (c : Dev nD) (t : Fin cfg0.N) : (dats m 0 c).after 16 t = iblk m c 16 t := by dsimp only [dats]
/-- What the body leaves in window 17. -/
theorem after0_17 (c : Dev nD) (t : Fin cfg0.N) : (dats m 0 c).after 17 t = iblk m c 17 t := by dsimp only [dats]
/-- What the body leaves in window 18. -/
theorem after0_18 (c : Dev nD) (t : Fin cfg0.N) : (dats m 0 c).after 18 t = iblk m c 18 t := by dsimp only [dats]
/-- What the body leaves in window 19. -/
theorem after0_19 (c : Dev nD) (t : Fin cfg0.N) : (dats m 0 c).after 19 t = iblk m c 19 t := by dsimp only [dats]
/-- What the body leaves in window 20. -/
theorem after0_20 (c : Dev nD) (t : Fin cfg0.N) : (dats m 0 c).after 20 t = iblk m c 20 t := by dsimp only [dats]
/-- What the body leaves in window 21. -/
theorem after0_21 (c : Dev nD) (t : Fin cfg0.N) : (dats m 0 c).after 21 t = iblk m c 21 t := by dsimp only [dats]
/-- What the body leaves in window 22. -/
theorem after0_22 (c : Dev nD) (t : Fin cfg0.N) : (dats m 0 c).after 22 t = iblk m c 22 t := by dsimp only [dats]
/-- What the body leaves in window 23. -/
theorem after0_23 (c : Dev nD) (t : Fin cfg0.N) : (dats m 0 c).after 23 t = iblk m c 23 t := by dsimp only [dats]
/-- What the body leaves in window 24. -/
theorem after0_24 (c : Dev nD) (t : Fin cfg0.N) : (dats m 0 c).after 24 t = (outsAt0 m c t) := by dsimp only [dats]

/-- Each input's current staging buffer holds its block at every point, whether it was fetched there or before. -/
theorem before0_0 (c : Dev nD) (t : Fin cfg0.N) (d) : (dats m 0 c).before 0 t d = iblk m c 0 t :=
  before0_0_of m (dats m 0 c) (A_eq m c 0) (after0_0 m c) t d
/-- What window 1 holds when the body starts: the block of the point. -/
theorem before0_1 (c : Dev nD) (t : Fin cfg0.N) (d) : (dats m 0 c).before 1 t d = iblk m c 1 t :=
  before0_1_of m (dats m 0 c) (A_eq m c 1) (after0_1 m c) t d
/-- What window 2 holds when the body starts: the block of the point. -/
theorem before0_2 (c : Dev nD) (t : Fin cfg0.N) (d) : (dats m 0 c).before 2 t d = iblk m c 2 t :=
  before0_2_of m (dats m 0 c) (A_eq m c 2) (after0_2 m c) t d
/-- What window 3 holds when the body starts: the block of the point. -/
theorem before0_3 (c : Dev nD) (t : Fin cfg0.N) (d) : (dats m 0 c).before 3 t d = iblk m c 3 t :=
  before0_3_of m (dats m 0 c) (A_eq m c 3) (after0_3 m c) t d
/-- What window 4 holds when the body starts: the block of the point. -/
theorem before0_4 (c : Dev nD) (t : Fin cfg0.N) (d) : (dats m 0 c).before 4 t d = iblk m c 4 t :=
  before0_4_of m (dats m 0 c) (A_eq m c 4) (after0_4 m c) t d
/-- What window 5 holds when the body starts: the block of the point. -/
theorem before0_5 (c : Dev nD) (t : Fin cfg0.N) (d) : (dats m 0 c).before 5 t d = iblk m c 5 t :=
  before0_5_of m (dats m 0 c) (A_eq m c 5) (after0_5 m c) t d
/-- What window 6 holds when the body starts: the block of the point. -/
theorem before0_6 (c : Dev nD) (t : Fin cfg0.N) (d) : (dats m 0 c).before 6 t d = iblk m c 6 t :=
  before0_6_of m (dats m 0 c) (A_eq m c 6) (after0_6 m c) t d
/-- What window 7 holds when the body starts: the block of the point. -/
theorem before0_7 (c : Dev nD) (t : Fin cfg0.N) (d) : (dats m 0 c).before 7 t d = iblk m c 7 t :=
  before0_7_of m (dats m 0 c) (A_eq m c 7) (after0_7 m c) t d
/-- What window 8 holds when the body starts: the block of the point. -/
theorem before0_8 (c : Dev nD) (t : Fin cfg0.N) (d) : (dats m 0 c).before 8 t d = iblk m c 8 t :=
  before0_8_of m (dats m 0 c) (A_eq m c 8) (after0_8 m c) t d
/-- What window 9 holds when the body starts: the block of the point. -/
theorem before0_9 (c : Dev nD) (t : Fin cfg0.N) (d) : (dats m 0 c).before 9 t d = iblk m c 9 t :=
  before0_9_of m (dats m 0 c) (A_eq m c 9) (after0_9 m c) t d
/-- What window 10 holds when the body starts: the block of the point. -/
theorem before0_10 (c : Dev nD) (t : Fin cfg0.N) (d) : (dats m 0 c).before 10 t d = iblk m c 10 t :=
  before0_10_of m (dats m 0 c) (A_eq m c 10) (after0_10 m c) t d
/-- What window 11 holds when the body starts: the block of the point. -/
theorem before0_11 (c : Dev nD) (t : Fin cfg0.N) (d) : (dats m 0 c).before 11 t d = iblk m c 11 t :=
  before0_11_of m (dats m 0 c) (A_eq m c 11) (after0_11 m c) t d
/-- What window 12 holds when the body starts: the block of the point. -/
theorem before0_12 (c : Dev nD) (t : Fin cfg0.N) (d) : (dats m 0 c).before 12 t d = iblk m c 12 t :=
  before0_12_of m (dats m 0 c) (A_eq m c 12) (after0_12 m c) t d
/-- What window 13 holds when the body starts: the block of the point. -/
theorem before0_13 (c : Dev nD) (t : Fin cfg0.N) (d) : (dats m 0 c).before 13 t d = iblk m c 13 t :=
  before0_13_of m (dats m 0 c) (A_eq m c 13) (after0_13 m c) t d
/-- What window 14 holds when the body starts: the block of the point. -/
theorem before0_14 (c : Dev nD) (t : Fin cfg0.N) (d) : (dats m 0 c).before 14 t d = iblk m c 14 t :=
  before0_14_of m (dats m 0 c) (A_eq m c 14) (after0_14 m c) t d
/-- What window 15 holds when the body starts: the block of the point. -/
theorem before0_15 (c : Dev nD) (t : Fin cfg0.N) (d) : (dats m 0 c).before 15 t d = iblk m c 15 t :=
  before0_15_of m (dats m 0 c) (A_eq m c 15) (after0_15 m c) t d
/-- What window 16 holds when the body starts: the block of the point. -/
theorem before0_16 (c : Dev nD) (t : Fin cfg0.N) (d) : (dats m 0 c).before 16 t d = iblk m c 16 t :=
  before0_16_of m (dats m 0 c) (A_eq m c 16) (after0_16 m c) t d
/-- What window 17 holds when the body starts: the block of the point. -/
theorem before0_17 (c : Dev nD) (t : Fin cfg0.N) (d) : (dats m 0 c).before 17 t d = iblk m c 17 t :=
  before0_17_of m (dats m 0 c) (A_eq m c 17) (after0_17 m c) t d
/-- What window 18 holds when the body starts: the block of the point. -/
theorem before0_18 (c : Dev nD) (t : Fin cfg0.N) (d) : (dats m 0 c).before 18 t d = iblk m c 18 t :=
  before0_18_of m (dats m 0 c) (A_eq m c 18) (after0_18 m c) t d
/-- What window 19 holds when the body starts: the block of the point. -/
theorem before0_19 (c : Dev nD) (t : Fin cfg0.N) (d) : (dats m 0 c).before 19 t d = iblk m c 19 t :=
  before0_19_of m (dats m 0 c) (A_eq m c 19) (after0_19 m c) t d
/-- What window 20 holds when the body starts: the block of the point. -/
theorem before0_20 (c : Dev nD) (t : Fin cfg0.N) (d) : (dats m 0 c).before 20 t d = iblk m c 20 t :=
  before0_20_of m (dats m 0 c) (A_eq m c 20) (after0_20 m c) t d
/-- What window 21 holds when the body starts: the block of the point. -/
theorem before0_21 (c : Dev nD) (t : Fin cfg0.N) (d) : (dats m 0 c).before 21 t d = iblk m c 21 t :=
  before0_21_of m (dats m 0 c) (A_eq m c 21) (after0_21 m c) t d
/-- What window 22 holds when the body starts: the block of the point. -/
theorem before0_22 (c : Dev nD) (t : Fin cfg0.N) (d) : (dats m 0 c).before 22 t d = iblk m c 22 t :=
  before0_22_of m (dats m 0 c) (A_eq m c 22) (after0_22 m c) t d
/-- What window 23 holds when the body starts: the block of the point. -/
theorem before0_23 (c : Dev nD) (t : Fin cfg0.N) (d) : (dats m 0 c).before 23 t d = iblk m c 23 t :=
  before0_23_of m (dats m 0 c) (A_eq m c 23) (after0_23 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t))

set_option maxHeartbeats 2400000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24]
  rw [show (dats m 0 c).Φ t.castSucc = Pipeline.ΦA spec0 c from rfl, PhiA0_eq]
  unfold outsAt0
  unfold out0_A_24
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexists _; iexact H24
  isplitl [HS0]; · iexact HS0
  isplitl [HS1]; · iexact HS1
  iintro ⟨H0, H1, H2, H3, H4, H5, H6, H7, H8, H9, H10, H11, H12, H13, H14, H15, H16, H17, H18, H19, H20, H21, H22, H23, ⟨%e24, H24⟩, ⟨%fT0, HS0⟩, ⟨%fT1, HS1⟩⟩
  isplitl [HS0 HS1 Hg]
  · isplitl [HS0 HS1]
    · isplitl [HS0]
      · iexists _; unfold owns; iexists _; isplitr
        swap; · iexact HS0
        ipureintro; rfl
      iexists _; unfold owns; iexists _; isplitr
      swap; · iexact HS1
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  unfold owns; iexists _; isplitr
  swap; · iexact H24
  ipureintro; exact View.read_writes_of_cover _ _ _ _ _ (cover0_A_24 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 8000000 in
/-- What the pipeline asks of the body, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- The launch: the run's statement, and every semaphore counter at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  frame_of m ρ (dats m) (A_eq m) (run_main m ρ)

/-- The frame of the kernel read at extended reals: it runs to the end, keeps its arguments and leaves every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22))
      ∧ r.2.sem = fun _ => 0) :=
  θ_run_and (unchanged m ρ) ((θ_run defs _ _).mono (fun _ h => h.2) (run_main_quiescent m ρ))

end Cert.KernelIdeal.Whole

end
-- ==== Proof.Lanes.lean ====
/- The lanes of a block: four images of 32 rows and 32 columns, and the masks that keep a shifted window inside its image. -/
module

public import proofs.«01_k».proof.Proof.Gen.KernelIdeal.Frame.RunA
public import Idealize.ShloMosaic.Lib.Pointwise
public import Idealize.ShloMosaic.Lib.Pipeline.ReadBack

@[expose] public section

set_option maxRecDepth 16384

noncomputable section

namespace Cert.KernelIdeal.Layers

open Cert.KernelIdeal Cert.KernelIdeal.Gen Idealize.ShloMosaic Idealize.ShloMosaic.TcCoe

/-- A weight of the selected expert: the three experts' entries weighed with the image's three coefficients. -/
def mix (cf : FVec Ideal S4x3 .f32) (i : Fin 4) (a : Fin 3 → EReal) : EReal :=
  cf (ix2 i 0) * a 0 + cf (ix2 i 1) * a 1 + cf (ix2 i 2) * a 2

/-- The image of a lane. -/
def img (l : Fin 4096) : Fin 4 := ⟨l.val / 1024, by omega⟩

/-- The parametric rectifier of the kernel. -/
def act (a h : EReal) : EReal := if 0 < h then h else a * h

/-- The lanes of the four images. -/
theorem lane_cases (l : Fin 4096) : (l.val < 1024 ∧ img l = 0) ∨ (1024 ≤ l.val ∧ l.val < 2048 ∧ img l = 1) ∨ (2048 ≤ l.val ∧ l.val < 3072 ∧ img l = 2) ∨ (3072 ≤ l.val ∧ img l = 3) := by
  have hl := l.isLt
  simp only [img, Fin.ext_iff]
  simp
  omega

/-- A lane of the second image, as the concatenation spells it. -/
theorem lane_one (l : Fin 4096) (h : 1024 ≤ l.val) (q : 1024 + (l.val - 1024) < 4096) : (⟨1024 + (l.val - 1024), q⟩ : Fin 4096) = l := Fin.ext (by dsimp only; omega)

/-- A lane of the third image, as the concatenation spells it. -/
theorem lane_two (l : Fin 4096) (h : 2048 ≤ l.val) (q : 2048 + (l.val - 1024 - 1024) < 4096) : (⟨2048 + (l.val - 1024 - 1024), q⟩ : Fin 4096) = l := Fin.ext (by dsimp only; omega)

/-- A lane of the fourth image, as the concatenation spells it. -/
theorem lane_three (l : Fin 4096) (h : 3072 ≤ l.val) (q : 3072 + (l.val - 1024 - 1024 - 1024) < 4096) : (⟨3072 + (l.val - 1024 - 1024 - 1024), q⟩ : Fin 4096) = l := Fin.ext (by dsimp only; omega)

/-- Moving the coordinate `q` by `d - 2` stays inside the image. -/
def keeps (q d : Nat) : Bool := decide (2 ≤ q + d ∧ q + d < 34)

section Masks
open Cert.KernelIdeal.Gen.kernelRun0_A.sl

/-- Two columns to the left. -/
theorem col_zero : ∀ l : Fin 4096, v241 (ix2 0 l) &&& v245 (ix2 0 l) = BitVec.ofBool (keeps (l.val % 32) 0) := by decide +kernel
/-- One column to the left. -/
theorem col_one : ∀ l : Fin 4096, v129 (ix2 0 l) &&& v133 (ix2 0 l) = BitVec.ofBool (keeps (l.val % 32) 1) := by decide +kernel
/-- One column to the right. -/
theorem col_three : ∀ l : Fin 4096, v157 (ix2 0 l) &&& v161 (ix2 0 l) = BitVec.ofBool (keeps (l.val % 32) 3) := by decide +kernel
/-- Two columns to the right. -/
theorem col_four : ∀ l : Fin 4096, v307 (ix2 0 l) &&& v311 (ix2 0 l) = BitVec.ofBool (keeps (l.val % 32) 4) := by decide +kernel
/-- Two rows up. -/
theorem row_zero : ∀ l : Fin 4096, v250 (ix2 0 l) &&& v254 (ix2 0 l) = BitVec.ofBool (keeps (l.val / 32 % 32) 0) := by decide +kernel
/-- One row up. -/
theorem row_one : ∀ l : Fin 4096, v138 (ix2 0 l) &&& v142 (ix2 0 l) = BitVec.ofBool (keeps (l.val / 32 % 32) 1) := by decide +kernel
/-- One row down. -/
theorem row_three : ∀ l : Fin 4096, v203 (ix2 0 l) &&& v207 (ix2 0 l) = BitVec.ofBool (keeps (l.val / 32 % 32) 3) := by decide +kernel
/-- Two rows down. -/
theorem row_four : ∀ l : Fin 4096, v541 (ix2 0 l) &&& v545 (ix2 0 l) = BitVec.ofBool (keeps (l.val / 32 % 32) 4) := by decide +kernel

end Masks

end Cert.KernelIdeal.Layers
-- ==== Proof.Win5.lean ====
/- The 5x5 windows of the input: what the kernel gathers in its first scratch array before the head's product. -/
module

public import proofs.«01_k».proof.Proof.Lanes
public import Idealize.ShloMosaic.Lib.Pointwise
public import Idealize.ShloMosaic.Lib.Pipeline.ReadBack
public import Idealize.ShloMosaic.Lib.Pipeline.ValueKit.Tiles

@[expose] public section

set_option maxRecDepth 16384

noncomputable section

namespace Cert.KernelIdeal.Layers

open Cert.KernelIdeal Cert.KernelIdeal.Gen Idealize.ShloMosaic Idealize.ShloMosaic.TcCoe

/-- Both masks hold. -/
theorem mask_and (a b : Bool) : BitVec.ofBool a &&& BitVec.ofBool b = BitVec.ofBool (b && a) := by
  cases a <;> cases b <;> rfl

/-- The unmoved coordinate stays inside. -/
theorem keeps_two (q : Nat) : keeps (q % 32) 2 = true := by
  unfold keeps
  have : q % 32 < 32 := Nat.mod_lt _ (by omega)
  exact decide_eq_true (by omega)

/-- Selecting by a mask. -/
theorem select_mask (b : Bool) (u v : EReal) : Scalar.select (BitVec.ofBool b) u v = if b then u else v := by
  cases b <;> rfl

open Cert.KernelIdeal.Gen.kernelRun0_A.sl in
/-- Two columns to the right and two rows down. -/
theorem corner_four (l : Fin 4096) : k0_pay65 v85 v125 (ix2 0 l) = BitVec.ofBool (keeps (l.val / 32 % 32) 4 && keeps (l.val % 32) 4) :=
  (show _ = (v307 (ix2 0 l) &&& v311 (ix2 0 l)) &&& (v541 (ix2 0 l) &&& v545 (ix2 0 l)) from rfl).trans
    (by rw [col_four, row_four, mask_and])

open Cert.KernelIdeal.Gen.kernelRun0_A.sl in
/-- One column to the right and two rows down. -/
theorem corner_three (l : Fin 4096) : r_3 (ix2 0 l) = BitVec.ofBool (keeps (l.val / 32 % 32) 4 && keeps (l.val % 32) 3) :=
  (show _ = (v157 (ix2 0 l) &&& v161 (ix2 0 l)) &&& (v541 (ix2 0 l) &&& v545 (ix2 0 l)) from rfl).trans
    (by rw [col_three, row_four, mask_and])

/-- Row `k` of the gathered windows: tap `k / 8` of channel `k % 8`, zero outside the image. `T` is the padded input. -/
def win5 (T : FVec Ideal S8x4228 .f32) (k : Fin 200) (l : Fin 4096) : EReal :=
  if keeps (l.val / 32 % 32) (k.val / 40) && keeps (l.val % 32) (k.val / 8 % 5) then
    T (ix2 ⟨k.val % 8, by omega⟩ ⟨l.val + 32 * (k.val / 40) + k.val / 8 % 5, by have := l.isLt; have := k.isLt; omega⟩) else 0

/-- The tap and the channel that a row of the windows belongs to. -/
theorem win5_row (T : FVec Ideal S8x4228 .f32) (k : Fin 200) (l : Fin 4096) (B : Nat) (c : Fin 8) (q : Fin 4228)
    (hk : k.val = B + c.val) (hB : B % 8 = 0) (hq : q.val = l.val + 32 * (B / 40) + B / 8 % 5) :
    win5 T k l = if keeps (l.val / 32 % 32) (B / 40) && keeps (l.val % 32) (B / 8 % 5) then T (ix2 c q) else 0 := by
  have hc := c.isLt
  have e1 : k.val / 40 = B / 40 := by omega
  have e2 : k.val / 8 % 5 = B / 8 % 5 := by omega
  have e3 : (⟨k.val % 8, by omega⟩ : Fin 8) = c := Fin.ext (by dsimp only; omega)
  unfold win5
  simp only [e1, e2, e3, ← hq]

/-- One stored piece of the windows, masked by its column and its row. -/
theorem win5_piece (T : FVec Ideal S8x4228 .f32) (k : Fin 200) (l : Fin 4096) (B : Nat) (c : Fin 8) (q : Fin 4228) (m : BitVec 1)
    (hk : k.val = B + c.val) (hB : B % 8 = 0) (hq : q.val = l.val + 32 * (B / 40) + B / 8 % 5)
    (hm : m = BitVec.ofBool (keeps (l.val / 32 % 32) (B / 40) && keeps (l.val % 32) (B / 8 % 5))) :
    Scalar.select m (T (ix2 c q)) 0 = win5 T k l := by
  rw [win5_row T k l B c q hk hB hq, hm, select_mask]

/-- The middle piece of the windows, which needs no mask. -/
theorem win5_middle (T : FVec Ideal S8x4228 .f32) (k : Fin 200) (l : Fin 4096) (c : Fin 8) (q : Fin 4228)
    (hk : k.val = 96 + c.val) (hq : q.val = 66 + l.val) : T (ix2 c q) = win5 T k l := by
  rw [win5_row T k l 96 c q hk (by decide) (by omega)]
  simp only [Nat.reduceDiv, Nat.reduceMod, keeps_two, Bool.and_self, if_true]

variable (c : Dev nD)
variable (arg1 : Memref sig .tc .vmem S3x4096 .f32) (harg1 : arg1.IsWhole)
variable (arg2 : Memref sig .tc .vmem S4x64x48 .f32) (harg2 : arg2.IsWhole)
variable (arg3 : Memref sig .tc .vmem S48x128 .f32) (harg3 : arg3.IsWhole)
variable (arg4 : Memref sig .tc .vmem S1x128 .f32) (harg4 : arg4.IsWhole)
variable (arg5 : Memref sig .tc .vmem S128x128 .f32) (harg5 : arg5.IsWhole)
variable (arg6 : Memref sig .tc .vmem S1x128 .f32) (harg6 : arg6.IsWhole)
variable (arg7 : Memref sig .tc .vmem S128x128 .f32) (harg7 : arg7.IsWhole)
variable (arg8 : Memref sig .tc .vmem S1x128 .f32) (harg8 : arg8.IsWhole)
variable (arg9 : Memref sig .tc .vmem S128x3 .f32) (harg9 : arg9.IsWhole)
variable (arg10 : Memref sig .tc .vmem S1x3 .f32) (harg10 : arg10.IsWhole)
variable (arg11 : Memref sig .tc .vmem S3x16x200 .f32) (harg11 : arg11.IsWhole)
variable (arg12 : Memref sig .tc .vmem S3x16x1 .f32) (harg12 : arg12.IsWhole)
variable (arg13 : Memref sig .tc .vmem S3x16x1 .f32) (harg13 : arg13.IsWhole)
variable (arg14 : Memref sig .tc .vmem S3x16x16 .f32) (harg14 : arg14.IsWhole)
variable (arg15 : Memref sig .tc .vmem S3x16x1 .f32) (harg15 : arg15.IsWhole)
variable (arg16 : Memref sig .tc .vmem S3x16x1 .f32) (harg16 : arg16.IsWhole)
variable (arg17 : Memref sig .tc .vmem S3x3x16x144 .f32) (harg17 : arg17.IsWhole)
variable (arg18 : Memref sig .tc .vmem S3x3x16x1 .f32) (harg18 : arg18.IsWhole)
variable (arg19 : Memref sig .tc .vmem S3x3x16x1 .f32) (harg19 : arg19.IsWhole)
variable (arg20 : Memref sig .tc .vmem S3x16x16 .f32) (harg20 : arg20.IsWhole)
variable (arg21 : Memref sig .tc .vmem S3x16x1 .f32) (harg21 : arg21.IsWhole)
variable (arg22 : Memref sig .tc .vmem S3x16x1 .f32) (harg22 : arg22.IsWhole)
variable (arg23 : Memref sig .tc .vmem S3x48x144 .f32) (harg23 : arg23.IsWhole)
variable (arg24 : Memref sig .tc .vmem S3x48x1 .f32) (harg24 : arg24.IsWhole)
variable (arg25 : Memref sig .tc .vmem S4x48x1024 .bf16)
variable (arg26 : Memref sig .tc .vmem S200x4096 .f32)
variable (arg27 : Memref sig .tc .vmem S144x4096 .f32)
variable (x0 : Vec Ideal S3x4096 .f32)
variable (x1 : Vec Ideal S4x64x48 .f32)
variable (x2 : Vec Ideal S48x128 .f32)
variable (x3 : Vec Ideal S1x128 .f32)
variable (x4 : Vec Ideal S128x128 .f32)
variable (x5 : Vec Ideal S1x128 .f32)
variable (x6 : Vec Ideal S128x128 .f32)
variable (x7 : Vec Ideal S1x128 .f32)
variable (x8 : Vec Ideal S128x3 .f32)
variable (x9 : Vec Ideal S1x3 .f32)
variable (x10 : Vec Ideal S3x16x200 .f32)
variable (x11 : Vec Ideal S3x16x1 .f32)
variable (x12 : Vec Ideal S3x16x1 .f32)
variable (x13 : Vec Ideal S3x16x16 .f32)
variable (x14 : Vec Ideal S3x16x1 .f32)
variable (x15 : Vec Ideal S3x16x1 .f32)
variable (x16 : Vec Ideal S3x3x16x144 .f32)
variable (x17 : Vec Ideal S3x3x16x1 .f32)
variable (x18 : Vec Ideal S3x3x16x1 .f32)
variable (x19 : Vec Ideal S3x16x16 .f32)
variable (x20 : Vec Ideal S3x16x1 .f32)
variable (x21 : Vec Ideal S3x16x1 .f32)
variable (x22 : Vec Ideal S3x48x144 .f32)
variable (x23 : Vec Ideal S3x48x1 .f32)

set_option maxHeartbeats 20000000 in
/-- The first scratch array holds the 5x5 windows. -/
theorem windows5 (k : Fin 200) (l : Fin 4096) :
    (kernelRun0_A.sl.v820 (F := Ideal) c arg1 harg1 arg26 x0) (ix2 k l)
      = win5 (kernelRun0_A.sl.r_4 (F := Ideal) c arg1 harg1 x0) k l := by
  unfold kernelRun0_A.sl.v820
  rw [View.readCov_eq_canon']
  unfold kernelRun0_A.sl.HS0_25
  have e : (Rect.unit ![0, 0] S200x4096.size inb_S200x4096_S200x4096_0_0).toLoadRect.idx (ix2 k l) = ix2 k l := by
    funext a
    fin_cases a <;> exact Fin.ext (by simp [LoadRect.idx])
  show View.canon _ ((Rect.unit ![0, 0] S200x4096.size inb_S200x4096_S200x4096_0_0).toLoadRect.idx (ix2 k l)) = _
  rw [e]
  unfold kernelRun0_A.sl.r_5 kernelRun0_A.sl.r_6 kernelRun0_A.sl.r_7 kernelRun0_A.sl.r_8 kernelRun0_A.sl.r_9
    kernelRun0_A.sl.r_4 k0_pay67 kernelRun0_A.sl.cst_289
  generalize k0_pay66 (F := Ideal) _ = T
  canon_tiles z h
  all_goals
    idx_vars z
    obtain rfl : l = z1 := Fin.ext h1
    try unfold kernelRun0_A.sl.v144
    try unfold kernelRun0_A.sl.v172
    try unfold kernelRun0_A.sl.v209
    try unfold kernelRun0_A.sl.v237
    try unfold kernelRun0_A.sl.v256
    try unfold kernelRun0_A.sl.v275
    try unfold kernelRun0_A.sl.v303
    try unfold kernelRun0_A.sl.v322
    try unfold kernelRun0_A.sl.v341
    try unfold kernelRun0_A.sl.v407
    try unfold kernelRun0_A.sl.v462
    try unfold kernelRun0_A.sl.v528
    try unfold kernelRun0_A.sl.v547
    try unfold kernelRun0_A.sl.v566
    pointwise [k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98]
    try simp only [IntOp.andi, col_zero, col_one, col_three, col_four, row_zero, row_one, row_three, row_four, mask_and, corner_three, corner_four]
    first
      | exact win5_middle T k l _ _ h0 rfl
      | exact win5_piece T k l _ _ _ _ h0 rfl (by dsimp only; omega)
          (by simp only [Nat.reduceDiv, Nat.reduceMod, keeps_two, Bool.true_and, Bool.and_true])
      | exact win5_piece T k l 0 _ _ _ (by omega) rfl (by dsimp only; omega) rfl

end Cert.KernelIdeal.Layers
-- ==== Proof.Win3.lean ====
/- The 3x3 windows: what the kernel gathers in its second scratch array before each mapping layer and before the tail. -/
module

public import proofs.«01_k».proof.Proof.Win5
public import Idealize.ShloMosaic.Lib.Pointwise
public import Idealize.ShloMosaic.Lib.Pipeline.ReadBack
public import Idealize.ShloMosaic.Lib.Pipeline.ValueKit.Tiles

@[expose] public section

set_option maxRecDepth 16384

noncomputable section

namespace Cert.KernelIdeal.Layers

open Cert.KernelIdeal Cert.KernelIdeal.Gen Idealize.ShloMosaic Idealize.ShloMosaic.TcCoe

/-- Earlier stores do not show where later ones cover. -/
theorem canon_front {Val : EltTy → Type} [∀ e, Nonempty (Val e)] {S : Shape} {e : EltTy} (E : List (View.Piece Val S e)) (y : S.Idx) :
    ∀ L : List (View.Piece Val S e), (∃ p ∈ L, y ∈ p.1.set) → View.canon (L ++ E) y = View.canon L y
  | [], h => by obtain ⟨p, hp, _⟩ := h; exact absurd hp List.not_mem_nil
  | p :: L, h => by
    by_cases hy : y ∈ p.1.set
    · obtain ⟨x, rfl⟩ := p.1.exists_idx_of_mem hy
      rw [List.cons_append, show p.1.idx x = p.1.emb x from rfl, View.canon_cons_emb, View.canon_cons_emb]
    · rw [List.cons_append, View.canon_cons_of_not_mem _ _ hy, View.canon_cons_of_not_mem _ _ hy]
      refine canon_front E y L ?_
      obtain ⟨q, hq, hyq⟩ := h
      rcases List.mem_cons.mp hq with rfl | hq
      · exact absurd hyq hy
      · exact ⟨q, hq, hyq⟩

/-- Row `k` of the gathered windows: tap `k / 16` of channel `k % 16`, zero outside the image. `T` is the padded array. -/
def win3 (T : FVec Ideal S16x4162 .f32) (k : Fin 144) (l : Fin 4096) : EReal :=
  if keeps (l.val / 32 % 32) (k.val / 48 + 1) && keeps (l.val % 32) (k.val / 16 % 3 + 1) then
    T (ix2 ⟨k.val % 16, by omega⟩ ⟨l.val + 32 * (k.val / 48) + k.val / 16 % 3, by have := l.isLt; have := k.isLt; omega⟩) else 0

/-- The tap and the channel that a row of the windows belongs to. -/
theorem win3_row (T : FVec Ideal S16x4162 .f32) (k : Fin 144) (l : Fin 4096) (B : Nat) (c : Fin 16) (q : Fin 4162)
    (hk : k.val = B + c.val) (hB : B % 16 = 0) (hq : q.val = l.val + 32 * (B / 48) + B / 16 % 3) :
    win3 T k l = if keeps (l.val / 32 % 32) (B / 48 + 1) && keeps (l.val % 32) (B / 16 % 3 + 1) then T (ix2 c q) else 0 := by
  have hc := c.isLt
  have e1 : k.val / 48 = B / 48 := by omega
  have e2 : k.val / 16 % 3 = B / 16 % 3 := by omega
  have e3 : (⟨k.val % 16, by omega⟩ : Fin 16) = c := Fin.ext (by dsimp only; omega)
  unfold win3
  simp only [e1, e2, e3, ← hq]

/-- One stored piece of the windows, masked by its column and its row. -/
theorem win3_piece (T : FVec Ideal S16x4162 .f32) (k : Fin 144) (l : Fin 4096) (B : Nat) (c : Fin 16) (q : Fin 4162) (m : BitVec 1)
    (hk : k.val = B + c.val) (hB : B % 16 = 0) (hq : q.val = l.val + 32 * (B / 48) + B / 16 % 3)
    (hm : m = BitVec.ofBool (keeps (l.val / 32 % 32) (B / 48 + 1) && keeps (l.val % 32) (B / 16 % 3 + 1))) :
    Scalar.select m (T (ix2 c q)) 0 = win3 T k l := by
  rw [win3_row T k l B c q hk hB hq, hm, select_mask]

/-- The middle piece of the windows, which needs no mask. -/
theorem win3_middle (T : FVec Ideal S16x4162 .f32) (k : Fin 144) (l : Fin 4096) (c : Fin 16) (q : Fin 4162)
    (hk : k.val = 64 + c.val) (hq : q.val = 33 + l.val) : T (ix2 c q) = win3 T k l := by
  rw [win3_row T k l 64 c q hk (by decide) (by omega)]
  simp only [Nat.reduceDiv, Nat.reduceMod, Nat.reduceAdd, keeps_two, Bool.and_self, if_true]

/-- A load of the whole scratch array reads each index in place. -/
theorem whole_idx (k : Fin 144) (l : Fin 4096) :
    (Rect.unit ![0, 0] S144x4096.size inb_S144x4096_S144x4096_0_0).toLoadRect.idx (ix2 k l) = ix2 k l := by
  funext a
  fin_cases a <;> exact Fin.ext (by simp [LoadRect.idx])

variable (c : Dev nD)
variable (arg1 : Memref sig .tc .vmem S3x4096 .f32) (harg1 : arg1.IsWhole)
variable (arg2 : Memref sig .tc .vmem S4x64x48 .f32) (harg2 : arg2.IsWhole)
variable (arg3 : Memref sig .tc .vmem S48x128 .f32) (harg3 : arg3.IsWhole)
variable (arg4 : Memref sig .tc .vmem S1x128 .f32) (harg4 : arg4.IsWhole)
variable (arg5 : Memref sig .tc .vmem S128x128 .f32) (harg5 : arg5.IsWhole)
variable (arg6 : Memref sig .tc .vmem S1x128 .f32) (harg6 : arg6.IsWhole)
variable (arg7 : Memref sig .tc .vmem S128x128 .f32) (harg7 : arg7.IsWhole)
variable (arg8 : Memref sig .tc .vmem S1x128 .f32) (harg8 : arg8.IsWhole)
variable (arg9 : Memref sig .tc .vmem S128x3 .f32) (harg9 : arg9.IsWhole)
variable (arg10 : Memref sig .tc .vmem S1x3 .f32) (harg10 : arg10.IsWhole)
variable (arg11 : Memref sig .tc .vmem S3x16x200 .f32) (harg11 : arg11.IsWhole)
variable (arg12 : Memref sig .tc .vmem S3x16x1 .f32) (harg12 : arg12.IsWhole)
variable (arg13 : Memref sig .tc .vmem S3x16x1 .f32) (harg13 : arg13.IsWhole)
variable (arg14 : Memref sig .tc .vmem S3x16x16 .f32) (harg14 : arg14.IsWhole)
variable (arg15 : Memref sig .tc .vmem S3x16x1 .f32) (harg15 : arg15.IsWhole)
variable (arg16 : Memref sig .tc .vmem S3x16x1 .f32) (harg16 : arg16.IsWhole)
variable (arg17 : Memref sig .tc .vmem S3x3x16x144 .f32) (harg17 : arg17.IsWhole)
variable (arg18 : Memref sig .tc .vmem S3x3x16x1 .f32) (harg18 : arg18.IsWhole)
variable (arg19 : Memref sig .tc .vmem S3x3x16x1 .f32) (harg19 : arg19.IsWhole)
variable (arg20 : Memref sig .tc .vmem S3x16x16 .f32) (harg20 : arg20.IsWhole)
variable (arg21 : Memref sig .tc .vmem S3x16x1 .f32) (harg21 : arg21.IsWhole)
variable (arg22 : Memref sig .tc .vmem S3x16x1 .f32) (harg22 : arg22.IsWhole)
variable (arg23 : Memref sig .tc .vmem S3x48x144 .f32) (harg23 : arg23.IsWhole)
variable (arg24 : Memref sig .tc .vmem S3x48x1 .f32) (harg24 : arg24.IsWhole)
variable (arg25 : Memref sig .tc .vmem S4x48x1024 .bf16)
variable (arg26 : Memref sig .tc .vmem S200x4096 .f32)
variable (arg27 : Memref sig .tc .vmem S144x4096 .f32)
variable (x0 : Vec Ideal S3x4096 .f32)
variable (x1 : Vec Ideal S4x64x48 .f32)
variable (x2 : Vec Ideal S48x128 .f32)
variable (x3 : Vec Ideal S1x128 .f32)
variable (x4 : Vec Ideal S128x128 .f32)
variable (x5 : Vec Ideal S1x128 .f32)
variable (x6 : Vec Ideal S128x128 .f32)
variable (x7 : Vec Ideal S1x128 .f32)
variable (x8 : Vec Ideal S128x3 .f32)
variable (x9 : Vec Ideal S1x3 .f32)
variable (x10 : Vec Ideal S3x16x200 .f32)
variable (x11 : Vec Ideal S3x16x1 .f32)
variable (x12 : Vec Ideal S3x16x1 .f32)
variable (x13 : Vec Ideal S3x16x16 .f32)
variable (x14 : Vec Ideal S3x16x1 .f32)
variable (x15 : Vec Ideal S3x16x1 .f32)
variable (x16 : Vec Ideal S3x3x16x144 .f32)
variable (x17 : Vec Ideal S3x3x16x1 .f32)
variable (x18 : Vec Ideal S3x3x16x1 .f32)
variable (x19 : Vec Ideal S3x16x16 .f32)
variable (x20 : Vec Ideal S3x16x1 .f32)
variable (x21 : Vec Ideal S3x16x1 .f32)
variable (x22 : Vec Ideal S3x48x144 .f32)
variable (x23 : Vec Ideal S3x48x1 .f32)

set_option maxHeartbeats 20000000 in
/-- The windows of the first mapping layer. -/
theorem windows_first (k : Fin 144) (l : Fin 4096) :
    (kernelRun0_A.sl.v1328 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg26 arg27 x0 x1 x2 x3 x4 x5 x6 x7 x8 x9 x10 x11 x12 x13 x14 x15) (ix2 k l)
      = win3 (kernelRun0_A.sl.r_61 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg26 x0 x1 x2 x3 x4 x5 x6 x7 x8 x9 x10 x11 x12 x13 x14 x15) k l := by
  unfold kernelRun0_A.sl.v1328
  rw [View.readCov_eq_canon']
  unfold kernelRun0_A.sl.HS1_9
  show View.canon _ ((Rect.unit ![0, 0] S144x4096.size inb_S144x4096_S144x4096_0_0).toLoadRect.idx (ix2 k l)) = _
  rw [whole_idx]
  unfold kernelRun0_A.sl.r_62
  canon_tiles z h
  all_goals
    idx_vars z
    obtain rfl : l = z1 := Fin.ext h1
    try unfold kernelRun0_A.sl.v144
    try unfold kernelRun0_A.sl.v172
    try unfold kernelRun0_A.sl.v209
    try unfold kernelRun0_A.sl.v237
    pointwise [k0_pay151, k0_pay152, k0_pay153, k0_pay154, k0_pay155, k0_pay156, k0_pay157, k0_pay158, k0_pay159, k0_pay160, k0_pay161, k0_pay162]
    try simp only [IntOp.andi, col_one, col_three, row_one, row_three, mask_and]
    first
      | exact win3_middle _ k l _ _ h0 rfl
      | exact win3_piece _ k l _ _ _ _ h0 rfl (by dsimp only; omega)
          (by simp only [Nat.reduceDiv, Nat.reduceMod, Nat.reduceAdd, keeps_two, Bool.true_and, Bool.and_true])
      | exact win3_piece _ k l 0 _ _ _ (by omega) rfl (by dsimp only; omega) rfl

set_option maxHeartbeats 20000000 in
/-- The windows of the second mapping layer. -/
theorem windows_second (k : Fin 144) (l : Fin 4096) :
    (kernelRun0_A.sl.v1619 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg26 arg27 x0 x1 x2 x3 x4 x5 x6 x7 x8 x9 x10 x11 x12 x13 x14 x15 x16 x17 x18) (ix2 k l)
      = win3 (kernelRun0_A.sl.r_91 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg26 arg27 x0 x1 x2 x3 x4 x5 x6 x7 x8 x9 x10 x11 x12 x13 x14 x15 x16 x17 x18) k l := by
  unfold kernelRun0_A.sl.v1619
  rw [View.readCov_eq_canon']
  unfold kernelRun0_A.sl.HS1_18
  show View.canon _ ((Rect.unit ![0, 0] S144x4096.size inb_S144x4096_S144x4096_0_0).toLoadRect.idx (ix2 k l)) = _
  rw [whole_idx]
  refine (canon_front (kernelRun0_A.sl.HS1_9 (F := Ideal) _ _ _ _ _ _ _ _ _ _ _ _ _ _ _ _ _ _ _ _ _ _ _ _ _ _ _ _ _ _ _ _ _ _ _ _ _ _ _ _ _ _ _ _ _ _ _ _ _ _) (ix2 k l) [_, _, _, _, _, _, _, _, _]
    (View.cover_of_tiled_head _ _ _ (by rfl) _)).trans ?_
  unfold kernelRun0_A.sl.r_91 kernelRun0_A.sl.r_92 kernelRun0_A.sl.cst_289
  canon_tiles z h
  all_goals
    idx_vars z
    obtain rfl : l = z1 := Fin.ext h1
    try unfold kernelRun0_A.sl.v144
    try unfold kernelRun0_A.sl.v172
    try unfold kernelRun0_A.sl.v209
    try unfold kernelRun0_A.sl.v237
    pointwise [k0_pay194, k0_pay195, k0_pay196, k0_pay197, k0_pay198, k0_pay199, k0_pay200, k0_pay201, k0_pay202, k0_pay203, k0_pay204]
    try simp only [IntOp.andi, col_one, col_three, row_one, row_three, mask_and]
    first
      | exact win3_middle _ k l _ _ h0 rfl
      | exact win3_piece _ k l _ _ _ _ h0 rfl (by dsimp only; omega)
          (by simp only [Nat.reduceDiv, Nat.reduceMod, Nat.reduceAdd, keeps_two, Bool.true_and, Bool.and_true])
      | exact win3_piece _ k l 0 _ _ _ (by omega) rfl (by dsimp only; omega) rfl

set_option maxHeartbeats 20000000 in
/-- The windows of the third mapping layer. -/
theorem windows_third (k : Fin 144) (l : Fin 4096) :
    (kernelRun0_A.sl.v1910 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg26 arg27 x0 x1 x2 x3 x4 x5 x6 x7 x8 x9 x10 x11 x12 x13 x14 x15 x16 x17 x18) (ix2 k l)
      = win3 (kernelRun0_A.sl.r_120 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg26 arg27 x0 x1 x2 x3 x4 x5 x6 x7 x8 x9 x10 x11 x12 x13 x14 x15 x16 x17 x18) k l := by
  unfold kernelRun0_A.sl.v1910
  rw [View.readCov_eq_canon']
  unfold kernelRun0_A.sl.HS1_27
  show View.canon _ ((Rect.unit ![0, 0] S144x4096.size inb_S144x4096_S144x4096_0_0).toLoadRect.idx (ix2 k l)) = _
  rw [whole_idx]
  refine (canon_front (kernelRun0_A.sl.HS1_18 (F := Ideal) _ _ _ _ _ _ _ _ _ _ _ _ _ _ _ _ _ _ _ _ _ _ _ _ _ _ _ _ _ _ _ _ _ _ _ _ _ _ _ _ _ _ _ _ _ _ _ _ _ _ _ _ _ _ _ _ _ _ _ _) (ix2 k l) [_, _, _, _, _, _, _, _, _]
    (View.cover_of_tiled_head _ _ _ (by rfl) _)).trans ?_
  unfold kernelRun0_A.sl.r_120 kernelRun0_A.sl.r_121 kernelRun0_A.sl.cst_289
  canon_tiles z h
  all_goals
    idx_vars z
    obtain rfl : l = z1 := Fin.ext h1
    try unfold kernelRun0_A.sl.v144
    try unfold kernelRun0_A.sl.v172
    try unfold kernelRun0_A.sl.v209
    try unfold kernelRun0_A.sl.v237
    pointwise [k0_pay232, k0_pay233, k0_pay234, k0_pay235, k0_pay236, k0_pay237, k0_pay238, k0_pay239, k0_pay240, k0_pay241, k0_pay242]
    try simp only [IntOp.andi, col_one, col_three, row_one, row_three, mask_and]
    first
      | exact win3_middle _ k l _ _ h0 rfl
      | exact win3_piece _ k l _ _ _ _ h0 rfl (by dsimp only; omega)
          (by simp only [Nat.reduceDiv, Nat.reduceMod, Nat.reduceAdd, keeps_two, Bool.true_and, Bool.and_true])
      | exact win3_piece _ k l 0 _ _ _ (by omega) rfl (by dsimp only; omega) rfl

set_option maxHeartbeats 20000000 in
/-- The windows of the tail. -/
theorem windows_tail (k : Fin 144) (l : Fin 4096) :
    (kernelRun0_A.sl.v2418 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg26 arg27 x0 x1 x2 x3 x4 x5 x6 x7 x8 x9 x10 x11 x12 x13 x14 x15 x16 x17 x18 x19 x20 x21) (ix2 k l)
      = win3 (kernelRun0_A.sl.r_172 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg26 arg27 x0 x1 x2 x3 x4 x5 x6 x7 x8 x9 x10 x11 x12 x13 x14 x15 x16 x17 x18 x19 x20 x21) k l := by
  unfold kernelRun0_A.sl.v2418
  rw [View.readCov_eq_canon']
  unfold kernelRun0_A.sl.HS1_36
  show View.canon _ ((Rect.unit ![0, 0] S144x4096.size inb_S144x4096_S144x4096_0_0).toLoadRect.idx (ix2 k l)) = _
  rw [whole_idx]
  refine (canon_front (kernelRun0_A.sl.HS1_27 (F := Ideal) _ _ _ _ _ _ _ _ _ _ _ _ _ _ _ _ _ _ _ _ _ _ _ _ _ _ _ _ _ _ _ _ _ _ _ _ _ _ _ _ _ _ _ _ _ _ _ _ _ _ _ _ _ _ _ _ _ _ _ _) (ix2 k l) [_, _, _, _, _, _, _, _, _]
    (View.cover_of_tiled_head _ _ _ (by rfl) _)).trans ?_
  unfold kernelRun0_A.sl.r_172 kernelRun0_A.sl.r_173
  canon_tiles z h
  all_goals
    idx_vars z
    obtain rfl : l = z1 := Fin.ext h1
    try unfold kernelRun0_A.sl.v144
    try unfold kernelRun0_A.sl.v172
    try unfold kernelRun0_A.sl.v209
    try unfold kernelRun0_A.sl.v237
    pointwise [k0_pay292, k0_pay293, k0_pay294, k0_pay295, k0_pay296, k0_pay297, k0_pay298, k0_pay299, k0_pay300, k0_pay301, k0_pay302, k0_pay303]
    try simp only [IntOp.andi, col_one, col_three, row_one, row_three, mask_and]
    first
      | exact win3_middle _ k l _ _ h0 rfl
      | exact win3_piece _ k l _ _ _ _ h0 rfl (by dsimp only; omega)
          (by simp only [Nat.reduceDiv, Nat.reduceMod, Nat.reduceAdd, keeps_two, Bool.true_and, Bool.and_true])
      | exact win3_piece _ k l 0 _ _ _ (by omega) rfl (by dsimp only; omega) rfl

end Cert.KernelIdeal.Layers
-- ==== Proof.Sums.lean ====
/- Sums over the rows of the windows, as sums over channels and taps, and the selection of one expert. -/
module

public import proofs.«01_k».proof.Proof.Win5
public import proofs.«01_k».proof.Proof.Win3

@[expose] public section

noncomputable section

namespace Cert.KernelIdeal.Layers

open Cert.KernelIdeal Cert.KernelIdeal.Gen Idealize.ShloMosaic Idealize.ShloMosaic.TcCoe

/-- Coefficients that single out one expert select its entry. -/
theorem mix_select (cf : FVec Ideal S4x3 .f32) (i : Fin 4) (e : Fin 3) (h : ∀ k, cf (ix2 i k) = if k = e then 1 else 0) (a : Fin 3 → EReal) : mix cf i a = a e := by
  unfold mix
  rw [h, h, h]
  fin_cases e <;> simp

/-- A sum over 16 channels whose last ones vanish. -/
theorem sum_cut (C : Nat) (hC : C ≤ 16) (f : Fin 16 → EReal) (h : ∀ k, C ≤ k.val → f k = 0) : ∑ k, f k = ∑ c : Fin C, f ⟨c.val, by omega⟩ := by
  symm
  refine Finset.sum_bij_ne_zero (fun c _ _ => (⟨c.val, by omega⟩ : Fin 16)) (fun _ _ _ => Finset.mem_univ _) (fun a _ _ b _ _ e => Fin.ext (by have := congrArg Fin.val e; exact this)) (fun k _ hk => ?_) (fun _ _ _ => rfl)
  exact ⟨⟨k.val, by by_contra hc; exact hk (h k (by omega))⟩, Finset.mem_univ _, hk, rfl⟩

/-- The rows of the 3x3 windows, counted by channel and tap. -/
theorem sum_taps3 (C : Nat) (hC : C ≤ 16) (f : Fin 144 → EReal) (h : ∀ k, C ≤ k.val % 16 → f k = 0) :
    ∑ k, f k = ∑ c : Fin C, ∑ i : Fin 3, ∑ j : Fin 3, f ⟨48 * i.val + 16 * j.val + c.val, by omega⟩ := by
  simp only [← Fintype.sum_prod_type']
  symm
  refine Finset.sum_bij_ne_zero (fun p _ _ => (⟨48 * p.2.1.val + 16 * p.2.2.val + p.1.val, by omega⟩ : Fin 144)) (fun _ _ _ => Finset.mem_univ _) ?_ ?_ (fun _ _ _ => rfl)
  · rintro ⟨a, b, d⟩ _ _ ⟨a', b', d'⟩ _ _ e
    have e := congrArg Fin.val e
    dsimp only at e
    refine Prod.ext (Fin.ext ?_) (Prod.ext (Fin.ext ?_) (Fin.ext ?_)) <;> dsimp only <;> omega
  · intro k _ hk
    have hl : k.val % 16 < C := by
      by_contra hc
      exact hk (h k (by omega))
    have e : (⟨48 * (k.val / 48) + 16 * (k.val / 16 % 3) + k.val % 16, by omega⟩ : Fin 144) = k := Fin.ext (by dsimp only; omega)
    refine ⟨(⟨k.val % 16, hl⟩, ⟨k.val / 48, by omega⟩, ⟨k.val / 16 % 3, by omega⟩), Finset.mem_univ _, ?_, e⟩
    dsimp only
    rw [e]
    exact hk

/-- The rows of the 5x5 windows, counted by channel and tap. -/
theorem sum_taps5 (f : Fin 200 → EReal) (h : ∀ k, 3 ≤ k.val % 8 → f k = 0) :
    ∑ k, f k = ∑ c : Fin 3, ∑ i : Fin 5, ∑ j : Fin 5, f ⟨40 * i.val + 8 * j.val + c.val, by omega⟩ := by
  simp only [← Fintype.sum_prod_type']
  symm
  refine Finset.sum_bij_ne_zero (fun p _ _ => (⟨40 * p.2.1.val + 8 * p.2.2.val + p.1.val, by omega⟩ : Fin 200)) (fun _ _ _ => Finset.mem_univ _) ?_ ?_ (fun _ _ _ => rfl)
  · rintro ⟨a, b, d⟩ _ _ ⟨a', b', d'⟩ _ _ e
    have e := congrArg Fin.val e
    dsimp only at e
    refine Prod.ext (Fin.ext ?_) (Prod.ext (Fin.ext ?_) (Fin.ext ?_)) <;> dsimp only <;> omega
  · intro k _ hk
    have hl : k.val % 8 < 3 := by
      by_contra hc
      exact hk (h k (by omega))
    have e : (⟨40 * (k.val / 40) + 8 * (k.val / 8 % 5) + k.val % 8, by omega⟩ : Fin 200) = k := Fin.ext (by dsimp only; omega)
    refine ⟨(⟨k.val % 8, hl⟩, ⟨k.val / 40, by omega⟩, ⟨k.val / 8 % 5, by omega⟩), Finset.mem_univ _, ?_, e⟩
    dsimp only
    rw [e]
    exact hk

/-- One channel of an image with a margin of `b` zeros round it. -/
def pad (b : Nat) (f : Fin 32 → Fin 32 → EReal) (y x : Nat) : EReal :=
  if h : (b ≤ y ∧ y - b < 32) ∧ b ≤ x ∧ x - b < 32 then f ⟨y - b, h.1.2⟩ ⟨x - b, h.2.2⟩ else 0

/-- A 3x3 window of the lanes is a window of the padded image. -/
theorem win3_pad (T : FVec Ideal S16x4162 .f32) (c : Fin 16) (i0 : Fin 4) (f : Fin 32 → Fin 32 → EReal)
    (hT : ∀ l : Fin 4096, img l = i0 → T (ix2 c ⟨33 + l.val, by omega⟩) = f ⟨l.val / 32 % 32, by omega⟩ ⟨l.val % 32, by omega⟩)
    (i j : Fin 3) (l : Fin 4096) (hl : img l = i0) :
    win3 T ⟨48 * i.val + 16 * j.val + c.val, by omega⟩ l = pad 1 f (l.val / 32 % 32 + i.val) (l.val % 32 + j.val) := by
  have hl' := congrArg Fin.val hl
  unfold img at hl'
  dsimp only at hl'
  unfold win3 pad keeps
  dsimp only
  have e1 : (48 * i.val + 16 * j.val + c.val) / 48 = i.val := by omega
  have e2 : (48 * i.val + 16 * j.val + c.val) / 16 % 3 = j.val := by omega
  have e3 : (48 * i.val + 16 * j.val + c.val) % 16 = c.val := by omega
  simp only [e1, e2, e3, Bool.and_eq_true, decide_eq_true_eq]
  by_cases h : (1 ≤ l.val / 32 % 32 + i.val ∧ l.val / 32 % 32 + i.val - 1 < 32) ∧ 1 ≤ l.val % 32 + j.val ∧ l.val % 32 + j.val - 1 < 32
  · rw [dif_pos h, if_pos (by omega)]
    refine Eq.trans (congrArg (fun q => T (ix2 c q)) (Fin.ext ?_)) ((hT ⟨l.val + 32 * i.val + j.val - 33, by omega⟩ (Fin.ext ?_)).trans (congrArg₂ f (Fin.ext ?_) (Fin.ext ?_)))
    · dsimp only; omega
    · unfold img; dsimp only; omega
    · dsimp only; omega
    · dsimp only; omega
  · rw [dif_neg h, if_neg (by omega)]

/-- A 5x5 window of the lanes is a window of the padded image. -/
theorem win5_pad (T : FVec Ideal S8x4228 .f32) (c : Fin 8) (i0 : Fin 4) (f : Fin 32 → Fin 32 → EReal)
    (hT : ∀ l : Fin 4096, img l = i0 → T (ix2 c ⟨66 + l.val, by omega⟩) = f ⟨l.val / 32 % 32, by omega⟩ ⟨l.val % 32, by omega⟩)
    (i j : Fin 5) (l : Fin 4096) (hl : img l = i0) :
    win5 T ⟨40 * i.val + 8 * j.val + c.val, by omega⟩ l = pad 2 f (l.val / 32 % 32 + i.val) (l.val % 32 + j.val) := by
  have hl' := congrArg Fin.val hl
  unfold img at hl'
  dsimp only at hl'
  unfold win5 pad keeps
  dsimp only
  have e1 : (40 * i.val + 8 * j.val + c.val) / 40 = i.val := by omega
  have e2 : (40 * i.val + 8 * j.val + c.val) / 8 % 5 = j.val := by omega
  have e3 : (40 * i.val + 8 * j.val + c.val) % 8 = c.val := by omega
  simp only [e1, e2, e3, Bool.and_eq_true, decide_eq_true_eq]
  by_cases h : (2 ≤ l.val / 32 % 32 + i.val ∧ l.val / 32 % 32 + i.val - 2 < 32) ∧ 2 ≤ l.val % 32 + j.val ∧ l.val % 32 + j.val - 2 < 32
  · rw [dif_pos h, if_pos (by omega)]
    refine Eq.trans (congrArg (fun q => T (ix2 c q)) (Fin.ext ?_)) ((hT ⟨l.val + 32 * i.val + j.val - 66, by omega⟩ (Fin.ext ?_)).trans (congrArg₂ f (Fin.ext ?_) (Fin.ext ?_)))
    · dsimp only; omega
    · unfold img; dsimp only; omega
    · dsimp only; omega
    · dsimp only; omega
  · rw [dif_neg h, if_neg (by omega)]

/-- The nine taps of a transposed convolution, of which one phase meets at most three. -/
theorem sum_phase (r : Fin 4) (f : Fin 9 → EReal) (h : ∀ i, (i.val + r.val) % 4 ≠ 1 → f i = 0) :
    ∑ i, f i = ∑ d : Fin 3, if q : r.val ≤ 4 * d.val + 1 ∧ 4 * d.val + 1 - r.val < 9 then f ⟨4 * d.val + 1 - r.val, q.2⟩ else 0 := by
  have hm : ∀ i, f i ≠ 0 → (i.val + r.val) % 4 = 1 := fun i hi => by
    by_contra hc
    exact hi (h i hc)
  refine Finset.sum_bij_ne_zero (fun i _ _ => (⟨(i.val + r.val) / 4, by omega⟩ : Fin 3)) (fun _ _ _ => Finset.mem_univ _) ?_ ?_ ?_
  · intro a _ ha b _ hb e
    have e := congrArg Fin.val e
    dsimp only at e
    have h1 := hm a ha
    have h2 := hm b hb
    exact Fin.ext (by omega)
  · intro d _ hd
    by_cases q : r.val ≤ 4 * d.val + 1 ∧ 4 * d.val + 1 - r.val < 9
    · rw [dif_pos q] at hd
      exact ⟨_, Finset.mem_univ _, hd, Fin.ext (by dsimp only; omega)⟩
    · rw [dif_neg q] at hd
      exact absurd rfl hd
  · intro i _ hi
    have h1 := hm i hi
    rw [dif_pos (by dsimp only; omega)]
    exact congrArg f (Fin.ext (by dsimp only; omega))

end Cert.KernelIdeal.Layers
-- ==== Proof.Blocks.lean ====
/- What the kernel's blocks hold: each input block of a grid point, read at an index, in terms of the program's arguments. -/
module

public import proofs.«01_k».proof.Proof.IdealFrame
public import Idealize.ShloMosaic.Lib.Pipeline.ValueKit
public import Idealize.ShloMosaic.Lib.Claim

@[expose] public section

set_option maxRecDepth 16384

noncomputable section

namespace Cert.KernelIdeal.Entry

open Cert.KernelIdeal Cert.KernelIdeal.Gen Cert.KernelIdeal.Whole Idealize.ShloMosaic Idealize.ShloMosaic.TcCoe

variable (m : (ℓ : Loc nD τ sig) → Buf (Elt Ideal) ℓ) (c : Dev nD) (t : Fin cfg0.N)
/-- Argument 0 of the kernel's program. -/
def q0 : FVec Ideal S512x3x32x32 .f32 := m ((c : Thread nD τ).loc main_arg0)
/-- Argument 1 of the kernel's program. -/
def q1 : FVec Ideal S128x3x4x4 .f32 := m ((c : Thread nD τ).loc main_arg1)
/-- Argument 2 of the kernel's program. -/
def q2 : FVec Ideal S128 .f32 := m ((c : Thread nD τ).loc main_arg2)
/-- Argument 3 of the kernel's program. -/
def q3 : FVec Ideal S128x128x1x1 .f32 := m ((c : Thread nD τ).loc main_arg3)
/-- Argument 4 of the kernel's program. -/
def q4 : FVec Ideal S128 .f32 := m ((c : Thread nD τ).loc main_arg4)
/-- Argument 5 of the kernel's program. -/
def q5 : FVec Ideal S128x128x1x1 .f32 := m ((c : Thread nD τ).loc main_arg5)
/-- Argument 6 of the kernel's program. -/
def q6 : FVec Ideal S128 .f32 := m ((c : Thread nD τ).loc main_arg6)
/-- Argument 7 of the kernel's program. -/
def q7 : FVec Ideal S3x128 .f32 := m ((c : Thread nD τ).loc main_arg7)
/-- Argument 8 of the kernel's program. -/
def q8 : FVec Ideal S3 .f32 := m ((c : Thread nD τ).loc main_arg8)
/-- Argument 9 of the kernel's program. -/
def q9 : FVec Ideal S3x16x3x5x5 .f32 := m ((c : Thread nD τ).loc main_arg9)
/-- Argument 10 of the kernel's program. -/
def q10 : FVec Ideal S3x16 .f32 := m ((c : Thread nD τ).loc main_arg10)
/-- Argument 11 of the kernel's program. -/
def q11 : FVec Ideal S3x16 .f32 := m ((c : Thread nD τ).loc main_arg11)
/-- Argument 12 of the kernel's program. -/
def q12 : FVec Ideal S3x12x16x1x1 .f32 := m ((c : Thread nD τ).loc main_arg12)
/-- Argument 13 of the kernel's program. -/
def q13 : FVec Ideal S3x12 .f32 := m ((c : Thread nD τ).loc main_arg13)
/-- Argument 14 of the kernel's program. -/
def q14 : FVec Ideal S3x12 .f32 := m ((c : Thread nD τ).loc main_arg14)
/-- Argument 15 of the kernel's program. -/
def q15 : FVec Ideal S3x3x12x12x3x3 .f32 := m ((c : Thread nD τ).loc main_arg15)
/-- Argument 16 of the kernel's program. -/
def q16 : FVec Ideal S3x3x12 .f32 := m ((c : Thread nD τ).loc main_arg16)
/-- Argument 17 of the kernel's program. -/
def q17 : FVec Ideal S3x3x12 .f32 := m ((c : Thread nD τ).loc main_arg17)
/-- Argument 18 of the kernel's program. -/
def q18 : FVec Ideal S3x16x12x1x1 .f32 := m ((c : Thread nD τ).loc main_arg18)
/-- Argument 19 of the kernel's program. -/
def q19 : FVec Ideal S3x16 .f32 := m ((c : Thread nD τ).loc main_arg19)
/-- Argument 20 of the kernel's program. -/
def q20 : FVec Ideal S3x16 .f32 := m ((c : Thread nD τ).loc main_arg20)
/-- Argument 21 of the kernel's program. -/
def q21 : FVec Ideal S3x3x16x9x9 .f32 := m ((c : Thread nD τ).loc main_arg21)
/-- Argument 22 of the kernel's program. -/
def q22 : FVec Ideal S3x3 .f32 := m ((c : Thread nD τ).loc main_arg22)
/-- Operand 0 of the launch, prepared by the host. -/
def u0 : FVec Ideal S3x524288 .f32 := V m c main_v2
/-- Operand 1 of the launch, prepared by the host. -/
def u1 : FVec Ideal S512x64x48 .f32 := V m c main_v5
/-- Operand 2 of the launch, prepared by the host. -/
def u2 : FVec Ideal S48x128 .f32 := V m c main_v7
/-- Operand 3 of the launch, prepared by the host. -/
def u3 : FVec Ideal S1x128 .f32 := V m c main_v47
/-- Operand 4 of the launch, prepared by the host. -/
def u4 : FVec Ideal S128x128 .f32 := V m c main_v9
/-- Operand 5 of the launch, prepared by the host. -/
def u5 : FVec Ideal S1x128 .f32 := V m c main_v48
/-- Operand 6 of the launch, prepared by the host. -/
def u6 : FVec Ideal S128x128 .f32 := V m c main_v11
/-- Operand 7 of the launch, prepared by the host. -/
def u7 : FVec Ideal S1x128 .f32 := V m c main_v49
/-- Operand 8 of the launch, prepared by the host. -/
def u8 : FVec Ideal S128x3 .f32 := V m c main_v12
/-- Operand 9 of the launch, prepared by the host. -/
def u9 : FVec Ideal S1x3 .f32 := V m c main_v50
/-- Operand 10 of the launch, prepared by the host. -/
def u10 : FVec Ideal S3x16x200 .f32 := V m c main_v15
/-- Operand 11 of the launch, prepared by the host. -/
def u11 : FVec Ideal S3x16x1 .f32 := V m c main_v51
/-- Operand 12 of the launch, prepared by the host. -/
def u12 : FVec Ideal S3x16x1 .f32 := V m c main_v52
/-- Operand 13 of the launch, prepared by the host. -/
def u13 : FVec Ideal S3x16x16 .f32 := V m c main_v17
/-- Operand 14 of the launch, prepared by the host. -/
def u14 : FVec Ideal S3x16x1 .f32 := V m c main_v19
/-- Operand 15 of the launch, prepared by the host. -/
def u15 : FVec Ideal S3x16x1 .f32 := V m c main_v21
/-- Operand 16 of the launch, prepared by the host. -/
def u16 : FVec Ideal S3x3x16x144 .f32 := V m c main_v24
/-- Operand 17 of the launch, prepared by the host. -/
def u17 : FVec Ideal S3x3x16x1 .f32 := V m c main_v26
/-- Operand 18 of the launch, prepared by the host. -/
def u18 : FVec Ideal S3x3x16x1 .f32 := V m c main_v28
/-- Operand 19 of the launch, prepared by the host. -/
def u19 : FVec Ideal S3x16x16 .f32 := V m c main_v30
/-- Operand 20 of the launch, prepared by the host. -/
def u20 : FVec Ideal S3x16x1 .f32 := V m c main_v53
/-- Operand 21 of the launch, prepared by the host. -/
def u21 : FVec Ideal S3x16x1 .f32 := V m c main_v54
/-- Operand 22 of the launch, prepared by the host. -/
def u22 : FVec Ideal S3x48x144 .f32 := V m c main_v43
/-- Operand 23 of the launch, prepared by the host. -/
def u23 : FVec Ideal S3x48x1 .f32 := V m c main_v46
/-- The block of operand 0 at a grid point. -/
def b0 : FVec Ideal S3x4096 .f32 := iblk m c 0 t
/-- The block of operand 1 at a grid point. -/
def b1 : FVec Ideal S4x64x48 .f32 := iblk m c 1 t
/-- The block of operand 2 at a grid point. -/
def b2 : FVec Ideal S48x128 .f32 := iblk m c 2 t
/-- The block of operand 3 at a grid point. -/
def b3 : FVec Ideal S1x128 .f32 := iblk m c 3 t
/-- The block of operand 4 at a grid point. -/
def b4 : FVec Ideal S128x128 .f32 := iblk m c 4 t
/-- The block of operand 5 at a grid point. -/
def b5 : FVec Ideal S1x128 .f32 := iblk m c 5 t
/-- The block of operand 6 at a grid point. -/
def b6 : FVec Ideal S128x128 .f32 := iblk m c 6 t
/-- The block of operand 7 at a grid point. -/
def b7 : FVec Ideal S1x128 .f32 := iblk m c 7 t
/-- The block of operand 8 at a grid point. -/
def b8 : FVec Ideal S128x3 .f32 := iblk m c 8 t
/-- The block of operand 9 at a grid point. -/
def b9 : FVec Ideal S1x3 .f32 := iblk m c 9 t
/-- The block of operand 10 at a grid point. -/
def b10 : FVec Ideal S3x16x200 .f32 := iblk m c 10 t
/-- The block of operand 11 at a grid point. -/
def b11 : FVec Ideal S3x16x1 .f32 := iblk m c 11 t
/-- The block of operand 12 at a grid point. -/
def b12 : FVec Ideal S3x16x1 .f32 := iblk m c 12 t
/-- The block of operand 13 at a grid point. -/
def b13 : FVec Ideal S3x16x16 .f32 := iblk m c 13 t
/-- The block of operand 14 at a grid point. -/
def b14 : FVec Ideal S3x16x1 .f32 := iblk m c 14 t
/-- The block of operand 15 at a grid point. -/
def b15 : FVec Ideal S3x16x1 .f32 := iblk m c 15 t
/-- The block of operand 16 at a grid point. -/
def b16 : FVec Ideal S3x3x16x144 .f32 := iblk m c 16 t
/-- The block of operand 17 at a grid point. -/
def b17 : FVec Ideal S3x3x16x1 .f32 := iblk m c 17 t
/-- The block of operand 18 at a grid point. -/
def b18 : FVec Ideal S3x3x16x1 .f32 := iblk m c 18 t
/-- The block of operand 19 at a grid point. -/
def b19 : FVec Ideal S3x16x16 .f32 := iblk m c 19 t
/-- The block of operand 20 at a grid point. -/
def b20 : FVec Ideal S3x16x1 .f32 := iblk m c 20 t
/-- The block of operand 21 at a grid point. -/
def b21 : FVec Ideal S3x16x1 .f32 := iblk m c 21 t
/-- The block of operand 22 at a grid point. -/
def b22 : FVec Ideal S3x48x144 .f32 := iblk m c 22 t
/-- The block of operand 23 at a grid point. -/
def b23 : FVec Ideal S3x48x1 .f32 := iblk m c 23 t

/-- Which block of its array each window reads at a grid point. -/
theorem index : ∀ t : Fin grid0.N, win0_0.index t = ![0, t.val] ∧ win0_1.index t = ![t.val, 0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0, 0] ∧ win0_11.index t = ![0, 0, 0] ∧ win0_12.index t = ![0, 0, 0] ∧ win0_13.index t = ![0, 0, 0] ∧ win0_14.index t = ![0, 0, 0] ∧ win0_15.index t = ![0, 0, 0] ∧ win0_16.index t = ![0, 0, 0, 0] ∧ win0_17.index t = ![0, 0, 0, 0] ∧ win0_18.index t = ![0, 0, 0, 0] ∧ win0_19.index t = ![0, 0, 0] ∧ win0_20.index t = ![0, 0, 0] ∧ win0_21.index t = ![0, 0, 0] ∧ win0_22.index t = ![0, 0, 0] ∧ win0_23.index t = ![0, 0, 0] := by
  decide +kernel

set_option maxHeartbeats 2000000 in
/-- The images' block: four images' lanes. -/
theorem block0 (k : Fin 3) (l : Fin 4096) :
    b0 m c t (ix2 k l) = u0 m c (ix2 k ⟨4096 * t.val + l.val, by have : t.val < 128 := t.isLt; omega⟩) := by
  unfold b0 u0
  blk_ext [iblk, index t]

set_option maxHeartbeats 2000000 in
/-- The patches' block: four images' patches. -/
theorem block1 (i : Fin 4) (p : Fin 64) (q : Fin 48) :
    b1 m c t (ix3 i p q) = u1 m c (ix3 ⟨4 * t.val + i.val, by have : t.val < 128 := t.isLt; omega⟩ p q) := by
  unfold b1 u1
  blk_ext [iblk, index t]

set_option maxHeartbeats 2000000 in
/-- Operand 2 is read whole. -/
theorem block2 : b2 m c t = u2 m c := by
  unfold b2 u2
  funext y
  blk_ext [iblk, index t]

set_option maxHeartbeats 2000000 in
/-- Operand 3 is read whole. -/
theorem block3 : b3 m c t = u3 m c := by
  unfold b3 u3
  funext y
  blk_ext [iblk, index t]

set_option maxHeartbeats 2000000 in
/-- Operand 4 is read whole. -/
theorem block4 : b4 m c t = u4 m c := by
  unfold b4 u4
  funext y
  blk_ext [iblk, index t]

set_option maxHeartbeats 2000000 in
/-- Operand 5 is read whole. -/
theorem block5 : b5 m c t = u5 m c := by
  unfold b5 u5
  funext y
  blk_ext [iblk, index t]

set_option maxHeartbeats 2000000 in
/-- Operand 6 is read whole. -/
theorem block6 : b6 m c t = u6 m c := by
  unfold b6 u6
  funext y
  blk_ext [iblk, index t]

set_option maxHeartbeats 2000000 in
/-- Operand 7 is read whole. -/
theorem block7 : b7 m c t = u7 m c := by
  unfold b7 u7
  funext y
  blk_ext [iblk, index t]

set_option maxHeartbeats 2000000 in
/-- Operand 8 is read whole. -/
theorem block8 : b8 m c t = u8 m c := by
  unfold b8 u8
  funext y
  blk_ext [iblk, index t]

set_option maxHeartbeats 2000000 in
/-- Operand 9 is read whole. -/
theorem block9 : b9 m c t = u9 m c := by
  unfold b9 u9
  funext y
  blk_ext [iblk, index t]

set_option maxHeartbeats 2000000 in
/-- Operand 10 is read whole. -/
theorem block10 : b10 m c t = u10 m c := by
  unfold b10 u10
  funext y
  blk_ext [iblk, index t]

set_option maxHeartbeats 2000000 in
/-- Operand 11 is read whole. -/
theorem block11 : b11 m c t = u11 m c := by
  unfold b11 u11
  funext y
  blk_ext [iblk, index t]

set_option maxHeartbeats 2000000 in
/-- Operand 12 is read whole. -/
theorem block12 : b12 m c t = u12 m c := by
  unfold b12 u12
  funext y
  blk_ext [iblk, index t]

set_option maxHeartbeats 2000000 in
/-- Operand 13 is read whole. -/
theorem block13 : b13 m c t = u13 m c := by
  unfold b13 u13
  funext y
  blk_ext [iblk, index t]

set_option maxHeartbeats 2000000 in
/-- Operand 14 is read whole. -/
theorem block14 : b14 m c t = u14 m c := by
  unfold b14 u14
  funext y
  blk_ext [iblk, index t]

set_option maxHeartbeats 2000000 in
/-- Operand 15 is read whole. -/
theorem block15 : b15 m c t = u15 m c := by
  unfold b15 u15
  funext y
  blk_ext [iblk, index t]

set_option maxHeartbeats 2000000 in
/-- Operand 16 is read whole. -/
theorem block16 : b16 m c t = u16 m c := by
  unfold b16 u16
  funext y
  blk_ext [iblk, index t]

set_option maxHeartbeats 2000000 in
/-- Operand 17 is read whole. -/
theorem block17 : b17 m c t = u17 m c := by
  unfold b17 u17
  funext y
  blk_ext [iblk, index t]

set_option maxHeartbeats 2000000 in
/-- Operand 18 is read whole. -/
theorem block18 : b18 m c t = u18 m c := by
  unfold b18 u18
  funext y
  blk_ext [iblk, index t]

set_option maxHeartbeats 2000000 in
/-- Operand 19 is read whole. -/
theorem block19 : b19 m c t = u19 m c := by
  unfold b19 u19
  funext y
  blk_ext [iblk, index t]

set_option maxHeartbeats 2000000 in
/-- Operand 20 is read whole. -/
theorem block20 : b20 m c t = u20 m c := by
  unfold b20 u20
  funext y
  blk_ext [iblk, index t]

set_option maxHeartbeats 2000000 in
/-- Operand 21 is read whole. -/
theorem block21 : b21 m c t = u21 m c := by
  unfold b21 u21
  funext y
  blk_ext [iblk, index t]

set_option maxHeartbeats 2000000 in
/-- Operand 22 is read whole. -/
theorem block22 : b22 m c t = u22 m c := by
  unfold b22 u22
  funext y
  blk_ext [iblk, index t]

set_option maxHeartbeats 2000000 in
/-- Operand 23 is read whole. -/
theorem block23 : b23 m c t = u23 m c := by
  unfold b23 u23
  funext y
  blk_ext [iblk, index t]

end Cert.KernelIdeal.Entry
-- ==== Proof.Head.lean ====
/- The head: the 5x5 convolution of the selected expert, on the windows. -/
module

public import proofs.«01_k».proof.Proof.Lanes
public import Idealize.ShloMosaic.Lib.Pointwise
public import Idealize.ShloMosaic.Lib.Pipeline.ReadBack

@[expose] public section

set_option maxRecDepth 16384

noncomputable section

namespace Cert.KernelIdeal.Layers

open Cert.KernelIdeal Cert.KernelIdeal.Gen Idealize.ShloMosaic Idealize.ShloMosaic.TcCoe

variable (c : Dev nD)
variable (arg1 : Memref sig .tc .vmem S3x4096 .f32) (harg1 : arg1.IsWhole)
variable (arg2 : Memref sig .tc .vmem S4x64x48 .f32) (harg2 : arg2.IsWhole)
variable (arg3 : Memref sig .tc .vmem S48x128 .f32) (harg3 : arg3.IsWhole)
variable (arg4 : Memref sig .tc .vmem S1x128 .f32) (harg4 : arg4.IsWhole)
variable (arg5 : Memref sig .tc .vmem S128x128 .f32) (harg5 : arg5.IsWhole)
variable (arg6 : Memref sig .tc .vmem S1x128 .f32) (harg6 : arg6.IsWhole)
variable (arg7 : Memref sig .tc .vmem S128x128 .f32) (harg7 : arg7.IsWhole)
variable (arg8 : Memref sig .tc .vmem S1x128 .f32) (harg8 : arg8.IsWhole)
variable (arg9 : Memref sig .tc .vmem S128x3 .f32) (harg9 : arg9.IsWhole)
variable (arg10 : Memref sig .tc .vmem S1x3 .f32) (harg10 : arg10.IsWhole)
variable (arg11 : Memref sig .tc .vmem S3x16x200 .f32) (harg11 : arg11.IsWhole)
variable (arg12 : Memref sig .tc .vmem S3x16x1 .f32) (harg12 : arg12.IsWhole)
variable (arg13 : Memref sig .tc .vmem S3x16x1 .f32) (harg13 : arg13.IsWhole)
variable (arg14 : Memref sig .tc .vmem S3x16x16 .f32) (harg14 : arg14.IsWhole)
variable (arg15 : Memref sig .tc .vmem S3x16x1 .f32) (harg15 : arg15.IsWhole)
variable (arg16 : Memref sig .tc .vmem S3x16x1 .f32) (harg16 : arg16.IsWhole)
variable (arg17 : Memref sig .tc .vmem S3x3x16x144 .f32) (harg17 : arg17.IsWhole)
variable (arg18 : Memref sig .tc .vmem S3x3x16x1 .f32) (harg18 : arg18.IsWhole)
variable (arg19 : Memref sig .tc .vmem S3x3x16x1 .f32) (harg19 : arg19.IsWhole)
variable (arg20 : Memref sig .tc .vmem S3x16x16 .f32) (harg20 : arg20.IsWhole)
variable (arg21 : Memref sig .tc .vmem S3x16x1 .f32) (harg21 : arg21.IsWhole)
variable (arg22 : Memref sig .tc .vmem S3x16x1 .f32) (harg22 : arg22.IsWhole)
variable (arg23 : Memref sig .tc .vmem S3x48x144 .f32) (harg23 : arg23.IsWhole)
variable (arg24 : Memref sig .tc .vmem S3x48x1 .f32) (harg24 : arg24.IsWhole)
variable (arg25 : Memref sig .tc .vmem S4x48x1024 .bf16)
variable (arg26 : Memref sig .tc .vmem S200x4096 .f32)
variable (arg27 : Memref sig .tc .vmem S144x4096 .f32)
variable (x0 : Vec Ideal S3x4096 .f32)
variable (x1 : Vec Ideal S4x64x48 .f32)
variable (x2 : Vec Ideal S48x128 .f32)
variable (x3 : Vec Ideal S1x128 .f32)
variable (x4 : Vec Ideal S128x128 .f32)
variable (x5 : Vec Ideal S1x128 .f32)
variable (x6 : Vec Ideal S128x128 .f32)
variable (x7 : Vec Ideal S1x128 .f32)
variable (x8 : Vec Ideal S128x3 .f32)
variable (x9 : Vec Ideal S1x3 .f32)
variable (x10 : Vec Ideal S3x16x200 .f32)
variable (x11 : Vec Ideal S3x16x1 .f32)
variable (x12 : Vec Ideal S3x16x1 .f32)
variable (x13 : Vec Ideal S3x16x16 .f32)
variable (x14 : Vec Ideal S3x16x1 .f32)
variable (x15 : Vec Ideal S3x16x1 .f32)
variable (x16 : Vec Ideal S3x3x16x144 .f32)
variable (x17 : Vec Ideal S3x3x16x1 .f32)
variable (x18 : Vec Ideal S3x3x16x1 .f32)
variable (x19 : Vec Ideal S3x16x16 .f32)
variable (x20 : Vec Ideal S3x16x1 .f32)
variable (x21 : Vec Ideal S3x16x1 .f32)
variable (x22 : Vec Ideal S3x48x144 .f32)
variable (x23 : Vec Ideal S3x48x1 .f32)

set_option maxHeartbeats 20000000 in
/-- The head: the 5x5 convolution of the selected expert, on the windows. -/
theorem head_eq (o : Fin 16) (l : Fin 4096) :
    (kernelRun0_A.sl.r_34 (F := Ideal) c arg1 harg1 arg2 harg2 arg3 harg3 arg4 harg4 arg5 harg5 arg6 harg6 arg7 harg7 arg8 harg8 arg9 harg9 arg10 harg10 arg11 harg11 arg12 harg12 arg13 harg13 arg26 x0 x1 x2 x3 x4 x5 x6 x7 x8 x9 x10 x11 x12) (ix2 o l)
      = act (mix (kernelRun0_A.sl.r_2 (F := Ideal) c arg2 harg2 arg3 harg3 arg4 harg4 arg5 harg5 arg6 harg6 arg7 harg7 arg8 harg8 arg9 harg9 arg10 harg10 x1 x2 x3 x4 x5 x6 x7 x8 x9) (img l) fun e => x12 (ix3 e o 0))
          ((∑ k : Fin 200, mix (kernelRun0_A.sl.r_2 (F := Ideal) c arg2 harg2 arg3 harg3 arg4 harg4 arg5 harg5 arg6 harg6 arg7 harg7 arg8 harg8 arg9 harg9 arg10 harg10 x1 x2 x3 x4 x5 x6 x7 x8 x9) (img l) (fun e => x10 (ix3 e o k)) * (kernelRun0_A.sl.v820 (F := Ideal) c arg1 harg1 arg26 x0) (ix2 k l))
            + mix (kernelRun0_A.sl.r_2 (F := Ideal) c arg2 harg2 arg3 harg3 arg4 harg4 arg5 harg5 arg6 harg6 arg7 harg7 arg8 harg8 arg9 harg9 arg10 harg10 x1 x2 x3 x4 x5 x6 x7 x8 x9) (img l) fun e => x11 (ix3 e o 0)) := by
  unfold kernelRun0_A.sl.r_34 kernelRun0_A.sl.r_33 kernelRun0_A.sl.r_32 kernelRun0_A.sl.r_31 kernelRun0_A.sl.r_30 kernelRun0_A.sl.r_29 kernelRun0_A.sl.r_28 kernelRun0_A.sl.r_27 kernelRun0_A.sl.r_26 kernelRun0_A.sl.r_25 kernelRun0_A.sl.r_24 kernelRun0_A.sl.r_23 kernelRun0_A.sl.r_22 kernelRun0_A.sl.r_21 kernelRun0_A.sl.r_20 kernelRun0_A.sl.r_19 kernelRun0_A.sl.r_18 kernelRun0_A.sl.r_17 kernelRun0_A.sl.r_16 kernelRun0_A.sl.r_15 kernelRun0_A.sl.r_14 kernelRun0_A.sl.r_13 kernelRun0_A.sl.r_12 kernelRun0_A.sl.r_11 kernelRun0_A.sl.r_10
  generalize kernelRun0_A.sl.v820 (F := Ideal) c arg1 harg1 arg26 x0 = P
  generalize kernelRun0_A.sl.r_2 (F := Ideal) c arg2 harg2 arg3 harg3 arg4 harg4 arg5 harg5 arg6 harg6 arg7 harg7 arg8 harg8 arg9 harg9 arg10 harg10 x1 x2 x3 x4 x5 x6 x7 x8 x9 = cf
  simp only [View.readAt_eq_ld]
  pointwise [k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123]
  simp only [Memref.IsWhole.read_unread, act, mix]
  rcases lane_cases l with ⟨h, hi⟩ | ⟨h, h', hi⟩ | ⟨h, h', hi⟩ | ⟨h, hi⟩ <;>
    simp (disch := omega) only [if_pos, if_neg, dif_pos, dif_neg, hi, lane_one, lane_two, lane_three] <;> rfl

end Cert.KernelIdeal.Layers
-- ==== Proof.Shrink.lean ====
/- The shrinking layer of the selected expert. -/
module

public import proofs.«01_k».proof.Proof.Lanes
public import Idealize.ShloMosaic.Lib.Pointwise
public import Idealize.ShloMosaic.Lib.Pipeline.ReadBack

@[expose] public section

set_option maxRecDepth 16384

noncomputable section

namespace Cert.KernelIdeal.Layers

open Cert.KernelIdeal Cert.KernelIdeal.Gen Idealize.ShloMosaic Idealize.ShloMosaic.TcCoe

variable (c : Dev nD)
variable (arg1 : Memref sig .tc .vmem S3x4096 .f32) (harg1 : arg1.IsWhole)
variable (arg2 : Memref sig .tc .vmem S4x64x48 .f32) (harg2 : arg2.IsWhole)
variable (arg3 : Memref sig .tc .vmem S48x128 .f32) (harg3 : arg3.IsWhole)
variable (arg4 : Memref sig .tc .vmem S1x128 .f32) (harg4 : arg4.IsWhole)
variable (arg5 : Memref sig .tc .vmem S128x128 .f32) (harg5 : arg5.IsWhole)
variable (arg6 : Memref sig .tc .vmem S1x128 .f32) (harg6 : arg6.IsWhole)
variable (arg7 : Memref sig .tc .vmem S128x128 .f32) (harg7 : arg7.IsWhole)
variable (arg8 : Memref sig .tc .vmem S1x128 .f32) (harg8 : arg8.IsWhole)
variable (arg9 : Memref sig .tc .vmem S128x3 .f32) (harg9 : arg9.IsWhole)
variable (arg10 : Memref sig .tc .vmem S1x3 .f32) (harg10 : arg10.IsWhole)
variable (arg11 : Memref sig .tc .vmem S3x16x200 .f32) (harg11 : arg11.IsWhole)
variable (arg12 : Memref sig .tc .vmem S3x16x1 .f32) (harg12 : arg12.IsWhole)
variable (arg13 : Memref sig .tc .vmem S3x16x1 .f32) (harg13 : arg13.IsWhole)
variable (arg14 : Memref sig .tc .vmem S3x16x16 .f32) (harg14 : arg14.IsWhole)
variable (arg15 : Memref sig .tc .vmem S3x16x1 .f32) (harg15 : arg15.IsWhole)
variable (arg16 : Memref sig .tc .vmem S3x16x1 .f32) (harg16 : arg16.IsWhole)
variable (arg17 : Memref sig .tc .vmem S3x3x16x144 .f32) (harg17 : arg17.IsWhole)
variable (arg18 : Memref sig .tc .vmem S3x3x16x1 .f32) (harg18 : arg18.IsWhole)
variable (arg19 : Memref sig .tc .vmem S3x3x16x1 .f32) (harg19 : arg19.IsWhole)
variable (arg20 : Memref sig .tc .vmem S3x16x16 .f32) (harg20 : arg20.IsWhole)
variable (arg21 : Memref sig .tc .vmem S3x16x1 .f32) (harg21 : arg21.IsWhole)
variable (arg22 : Memref sig .tc .vmem S3x16x1 .f32) (harg22 : arg22.IsWhole)
variable (arg23 : Memref sig .tc .vmem S3x48x144 .f32) (harg23 : arg23.IsWhole)
variable (arg24 : Memref sig .tc .vmem S3x48x1 .f32) (harg24 : arg24.IsWhole)
variable (arg25 : Memref sig .tc .vmem S4x48x1024 .bf16)
variable (arg26 : Memref sig .tc .vmem S200x4096 .f32)
variable (arg27 : Memref sig .tc .vmem S144x4096 .f32)
variable (x0 : Vec Ideal S3x4096 .f32)
variable (x1 : Vec Ideal S4x64x48 .f32)
variable (x2 : Vec Ideal S48x128 .f32)
variable (x3 : Vec Ideal S1x128 .f32)
variable (x4 : Vec Ideal S128x128 .f32)
variable (x5 : Vec Ideal S1x128 .f32)
variable (x6 : Vec Ideal S128x128 .f32)
variable (x7 : Vec Ideal S1x128 .f32)
variable (x8 : Vec Ideal S128x3 .f32)
variable (x9 : Vec Ideal S1x3 .f32)
variable (x10 : Vec Ideal S3x16x200 .f32)
variable (x11 : Vec Ideal S3x16x1 .f32)
variable (x12 : Vec Ideal S3x16x1 .f32)
variable (x13 : Vec Ideal S3x16x16 .f32)
variable (x14 : Vec Ideal S3x16x1 .f32)
variable (x15 : Vec Ideal S3x16x1 .f32)
variable (x16 : Vec Ideal S3x3x16x144 .f32)
variable (x17 : Vec Ideal S3x3x16x1 .f32)
variable (x18 : Vec Ideal S3x3x16x1 .f32)
variable (x19 : Vec Ideal S3x16x16 .f32)
variable (x20 : Vec Ideal S3x16x1 .f32)
variable (x21 : Vec Ideal S3x16x1 .f32)
variable (x22 : Vec Ideal S3x48x144 .f32)
variable (x23 : Vec Ideal S3x48x1 .f32)

set_option maxHeartbeats 20000000 in
/-- The shrinking layer of the selected expert. -/
theorem shrink_eq (o : Fin 16) (l : Fin 4096) :
    (kernelRun0_A.sl.r_61 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg26 x0 x1 x2 x3 x4 x5 x6 x7 x8 x9 x10 x11 x12 x13 x14 x15) (ix2 o ⟨33 + l.val, by have := l.isLt; omega⟩)
      = act (mix (kernelRun0_A.sl.r_2 (F := Ideal) c arg2 harg2 arg3 harg3 arg4 harg4 arg5 harg5 arg6 harg6 arg7 harg7 arg8 harg8 arg9 harg9 arg10 harg10 x1 x2 x3 x4 x5 x6 x7 x8 x9) (img l) fun e => x15 (ix3 e o 0))
          ((∑ k : Fin 16, mix (kernelRun0_A.sl.r_2 (F := Ideal) c arg2 harg2 arg3 harg3 arg4 harg4 arg5 harg5 arg6 harg6 arg7 harg7 arg8 harg8 arg9 harg9 arg10 harg10 x1 x2 x3 x4 x5 x6 x7 x8 x9) (img l) (fun e => x13 (ix3 e o k)) * (kernelRun0_A.sl.r_34 (F := Ideal) c arg1 harg1 arg2 harg2 arg3 harg3 arg4 harg4 arg5 harg5 arg6 harg6 arg7 harg7 arg8 harg8 arg9 harg9 arg10 harg10 arg11 harg11 arg12 harg12 arg13 harg13 arg26 x0 x1 x2 x3 x4 x5 x6 x7 x8 x9 x10 x11 x12) (ix2 k l))
            + mix (kernelRun0_A.sl.r_2 (F := Ideal) c arg2 harg2 arg3 harg3 arg4 harg4 arg5 harg5 arg6 harg6 arg7 harg7 arg8 harg8 arg9 harg9 arg10 harg10 x1 x2 x3 x4 x5 x6 x7 x8 x9) (img l) fun e => x14 (ix3 e o 0)) := by
  unfold kernelRun0_A.sl.r_61 kernelRun0_A.sl.r_60 kernelRun0_A.sl.r_59 kernelRun0_A.sl.r_58 kernelRun0_A.sl.r_57 kernelRun0_A.sl.r_56 kernelRun0_A.sl.r_55 kernelRun0_A.sl.r_54 kernelRun0_A.sl.r_53 kernelRun0_A.sl.r_52 kernelRun0_A.sl.r_51 kernelRun0_A.sl.r_50 kernelRun0_A.sl.r_49 kernelRun0_A.sl.r_48 kernelRun0_A.sl.r_47 kernelRun0_A.sl.r_46 kernelRun0_A.sl.r_45 kernelRun0_A.sl.r_44 kernelRun0_A.sl.r_43 kernelRun0_A.sl.r_42 kernelRun0_A.sl.r_41 kernelRun0_A.sl.r_40 kernelRun0_A.sl.r_39 kernelRun0_A.sl.r_38 kernelRun0_A.sl.r_37 kernelRun0_A.sl.r_36 kernelRun0_A.sl.r_35 kernelRun0_A.sl.r_34 k0_pay127
  generalize k0_pay123 (F := Ideal) _ _ _ _ _ _ _ _ _ = P
  generalize kernelRun0_A.sl.r_2 (F := Ideal) c arg2 harg2 arg3 harg3 arg4 harg4 arg5 harg5 arg6 harg6 arg7 harg7 arg8 harg8 arg9 harg9 arg10 harg10 x1 x2 x3 x4 x5 x6 x7 x8 x9 = cf
  simp only [View.readAt_eq_ld]
  pointwise [k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150]
  simp only [Memref.IsWhole.read_unread, act, mix]
  rcases lane_cases l with ⟨h, hi⟩ | ⟨h, h', hi⟩ | ⟨h, h', hi⟩ | ⟨h, hi⟩ <;>
    simp (disch := omega) only [if_pos, if_neg, dif_pos, dif_neg, hi, lane_one, lane_two, lane_three, Nat.add_sub_cancel_left] <;> rfl

end Cert.KernelIdeal.Layers
-- ==== Proof.MapA.lean ====
/- The first mapping layer of the selected expert, on the windows. -/
module

public import proofs.«01_k».proof.Proof.Lanes
public import Idealize.ShloMosaic.Lib.Pointwise
public import Idealize.ShloMosaic.Lib.Pipeline.ReadBack

@[expose] public section

set_option maxRecDepth 16384

noncomputable section

namespace Cert.KernelIdeal.Layers

open Cert.KernelIdeal Cert.KernelIdeal.Gen Idealize.ShloMosaic Idealize.ShloMosaic.TcCoe

variable (c : Dev nD)
variable (arg1 : Memref sig .tc .vmem S3x4096 .f32) (harg1 : arg1.IsWhole)
variable (arg2 : Memref sig .tc .vmem S4x64x48 .f32) (harg2 : arg2.IsWhole)
variable (arg3 : Memref sig .tc .vmem S48x128 .f32) (harg3 : arg3.IsWhole)
variable (arg4 : Memref sig .tc .vmem S1x128 .f32) (harg4 : arg4.IsWhole)
variable (arg5 : Memref sig .tc .vmem S128x128 .f32) (harg5 : arg5.IsWhole)
variable (arg6 : Memref sig .tc .vmem S1x128 .f32) (harg6 : arg6.IsWhole)
variable (arg7 : Memref sig .tc .vmem S128x128 .f32) (harg7 : arg7.IsWhole)
variable (arg8 : Memref sig .tc .vmem S1x128 .f32) (harg8 : arg8.IsWhole)
variable (arg9 : Memref sig .tc .vmem S128x3 .f32) (harg9 : arg9.IsWhole)
variable (arg10 : Memref sig .tc .vmem S1x3 .f32) (harg10 : arg10.IsWhole)
variable (arg11 : Memref sig .tc .vmem S3x16x200 .f32) (harg11 : arg11.IsWhole)
variable (arg12 : Memref sig .tc .vmem S3x16x1 .f32) (harg12 : arg12.IsWhole)
variable (arg13 : Memref sig .tc .vmem S3x16x1 .f32) (harg13 : arg13.IsWhole)
variable (arg14 : Memref sig .tc .vmem S3x16x16 .f32) (harg14 : arg14.IsWhole)
variable (arg15 : Memref sig .tc .vmem S3x16x1 .f32) (harg15 : arg15.IsWhole)
variable (arg16 : Memref sig .tc .vmem S3x16x1 .f32) (harg16 : arg16.IsWhole)
variable (arg17 : Memref sig .tc .vmem S3x3x16x144 .f32) (harg17 : arg17.IsWhole)
variable (arg18 : Memref sig .tc .vmem S3x3x16x1 .f32) (harg18 : arg18.IsWhole)
variable (arg19 : Memref sig .tc .vmem S3x3x16x1 .f32) (harg19 : arg19.IsWhole)
variable (arg20 : Memref sig .tc .vmem S3x16x16 .f32) (harg20 : arg20.IsWhole)
variable (arg21 : Memref sig .tc .vmem S3x16x1 .f32) (harg21 : arg21.IsWhole)
variable (arg22 : Memref sig .tc .vmem S3x16x1 .f32) (harg22 : arg22.IsWhole)
variable (arg23 : Memref sig .tc .vmem S3x48x144 .f32) (harg23 : arg23.IsWhole)
variable (arg24 : Memref sig .tc .vmem S3x48x1 .f32) (harg24 : arg24.IsWhole)
variable (arg25 : Memref sig .tc .vmem S4x48x1024 .bf16)
variable (arg26 : Memref sig .tc .vmem S200x4096 .f32)
variable (arg27 : Memref sig .tc .vmem S144x4096 .f32)
variable (x0 : Vec Ideal S3x4096 .f32)
variable (x1 : Vec Ideal S4x64x48 .f32)
variable (x2 : Vec Ideal S48x128 .f32)
variable (x3 : Vec Ideal S1x128 .f32)
variable (x4 : Vec Ideal S128x128 .f32)
variable (x5 : Vec Ideal S1x128 .f32)
variable (x6 : Vec Ideal S128x128 .f32)
variable (x7 : Vec Ideal S1x128 .f32)
variable (x8 : Vec Ideal S128x3 .f32)
variable (x9 : Vec Ideal S1x3 .f32)
variable (x10 : Vec Ideal S3x16x200 .f32)
variable (x11 : Vec Ideal S3x16x1 .f32)
variable (x12 : Vec Ideal S3x16x1 .f32)
variable (x13 : Vec Ideal S3x16x16 .f32)
variable (x14 : Vec Ideal S3x16x1 .f32)
variable (x15 : Vec Ideal S3x16x1 .f32)
variable (x16 : Vec Ideal S3x3x16x144 .f32)
variable (x17 : Vec Ideal S3x3x16x1 .f32)
variable (x18 : Vec Ideal S3x3x16x1 .f32)
variable (x19 : Vec Ideal S3x16x16 .f32)
variable (x20 : Vec Ideal S3x16x1 .f32)
variable (x21 : Vec Ideal S3x16x1 .f32)
variable (x22 : Vec Ideal S3x48x144 .f32)
variable (x23 : Vec Ideal S3x48x1 .f32)

set_option maxHeartbeats 20000000 in
/-- The first mapping layer of the selected expert, on the windows. -/
theorem map_first (o : Fin 16) (l : Fin 4096) :
    (kernelRun0_A.sl.r_91 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg26 arg27 x0 x1 x2 x3 x4 x5 x6 x7 x8 x9 x10 x11 x12 x13 x14 x15 x16 x17 x18) (ix2 o ⟨33 + l.val, by have := l.isLt; omega⟩)
      = act (mix (kernelRun0_A.sl.r_2 (F := Ideal) c arg2 harg2 arg3 harg3 arg4 harg4 arg5 harg5 arg6 harg6 arg7 harg7 arg8 harg8 arg9 harg9 arg10 harg10 x1 x2 x3 x4 x5 x6 x7 x8 x9) (img l) fun e => x18 (ix4 e 0 o 0))
          ((∑ k : Fin 144, mix (kernelRun0_A.sl.r_2 (F := Ideal) c arg2 harg2 arg3 harg3 arg4 harg4 arg5 harg5 arg6 harg6 arg7 harg7 arg8 harg8 arg9 harg9 arg10 harg10 x1 x2 x3 x4 x5 x6 x7 x8 x9) (img l) (fun e => x16 (ix4 e 0 o k)) * (kernelRun0_A.sl.v1328 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg26 arg27 x0 x1 x2 x3 x4 x5 x6 x7 x8 x9 x10 x11 x12 x13 x14 x15) (ix2 k l))
            + mix (kernelRun0_A.sl.r_2 (F := Ideal) c arg2 harg2 arg3 harg3 arg4 harg4 arg5 harg5 arg6 harg6 arg7 harg7 arg8 harg8 arg9 harg9 arg10 harg10 x1 x2 x3 x4 x5 x6 x7 x8 x9) (img l) fun e => x17 (ix4 e 0 o 0)) := by
  unfold kernelRun0_A.sl.r_91 kernelRun0_A.sl.r_90 kernelRun0_A.sl.r_89 kernelRun0_A.sl.r_88 kernelRun0_A.sl.r_87 kernelRun0_A.sl.r_86 kernelRun0_A.sl.r_85 kernelRun0_A.sl.r_84 kernelRun0_A.sl.r_83 kernelRun0_A.sl.r_82 kernelRun0_A.sl.r_81 kernelRun0_A.sl.r_80 kernelRun0_A.sl.r_79 kernelRun0_A.sl.r_78 kernelRun0_A.sl.r_77 kernelRun0_A.sl.r_76 kernelRun0_A.sl.r_75 kernelRun0_A.sl.r_74 kernelRun0_A.sl.r_73 kernelRun0_A.sl.r_72 kernelRun0_A.sl.r_71 kernelRun0_A.sl.r_70 kernelRun0_A.sl.r_69 kernelRun0_A.sl.r_68 kernelRun0_A.sl.r_67 kernelRun0_A.sl.r_66 kernelRun0_A.sl.r_65 kernelRun0_A.sl.r_64 kernelRun0_A.sl.r_63
  generalize kernelRun0_A.sl.v1328 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg26 arg27 x0 x1 x2 x3 x4 x5 x6 x7 x8 x9 x10 x11 x12 x13 x14 x15 = P
  generalize kernelRun0_A.sl.r_2 (F := Ideal) c arg2 harg2 arg3 harg3 arg4 harg4 arg5 harg5 arg6 harg6 arg7 harg7 arg8 harg8 arg9 harg9 arg10 harg10 x1 x2 x3 x4 x5 x6 x7 x8 x9 = cf
  simp only [View.readAt_eq_ld]
  pointwise [k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193]
  simp only [Memref.IsWhole.read_unread, act, mix]
  rcases lane_cases l with ⟨h, hi⟩ | ⟨h, h', hi⟩ | ⟨h, h', hi⟩ | ⟨h, hi⟩ <;>
    simp (disch := omega) only [if_pos, if_neg, dif_pos, dif_neg, hi, lane_one, lane_two, lane_three, Nat.add_sub_cancel_left] <;> rfl

end Cert.KernelIdeal.Layers
-- ==== Proof.MapB.lean ====
/- The second mapping layer of the selected expert, on the windows. -/
module

public import proofs.«01_k».proof.Proof.Lanes
public import Idealize.ShloMosaic.Lib.Pointwise
public import Idealize.ShloMosaic.Lib.Pipeline.ReadBack

@[expose] public section

set_option maxRecDepth 16384

noncomputable section

namespace Cert.KernelIdeal.Layers

open Cert.KernelIdeal Cert.KernelIdeal.Gen Idealize.ShloMosaic Idealize.ShloMosaic.TcCoe

variable (c : Dev nD)
variable (arg1 : Memref sig .tc .vmem S3x4096 .f32) (harg1 : arg1.IsWhole)
variable (arg2 : Memref sig .tc .vmem S4x64x48 .f32) (harg2 : arg2.IsWhole)
variable (arg3 : Memref sig .tc .vmem S48x128 .f32) (harg3 : arg3.IsWhole)
variable (arg4 : Memref sig .tc .vmem S1x128 .f32) (harg4 : arg4.IsWhole)
variable (arg5 : Memref sig .tc .vmem S128x128 .f32) (harg5 : arg5.IsWhole)
variable (arg6 : Memref sig .tc .vmem S1x128 .f32) (harg6 : arg6.IsWhole)
variable (arg7 : Memref sig .tc .vmem S128x128 .f32) (harg7 : arg7.IsWhole)
variable (arg8 : Memref sig .tc .vmem S1x128 .f32) (harg8 : arg8.IsWhole)
variable (arg9 : Memref sig .tc .vmem S128x3 .f32) (harg9 : arg9.IsWhole)
variable (arg10 : Memref sig .tc .vmem S1x3 .f32) (harg10 : arg10.IsWhole)
variable (arg11 : Memref sig .tc .vmem S3x16x200 .f32) (harg11 : arg11.IsWhole)
variable (arg12 : Memref sig .tc .vmem S3x16x1 .f32) (harg12 : arg12.IsWhole)
variable (arg13 : Memref sig .tc .vmem S3x16x1 .f32) (harg13 : arg13.IsWhole)
variable (arg14 : Memref sig .tc .vmem S3x16x16 .f32) (harg14 : arg14.IsWhole)
variable (arg15 : Memref sig .tc .vmem S3x16x1 .f32) (harg15 : arg15.IsWhole)
variable (arg16 : Memref sig .tc .vmem S3x16x1 .f32) (harg16 : arg16.IsWhole)
variable (arg17 : Memref sig .tc .vmem S3x3x16x144 .f32) (harg17 : arg17.IsWhole)
variable (arg18 : Memref sig .tc .vmem S3x3x16x1 .f32) (harg18 : arg18.IsWhole)
variable (arg19 : Memref sig .tc .vmem S3x3x16x1 .f32) (harg19 : arg19.IsWhole)
variable (arg20 : Memref sig .tc .vmem S3x16x16 .f32) (harg20 : arg20.IsWhole)
variable (arg21 : Memref sig .tc .vmem S3x16x1 .f32) (harg21 : arg21.IsWhole)
variable (arg22 : Memref sig .tc .vmem S3x16x1 .f32) (harg22 : arg22.IsWhole)
variable (arg23 : Memref sig .tc .vmem S3x48x144 .f32) (harg23 : arg23.IsWhole)
variable (arg24 : Memref sig .tc .vmem S3x48x1 .f32) (harg24 : arg24.IsWhole)
variable (arg25 : Memref sig .tc .vmem S4x48x1024 .bf16)
variable (arg26 : Memref sig .tc .vmem S200x4096 .f32)
variable (arg27 : Memref sig .tc .vmem S144x4096 .f32)
variable (x0 : Vec Ideal S3x4096 .f32)
variable (x1 : Vec Ideal S4x64x48 .f32)
variable (x2 : Vec Ideal S48x128 .f32)
variable (x3 : Vec Ideal S1x128 .f32)
variable (x4 : Vec Ideal S128x128 .f32)
variable (x5 : Vec Ideal S1x128 .f32)
variable (x6 : Vec Ideal S128x128 .f32)
variable (x7 : Vec Ideal S1x128 .f32)
variable (x8 : Vec Ideal S128x3 .f32)
variable (x9 : Vec Ideal S1x3 .f32)
variable (x10 : Vec Ideal S3x16x200 .f32)
variable (x11 : Vec Ideal S3x16x1 .f32)
variable (x12 : Vec Ideal S3x16x1 .f32)
variable (x13 : Vec Ideal S3x16x16 .f32)
variable (x14 : Vec Ideal S3x16x1 .f32)
variable (x15 : Vec Ideal S3x16x1 .f32)
variable (x16 : Vec Ideal S3x3x16x144 .f32)
variable (x17 : Vec Ideal S3x3x16x1 .f32)
variable (x18 : Vec Ideal S3x3x16x1 .f32)
variable (x19 : Vec Ideal S3x16x16 .f32)
variable (x20 : Vec Ideal S3x16x1 .f32)
variable (x21 : Vec Ideal S3x16x1 .f32)
variable (x22 : Vec Ideal S3x48x144 .f32)
variable (x23 : Vec Ideal S3x48x1 .f32)

set_option maxHeartbeats 20000000 in
/-- The second mapping layer of the selected expert, on the windows. -/
theorem map_second (o : Fin 16) (l : Fin 4096) :
    (kernelRun0_A.sl.r_120 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg26 arg27 x0 x1 x2 x3 x4 x5 x6 x7 x8 x9 x10 x11 x12 x13 x14 x15 x16 x17 x18) (ix2 o ⟨33 + l.val, by have := l.isLt; omega⟩)
      = act (mix (kernelRun0_A.sl.r_2 (F := Ideal) c arg2 harg2 arg3 harg3 arg4 harg4 arg5 harg5 arg6 harg6 arg7 harg7 arg8 harg8 arg9 harg9 arg10 harg10 x1 x2 x3 x4 x5 x6 x7 x8 x9) (img l) fun e => x18 (ix4 e 1 o 0))
          ((∑ k : Fin 144, mix (kernelRun0_A.sl.r_2 (F := Ideal) c arg2 harg2 arg3 harg3 arg4 harg4 arg5 harg5 arg6 harg6 arg7 harg7 arg8 harg8 arg9 harg9 arg10 harg10 x1 x2 x3 x4 x5 x6 x7 x8 x9) (img l) (fun e => x16 (ix4 e 1 o k)) * (kernelRun0_A.sl.v1619 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg26 arg27 x0 x1 x2 x3 x4 x5 x6 x7 x8 x9 x10 x11 x12 x13 x14 x15 x16 x17 x18) (ix2 k l))
            + mix (kernelRun0_A.sl.r_2 (F := Ideal) c arg2 harg2 arg3 harg3 arg4 harg4 arg5 harg5 arg6 harg6 arg7 harg7 arg8 harg8 arg9 harg9 arg10 harg10 x1 x2 x3 x4 x5 x6 x7 x8 x9) (img l) fun e => x17 (ix4 e 1 o 0)) := by
  unfold kernelRun0_A.sl.r_120 kernelRun0_A.sl.r_119 kernelRun0_A.sl.r_118 kernelRun0_A.sl.r_117 kernelRun0_A.sl.r_116 kernelRun0_A.sl.r_115 kernelRun0_A.sl.r_114 kernelRun0_A.sl.r_113 kernelRun0_A.sl.r_112 kernelRun0_A.sl.r_111 kernelRun0_A.sl.r_110 kernelRun0_A.sl.r_109 kernelRun0_A.sl.r_108 kernelRun0_A.sl.r_107 kernelRun0_A.sl.r_106 kernelRun0_A.sl.r_105 kernelRun0_A.sl.r_104 kernelRun0_A.sl.r_103 kernelRun0_A.sl.r_102 kernelRun0_A.sl.r_101 kernelRun0_A.sl.r_100 kernelRun0_A.sl.r_99 kernelRun0_A.sl.r_98 kernelRun0_A.sl.r_97 kernelRun0_A.sl.r_96 kernelRun0_A.sl.r_95 kernelRun0_A.sl.r_94 kernelRun0_A.sl.r_93
  generalize kernelRun0_A.sl.v1619 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg26 arg27 x0 x1 x2 x3 x4 x5 x6 x7 x8 x9 x10 x11 x12 x13 x14 x15 x16 x17 x18 = P
  generalize kernelRun0_A.sl.r_2 (F := Ideal) c arg2 harg2 arg3 harg3 arg4 harg4 arg5 harg5 arg6 harg6 arg7 harg7 arg8 harg8 arg9 harg9 arg10 harg10 x1 x2 x3 x4 x5 x6 x7 x8 x9 = cf
  simp only [View.readAt_eq_ld]
  pointwise [k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231]
  simp only [Memref.IsWhole.read_unread, act, mix]
  rcases lane_cases l with ⟨h, hi⟩ | ⟨h, h', hi⟩ | ⟨h, h', hi⟩ | ⟨h, hi⟩ <;>
    simp (disch := omega) only [if_pos, if_neg, dif_pos, dif_neg, hi, lane_one, lane_two, lane_three, Nat.add_sub_cancel_left] <;> rfl

end Cert.KernelIdeal.Layers
-- ==== Proof.MapC.lean ====
/- The third mapping layer of the selected expert, on the windows. -/
module

public import proofs.«01_k».proof.Proof.Lanes
public import Idealize.ShloMosaic.Lib.Pointwise
public import Idealize.ShloMosaic.Lib.Pipeline.ReadBack

@[expose] public section

set_option maxRecDepth 16384

noncomputable section

namespace Cert.KernelIdeal.Layers

open Cert.KernelIdeal Cert.KernelIdeal.Gen Idealize.ShloMosaic Idealize.ShloMosaic.TcCoe

variable (c : Dev nD)
variable (arg1 : Memref sig .tc .vmem S3x4096 .f32) (harg1 : arg1.IsWhole)
variable (arg2 : Memref sig .tc .vmem S4x64x48 .f32) (harg2 : arg2.IsWhole)
variable (arg3 : Memref sig .tc .vmem S48x128 .f32) (harg3 : arg3.IsWhole)
variable (arg4 : Memref sig .tc .vmem S1x128 .f32) (harg4 : arg4.IsWhole)
variable (arg5 : Memref sig .tc .vmem S128x128 .f32) (harg5 : arg5.IsWhole)
variable (arg6 : Memref sig .tc .vmem S1x128 .f32) (harg6 : arg6.IsWhole)
variable (arg7 : Memref sig .tc .vmem S128x128 .f32) (harg7 : arg7.IsWhole)
variable (arg8 : Memref sig .tc .vmem S1x128 .f32) (harg8 : arg8.IsWhole)
variable (arg9 : Memref sig .tc .vmem S128x3 .f32) (harg9 : arg9.IsWhole)
variable (arg10 : Memref sig .tc .vmem S1x3 .f32) (harg10 : arg10.IsWhole)
variable (arg11 : Memref sig .tc .vmem S3x16x200 .f32) (harg11 : arg11.IsWhole)
variable (arg12 : Memref sig .tc .vmem S3x16x1 .f32) (harg12 : arg12.IsWhole)
variable (arg13 : Memref sig .tc .vmem S3x16x1 .f32) (harg13 : arg13.IsWhole)
variable (arg14 : Memref sig .tc .vmem S3x16x16 .f32) (harg14 : arg14.IsWhole)
variable (arg15 : Memref sig .tc .vmem S3x16x1 .f32) (harg15 : arg15.IsWhole)
variable (arg16 : Memref sig .tc .vmem S3x16x1 .f32) (harg16 : arg16.IsWhole)
variable (arg17 : Memref sig .tc .vmem S3x3x16x144 .f32) (harg17 : arg17.IsWhole)
variable (arg18 : Memref sig .tc .vmem S3x3x16x1 .f32) (harg18 : arg18.IsWhole)
variable (arg19 : Memref sig .tc .vmem S3x3x16x1 .f32) (harg19 : arg19.IsWhole)
variable (arg20 : Memref sig .tc .vmem S3x16x16 .f32) (harg20 : arg20.IsWhole)
variable (arg21 : Memref sig .tc .vmem S3x16x1 .f32) (harg21 : arg21.IsWhole)
variable (arg22 : Memref sig .tc .vmem S3x16x1 .f32) (harg22 : arg22.IsWhole)
variable (arg23 : Memref sig .tc .vmem S3x48x144 .f32) (harg23 : arg23.IsWhole)
variable (arg24 : Memref sig .tc .vmem S3x48x1 .f32) (harg24 : arg24.IsWhole)
variable (arg25 : Memref sig .tc .vmem S4x48x1024 .bf16)
variable (arg26 : Memref sig .tc .vmem S200x4096 .f32)
variable (arg27 : Memref sig .tc .vmem S144x4096 .f32)
variable (x0 : Vec Ideal S3x4096 .f32)
variable (x1 : Vec Ideal S4x64x48 .f32)
variable (x2 : Vec Ideal S48x128 .f32)
variable (x3 : Vec Ideal S1x128 .f32)
variable (x4 : Vec Ideal S128x128 .f32)
variable (x5 : Vec Ideal S1x128 .f32)
variable (x6 : Vec Ideal S128x128 .f32)
variable (x7 : Vec Ideal S1x128 .f32)
variable (x8 : Vec Ideal S128x3 .f32)
variable (x9 : Vec Ideal S1x3 .f32)
variable (x10 : Vec Ideal S3x16x200 .f32)
variable (x11 : Vec Ideal S3x16x1 .f32)
variable (x12 : Vec Ideal S3x16x1 .f32)
variable (x13 : Vec Ideal S3x16x16 .f32)
variable (x14 : Vec Ideal S3x16x1 .f32)
variable (x15 : Vec Ideal S3x16x1 .f32)
variable (x16 : Vec Ideal S3x3x16x144 .f32)
variable (x17 : Vec Ideal S3x3x16x1 .f32)
variable (x18 : Vec Ideal S3x3x16x1 .f32)
variable (x19 : Vec Ideal S3x16x16 .f32)
variable (x20 : Vec Ideal S3x16x1 .f32)
variable (x21 : Vec Ideal S3x16x1 .f32)
variable (x22 : Vec Ideal S3x48x144 .f32)
variable (x23 : Vec Ideal S3x48x1 .f32)

set_option maxHeartbeats 20000000 in
/-- The third mapping layer of the selected expert, on the windows. -/
theorem map_third (o : Fin 16) (l : Fin 4096) :
    (kernelRun0_A.sl.r_146 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg26 arg27 x0 x1 x2 x3 x4 x5 x6 x7 x8 x9 x10 x11 x12 x13 x14 x15 x16 x17 x18) (ix2 o l)
      = act (mix (kernelRun0_A.sl.r_2 (F := Ideal) c arg2 harg2 arg3 harg3 arg4 harg4 arg5 harg5 arg6 harg6 arg7 harg7 arg8 harg8 arg9 harg9 arg10 harg10 x1 x2 x3 x4 x5 x6 x7 x8 x9) (img l) fun e => x18 (ix4 e 2 o 0))
          ((∑ k : Fin 144, mix (kernelRun0_A.sl.r_2 (F := Ideal) c arg2 harg2 arg3 harg3 arg4 harg4 arg5 harg5 arg6 harg6 arg7 harg7 arg8 harg8 arg9 harg9 arg10 harg10 x1 x2 x3 x4 x5 x6 x7 x8 x9) (img l) (fun e => x16 (ix4 e 2 o k)) * (kernelRun0_A.sl.v1910 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg26 arg27 x0 x1 x2 x3 x4 x5 x6 x7 x8 x9 x10 x11 x12 x13 x14 x15 x16 x17 x18) (ix2 k l))
            + mix (kernelRun0_A.sl.r_2 (F := Ideal) c arg2 harg2 arg3 harg3 arg4 harg4 arg5 harg5 arg6 harg6 arg7 harg7 arg8 harg8 arg9 harg9 arg10 harg10 x1 x2 x3 x4 x5 x6 x7 x8 x9) (img l) fun e => x17 (ix4 e 2 o 0)) := by
  unfold kernelRun0_A.sl.r_146 kernelRun0_A.sl.r_145 kernelRun0_A.sl.r_144 kernelRun0_A.sl.r_143 kernelRun0_A.sl.r_142 kernelRun0_A.sl.r_141 kernelRun0_A.sl.r_140 kernelRun0_A.sl.r_139 kernelRun0_A.sl.r_138 kernelRun0_A.sl.r_137 kernelRun0_A.sl.r_136 kernelRun0_A.sl.r_135 kernelRun0_A.sl.r_134 kernelRun0_A.sl.r_133 kernelRun0_A.sl.r_132 kernelRun0_A.sl.r_131 kernelRun0_A.sl.r_130 kernelRun0_A.sl.r_129 kernelRun0_A.sl.r_128 kernelRun0_A.sl.r_127 kernelRun0_A.sl.r_126 kernelRun0_A.sl.r_125 kernelRun0_A.sl.r_124 kernelRun0_A.sl.r_123 kernelRun0_A.sl.r_122
  generalize kernelRun0_A.sl.v1910 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg26 arg27 x0 x1 x2 x3 x4 x5 x6 x7 x8 x9 x10 x11 x12 x13 x14 x15 x16 x17 x18 = P
  generalize kernelRun0_A.sl.r_2 (F := Ideal) c arg2 harg2 arg3 harg3 arg4 harg4 arg5 harg5 arg6 harg6 arg7 harg7 arg8 harg8 arg9 harg9 arg10 harg10 x1 x2 x3 x4 x5 x6 x7 x8 x9 = cf
  simp only [View.readAt_eq_ld]
  pointwise [k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266]
  simp only [Memref.IsWhole.read_unread, act, mix]
  rcases lane_cases l with ⟨h, hi⟩ | ⟨h, h', hi⟩ | ⟨h, h', hi⟩ | ⟨h, hi⟩ <;>
    simp (disch := omega) only [if_pos, if_neg, dif_pos, dif_neg, hi, lane_one, lane_two, lane_three] <;> rfl

end Cert.KernelIdeal.Layers
-- ==== Proof.Expand.lean ====
/- The expanding layer of the selected expert. -/
module

public import proofs.«01_k».proof.Proof.Lanes
public import Idealize.ShloMosaic.Lib.Pointwise
public import Idealize.ShloMosaic.Lib.Pipeline.ReadBack

@[expose] public section

set_option maxRecDepth 16384

noncomputable section

namespace Cert.KernelIdeal.Layers

open Cert.KernelIdeal Cert.KernelIdeal.Gen Idealize.ShloMosaic Idealize.ShloMosaic.TcCoe

variable (c : Dev nD)
variable (arg1 : Memref sig .tc .vmem S3x4096 .f32) (harg1 : arg1.IsWhole)
variable (arg2 : Memref sig .tc .vmem S4x64x48 .f32) (harg2 : arg2.IsWhole)
variable (arg3 : Memref sig .tc .vmem S48x128 .f32) (harg3 : arg3.IsWhole)
variable (arg4 : Memref sig .tc .vmem S1x128 .f32) (harg4 : arg4.IsWhole)
variable (arg5 : Memref sig .tc .vmem S128x128 .f32) (harg5 : arg5.IsWhole)
variable (arg6 : Memref sig .tc .vmem S1x128 .f32) (harg6 : arg6.IsWhole)
variable (arg7 : Memref sig .tc .vmem S128x128 .f32) (harg7 : arg7.IsWhole)
variable (arg8 : Memref sig .tc .vmem S1x128 .f32) (harg8 : arg8.IsWhole)
variable (arg9 : Memref sig .tc .vmem S128x3 .f32) (harg9 : arg9.IsWhole)
variable (arg10 : Memref sig .tc .vmem S1x3 .f32) (harg10 : arg10.IsWhole)
variable (arg11 : Memref sig .tc .vmem S3x16x200 .f32) (harg11 : arg11.IsWhole)
variable (arg12 : Memref sig .tc .vmem S3x16x1 .f32) (harg12 : arg12.IsWhole)
variable (arg13 : Memref sig .tc .vmem S3x16x1 .f32) (harg13 : arg13.IsWhole)
variable (arg14 : Memref sig .tc .vmem S3x16x16 .f32) (harg14 : arg14.IsWhole)
variable (arg15 : Memref sig .tc .vmem S3x16x1 .f32) (harg15 : arg15.IsWhole)
variable (arg16 : Memref sig .tc .vmem S3x16x1 .f32) (harg16 : arg16.IsWhole)
variable (arg17 : Memref sig .tc .vmem S3x3x16x144 .f32) (harg17 : arg17.IsWhole)
variable (arg18 : Memref sig .tc .vmem S3x3x16x1 .f32) (harg18 : arg18.IsWhole)
variable (arg19 : Memref sig .tc .vmem S3x3x16x1 .f32) (harg19 : arg19.IsWhole)
variable (arg20 : Memref sig .tc .vmem S3x16x16 .f32) (harg20 : arg20.IsWhole)
variable (arg21 : Memref sig .tc .vmem S3x16x1 .f32) (harg21 : arg21.IsWhole)
variable (arg22 : Memref sig .tc .vmem S3x16x1 .f32) (harg22 : arg22.IsWhole)
variable (arg23 : Memref sig .tc .vmem S3x48x144 .f32) (harg23 : arg23.IsWhole)
variable (arg24 : Memref sig .tc .vmem S3x48x1 .f32) (harg24 : arg24.IsWhole)
variable (arg25 : Memref sig .tc .vmem S4x48x1024 .bf16)
variable (arg26 : Memref sig .tc .vmem S200x4096 .f32)
variable (arg27 : Memref sig .tc .vmem S144x4096 .f32)
variable (x0 : Vec Ideal S3x4096 .f32)
variable (x1 : Vec Ideal S4x64x48 .f32)
variable (x2 : Vec Ideal S48x128 .f32)
variable (x3 : Vec Ideal S1x128 .f32)
variable (x4 : Vec Ideal S128x128 .f32)
variable (x5 : Vec Ideal S1x128 .f32)
variable (x6 : Vec Ideal S128x128 .f32)
variable (x7 : Vec Ideal S1x128 .f32)
variable (x8 : Vec Ideal S128x3 .f32)
variable (x9 : Vec Ideal S1x3 .f32)
variable (x10 : Vec Ideal S3x16x200 .f32)
variable (x11 : Vec Ideal S3x16x1 .f32)
variable (x12 : Vec Ideal S3x16x1 .f32)
variable (x13 : Vec Ideal S3x16x16 .f32)
variable (x14 : Vec Ideal S3x16x1 .f32)
variable (x15 : Vec Ideal S3x16x1 .f32)
variable (x16 : Vec Ideal S3x3x16x144 .f32)
variable (x17 : Vec Ideal S3x3x16x1 .f32)
variable (x18 : Vec Ideal S3x3x16x1 .f32)
variable (x19 : Vec Ideal S3x16x16 .f32)
variable (x20 : Vec Ideal S3x16x1 .f32)
variable (x21 : Vec Ideal S3x16x1 .f32)
variable (x22 : Vec Ideal S3x48x144 .f32)
variable (x23 : Vec Ideal S3x48x1 .f32)

set_option maxHeartbeats 20000000 in
/-- The expanding layer of the selected expert. -/
theorem expand_eq (o : Fin 16) (l : Fin 4096) :
    (kernelRun0_A.sl.r_172 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg26 arg27 x0 x1 x2 x3 x4 x5 x6 x7 x8 x9 x10 x11 x12 x13 x14 x15 x16 x17 x18 x19 x20 x21) (ix2 o ⟨33 + l.val, by have := l.isLt; omega⟩)
      = act (mix (kernelRun0_A.sl.r_2 (F := Ideal) c arg2 harg2 arg3 harg3 arg4 harg4 arg5 harg5 arg6 harg6 arg7 harg7 arg8 harg8 arg9 harg9 arg10 harg10 x1 x2 x3 x4 x5 x6 x7 x8 x9) (img l) fun e => x21 (ix3 e o 0))
          ((∑ k : Fin 16, mix (kernelRun0_A.sl.r_2 (F := Ideal) c arg2 harg2 arg3 harg3 arg4 harg4 arg5 harg5 arg6 harg6 arg7 harg7 arg8 harg8 arg9 harg9 arg10 harg10 x1 x2 x3 x4 x5 x6 x7 x8 x9) (img l) (fun e => x19 (ix3 e o k)) * (kernelRun0_A.sl.r_146 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg26 arg27 x0 x1 x2 x3 x4 x5 x6 x7 x8 x9 x10 x11 x12 x13 x14 x15 x16 x17 x18) (ix2 k l))
            + mix (kernelRun0_A.sl.r_2 (F := Ideal) c arg2 harg2 arg3 harg3 arg4 harg4 arg5 harg5 arg6 harg6 arg7 harg7 arg8 harg8 arg9 harg9 arg10 harg10 x1 x2 x3 x4 x5 x6 x7 x8 x9) (img l) fun e => x20 (ix3 e o 0)) := by
  unfold kernelRun0_A.sl.r_172 kernelRun0_A.sl.r_171 kernelRun0_A.sl.r_170 kernelRun0_A.sl.r_169 kernelRun0_A.sl.r_168 kernelRun0_A.sl.r_167 kernelRun0_A.sl.r_166 kernelRun0_A.sl.r_165 kernelRun0_A.sl.r_164 kernelRun0_A.sl.r_163 kernelRun0_A.sl.r_162 kernelRun0_A.sl.r_161 kernelRun0_A.sl.r_160 kernelRun0_A.sl.r_159 kernelRun0_A.sl.r_158 kernelRun0_A.sl.r_157 kernelRun0_A.sl.r_156 kernelRun0_A.sl.r_155 kernelRun0_A.sl.r_154 kernelRun0_A.sl.r_153 kernelRun0_A.sl.r_152 kernelRun0_A.sl.r_151 kernelRun0_A.sl.r_150 kernelRun0_A.sl.r_149 kernelRun0_A.sl.r_148 kernelRun0_A.sl.r_147
  generalize kernelRun0_A.sl.r_146 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg26 arg27 x0 x1 x2 x3 x4 x5 x6 x7 x8 x9 x10 x11 x12 x13 x14 x15 x16 x17 x18 = P
  generalize kernelRun0_A.sl.r_2 (F := Ideal) c arg2 harg2 arg3 harg3 arg4 harg4 arg5 harg5 arg6 harg6 arg7 harg7 arg8 harg8 arg9 harg9 arg10 harg10 x1 x2 x3 x4 x5 x6 x7 x8 x9 = cf
  simp only [View.readAt_eq_ld]
  pointwise [k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291]
  simp only [Memref.IsWhole.read_unread, act, mix]
  rcases lane_cases l with ⟨h, hi⟩ | ⟨h, h', hi⟩ | ⟨h, h', hi⟩ | ⟨h, hi⟩ <;>
    simp (disch := omega) only [if_pos, if_neg, dif_pos, dif_neg, hi, lane_one, lane_two, lane_three, Nat.add_sub_cancel_left] <;> rfl

end Cert.KernelIdeal.Layers
-- ==== Proof.Tail.lean ====
/- The tail of the selected expert: its transposed convolution, on the windows. -/
module

public import proofs.«01_k».proof.Proof.Lanes
public import Idealize.ShloMosaic.Lib.Pointwise
public import Idealize.ShloMosaic.Lib.Pipeline.ReadBack

@[expose] public section

set_option maxRecDepth 16384

noncomputable section

namespace Cert.KernelIdeal.Layers

open Cert.KernelIdeal Cert.KernelIdeal.Gen Idealize.ShloMosaic Idealize.ShloMosaic.TcCoe

variable (c : Dev nD)
variable (arg1 : Memref sig .tc .vmem S3x4096 .f32) (harg1 : arg1.IsWhole)
variable (arg2 : Memref sig .tc .vmem S4x64x48 .f32) (harg2 : arg2.IsWhole)
variable (arg3 : Memref sig .tc .vmem S48x128 .f32) (harg3 : arg3.IsWhole)
variable (arg4 : Memref sig .tc .vmem S1x128 .f32) (harg4 : arg4.IsWhole)
variable (arg5 : Memref sig .tc .vmem S128x128 .f32) (harg5 : arg5.IsWhole)
variable (arg6 : Memref sig .tc .vmem S1x128 .f32) (harg6 : arg6.IsWhole)
variable (arg7 : Memref sig .tc .vmem S128x128 .f32) (harg7 : arg7.IsWhole)
variable (arg8 : Memref sig .tc .vmem S1x128 .f32) (harg8 : arg8.IsWhole)
variable (arg9 : Memref sig .tc .vmem S128x3 .f32) (harg9 : arg9.IsWhole)
variable (arg10 : Memref sig .tc .vmem S1x3 .f32) (harg10 : arg10.IsWhole)
variable (arg11 : Memref sig .tc .vmem S3x16x200 .f32) (harg11 : arg11.IsWhole)
variable (arg12 : Memref sig .tc .vmem S3x16x1 .f32) (harg12 : arg12.IsWhole)
variable (arg13 : Memref sig .tc .vmem S3x16x1 .f32) (harg13 : arg13.IsWhole)
variable (arg14 : Memref sig .tc .vmem S3x16x16 .f32) (harg14 : arg14.IsWhole)
variable (arg15 : Memref sig .tc .vmem S3x16x1 .f32) (harg15 : arg15.IsWhole)
variable (arg16 : Memref sig .tc .vmem S3x16x1 .f32) (harg16 : arg16.IsWhole)
variable (arg17 : Memref sig .tc .vmem S3x3x16x144 .f32) (harg17 : arg17.IsWhole)
variable (arg18 : Memref sig .tc .vmem S3x3x16x1 .f32) (harg18 : arg18.IsWhole)
variable (arg19 : Memref sig .tc .vmem S3x3x16x1 .f32) (harg19 : arg19.IsWhole)
variable (arg20 : Memref sig .tc .vmem S3x16x16 .f32) (harg20 : arg20.IsWhole)
variable (arg21 : Memref sig .tc .vmem S3x16x1 .f32) (harg21 : arg21.IsWhole)
variable (arg22 : Memref sig .tc .vmem S3x16x1 .f32) (harg22 : arg22.IsWhole)
variable (arg23 : Memref sig .tc .vmem S3x48x144 .f32) (harg23 : arg23.IsWhole)
variable (arg24 : Memref sig .tc .vmem S3x48x1 .f32) (harg24 : arg24.IsWhole)
variable (arg25 : Memref sig .tc .vmem S4x48x1024 .bf16)
variable (arg26 : Memref sig .tc .vmem S200x4096 .f32)
variable (arg27 : Memref sig .tc .vmem S144x4096 .f32)
variable (x0 : Vec Ideal S3x4096 .f32)
variable (x1 : Vec Ideal S4x64x48 .f32)
variable (x2 : Vec Ideal S48x128 .f32)
variable (x3 : Vec Ideal S1x128 .f32)
variable (x4 : Vec Ideal S128x128 .f32)
variable (x5 : Vec Ideal S1x128 .f32)
variable (x6 : Vec Ideal S128x128 .f32)
variable (x7 : Vec Ideal S1x128 .f32)
variable (x8 : Vec Ideal S128x3 .f32)
variable (x9 : Vec Ideal S1x3 .f32)
variable (x10 : Vec Ideal S3x16x200 .f32)
variable (x11 : Vec Ideal S3x16x1 .f32)
variable (x12 : Vec Ideal S3x16x1 .f32)
variable (x13 : Vec Ideal S3x16x16 .f32)
variable (x14 : Vec Ideal S3x16x1 .f32)
variable (x15 : Vec Ideal S3x16x1 .f32)
variable (x16 : Vec Ideal S3x3x16x144 .f32)
variable (x17 : Vec Ideal S3x3x16x1 .f32)
variable (x18 : Vec Ideal S3x3x16x1 .f32)
variable (x19 : Vec Ideal S3x16x16 .f32)
variable (x20 : Vec Ideal S3x16x1 .f32)
variable (x21 : Vec Ideal S3x16x1 .f32)
variable (x22 : Vec Ideal S3x48x144 .f32)
variable (x23 : Vec Ideal S3x48x1 .f32)

set_option maxHeartbeats 20000000 in
/-- The tail of the selected expert: its transposed convolution, on the windows. -/
theorem tail_eq (o : Fin 48) (l : Fin 4096) :
    (kernelRun0_A.sl.r_187 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg26 arg27 x0 x1 x2 x3 x4 x5 x6 x7 x8 x9 x10 x11 x12 x13 x14 x15 x16 x17 x18 x19 x20 x21 x22 x23) (ix2 o l)
      = (∑ k : Fin 144, mix (kernelRun0_A.sl.r_2 (F := Ideal) c arg2 harg2 arg3 harg3 arg4 harg4 arg5 harg5 arg6 harg6 arg7 harg7 arg8 harg8 arg9 harg9 arg10 harg10 x1 x2 x3 x4 x5 x6 x7 x8 x9) (img l) (fun e => x22 (ix3 e o k)) * (kernelRun0_A.sl.v2418 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg26 arg27 x0 x1 x2 x3 x4 x5 x6 x7 x8 x9 x10 x11 x12 x13 x14 x15 x16 x17 x18 x19 x20 x21) (ix2 k l))
            + mix (kernelRun0_A.sl.r_2 (F := Ideal) c arg2 harg2 arg3 harg3 arg4 harg4 arg5 harg5 arg6 harg6 arg7 harg7 arg8 harg8 arg9 harg9 arg10 harg10 x1 x2 x3 x4 x5 x6 x7 x8 x9) (img l) fun e => x23 (ix3 e o 0) := by
  unfold kernelRun0_A.sl.r_187 kernelRun0_A.sl.r_186 kernelRun0_A.sl.r_185 kernelRun0_A.sl.r_184 kernelRun0_A.sl.r_183 kernelRun0_A.sl.r_182 kernelRun0_A.sl.r_181 kernelRun0_A.sl.r_180 kernelRun0_A.sl.r_179 kernelRun0_A.sl.r_178 kernelRun0_A.sl.r_177 kernelRun0_A.sl.r_176 kernelRun0_A.sl.r_175 kernelRun0_A.sl.r_174
  generalize kernelRun0_A.sl.v2418 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg26 arg27 x0 x1 x2 x3 x4 x5 x6 x7 x8 x9 x10 x11 x12 x13 x14 x15 x16 x17 x18 x19 x20 x21 = P
  generalize kernelRun0_A.sl.r_2 (F := Ideal) c arg2 harg2 arg3 harg3 arg4 harg4 arg5 harg5 arg6 harg6 arg7 harg7 arg8 harg8 arg9 harg9 arg10 harg10 x1 x2 x3 x4 x5 x6 x7 x8 x9 = cf
  simp only [View.readAt_eq_ld]
  pointwise [k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323]
  simp only [Memref.IsWhole.read_unread, act, mix]
  rcases lane_cases l with ⟨h, hi⟩ | ⟨h, h', hi⟩ | ⟨h, h', hi⟩ | ⟨h, hi⟩ <;>
    simp (disch := omega) only [if_pos, if_neg, dif_pos, dif_neg, hi, lane_one, lane_two, lane_three] <;> rfl

end Cert.KernelIdeal.Layers
-- ==== Proof.Points.lean ====
/- The layers of the kernel at a grid point, each from the one before it, with the selected expert's weights. -/
module

public import proofs.«01_k».proof.Proof.Sums
public import proofs.«01_k».proof.Proof.Blocks
public import proofs.«01_k».proof.Proof.Head
public import proofs.«01_k».proof.Proof.Shrink
public import proofs.«01_k».proof.Proof.MapA
public import proofs.«01_k».proof.Proof.MapB
public import proofs.«01_k».proof.Proof.MapC
public import proofs.«01_k».proof.Proof.Expand
public import proofs.«01_k».proof.Proof.Tail

@[expose] public section

set_option maxRecDepth 16384

noncomputable section

namespace Cert.KernelIdeal.Points

open Cert.KernelIdeal Cert.KernelIdeal.Gen Cert.KernelIdeal.Whole Cert.KernelIdeal.Entry Cert.KernelIdeal.Layers Idealize.ShloMosaic Idealize.ShloMosaic.TcCoe

variable (m : (ℓ : Loc nD τ sig) → Buf (Elt Ideal) ℓ) (c : Dev nD) (t : Fin cfg0.N)

/-- The three coefficients of each of the four images at a grid point. -/
def k2 : FVec Ideal S4x3 .f32 := kernelRun0_A.sl.r_2 (F := Ideal) c (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (b1 m c t) (b2 m c t) (b3 m c t) (b4 m c t) (b5 m c t) (b6 m c t) (b7 m c t) (b8 m c t) (b9 m c t)

/-- The images at a grid point, with their margins. -/
def k4 : FVec Ideal S8x4228 .f32 := kernelRun0_A.sl.r_4 (F := Ideal) c (ms0_0 t) (hs0_0 t) (b0 m c t)

/-- What the head leaves. -/
def k34 : FVec Ideal S16x4096 .f32 := kernelRun0_A.sl.r_34 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (b0 m c t) (b1 m c t) (b2 m c t) (b3 m c t) (b4 m c t) (b5 m c t) (b6 m c t) (b7 m c t) (b8 m c t) (b9 m c t) (b10 m c t) (b11 m c t) (b12 m c t)

/-- What the shrinking layer leaves, with its margins. -/
def k61 : FVec Ideal S16x4162 .f32 := kernelRun0_A.sl.r_61 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (b0 m c t) (b1 m c t) (b2 m c t) (b3 m c t) (b4 m c t) (b5 m c t) (b6 m c t) (b7 m c t) (b8 m c t) (b9 m c t) (b10 m c t) (b11 m c t) (b12 m c t) (b13 m c t) (b14 m c t) (b15 m c t)

/-- What the first map leaves, with its margins. -/
def k91 : FVec Ideal S16x4162 .f32 := kernelRun0_A.sl.r_91 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 scM0_1 (b0 m c t) (b1 m c t) (b2 m c t) (b3 m c t) (b4 m c t) (b5 m c t) (b6 m c t) (b7 m c t) (b8 m c t) (b9 m c t) (b10 m c t) (b11 m c t) (b12 m c t) (b13 m c t) (b14 m c t) (b15 m c t) (b16 m c t) (b17 m c t) (b18 m c t)

/-- What the second map leaves, with its margins. -/
def k120 : FVec Ideal S16x4162 .f32 := kernelRun0_A.sl.r_120 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 scM0_1 (b0 m c t) (b1 m c t) (b2 m c t) (b3 m c t) (b4 m c t) (b5 m c t) (b6 m c t) (b7 m c t) (b8 m c t) (b9 m c t) (b10 m c t) (b11 m c t) (b12 m c t) (b13 m c t) (b14 m c t) (b15 m c t) (b16 m c t) (b17 m c t) (b18 m c t)

/-- What the third map leaves. -/
def k146 : FVec Ideal S16x4096 .f32 := kernelRun0_A.sl.r_146 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 scM0_1 (b0 m c t) (b1 m c t) (b2 m c t) (b3 m c t) (b4 m c t) (b5 m c t) (b6 m c t) (b7 m c t) (b8 m c t) (b9 m c t) (b10 m c t) (b11 m c t) (b12 m c t) (b13 m c t) (b14 m c t) (b15 m c t) (b16 m c t) (b17 m c t) (b18 m c t)

/-- What the expanding layer leaves, with its margins. -/
def k172 : FVec Ideal S16x4162 .f32 := kernelRun0_A.sl.r_172 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 scM0_1 (b0 m c t) (b1 m c t) (b2 m c t) (b3 m c t) (b4 m c t) (b5 m c t) (b6 m c t) (b7 m c t) (b8 m c t) (b9 m c t) (b10 m c t) (b11 m c t) (b12 m c t) (b13 m c t) (b14 m c t) (b15 m c t) (b16 m c t) (b17 m c t) (b18 m c t) (b19 m c t) (b20 m c t) (b21 m c t)

/-- What the tail leaves. -/
def k187 : FVec Ideal S48x4096 .f32 := kernelRun0_A.sl.r_187 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 scM0_1 (b0 m c t) (b1 m c t) (b2 m c t) (b3 m c t) (b4 m c t) (b5 m c t) (b6 m c t) (b7 m c t) (b8 m c t) (b9 m c t) (b10 m c t) (b11 m c t) (b12 m c t) (b13 m c t) (b14 m c t) (b15 m c t) (b16 m c t) (b17 m c t) (b18 m c t) (b19 m c t) (b20 m c t) (b21 m c t) (b22 m c t) (b23 m c t)

/-- The layer `head` at a grid point. -/
theorem head (o : Fin 16) (l : Fin 4096) : k34 m c t (ix2 o l) = act (mix (k2 m c t) (img l) fun e => b12 m c t (ix3 e o 0)) ((∑ k : Fin 200, mix (k2 m c t) (img l) (fun e => b10 m c t (ix3 e o k)) * win5 (k4 m c t) k l) + mix (k2 m c t) (img l) fun e => b11 m c t (ix3 e o 0)) := by
  refine (head_eq ..).trans ?_
  refine congrArg₂ (fun u v : EReal => act v (u + mix (k2 m c t) (img l) fun e => b11 m c t (ix3 e o 0))) (Finset.sum_congr rfl fun k _ => congrArg _ ?_) rfl
  exact windows5 ..

/-- The layer `shrink` at a grid point. -/
theorem shrink (o : Fin 16) (l : Fin 4096) : k61 m c t (ix2 o ⟨33 + l.val, by omega⟩) = act (mix (k2 m c t) (img l) fun e => b15 m c t (ix3 e o 0)) ((∑ k : Fin 16, mix (k2 m c t) (img l) (fun e => b13 m c t (ix3 e o k)) * k34 m c t (ix2 k l)) + mix (k2 m c t) (img l) fun e => b14 m c t (ix3 e o 0)) := by
  exact shrink_eq ..

/-- The layer `first` at a grid point. -/
theorem first (o : Fin 16) (l : Fin 4096) : k91 m c t (ix2 o ⟨33 + l.val, by omega⟩) = act (mix (k2 m c t) (img l) fun e => b18 m c t (ix4 e 0 o 0)) ((∑ k : Fin 144, mix (k2 m c t) (img l) (fun e => b16 m c t (ix4 e 0 o k)) * win3 (k61 m c t) k l) + mix (k2 m c t) (img l) fun e => b17 m c t (ix4 e 0 o 0)) := by
  refine (map_first ..).trans ?_
  refine congrArg₂ (fun u v : EReal => act v (u + mix (k2 m c t) (img l) fun e => b17 m c t (ix4 e 0 o 0))) (Finset.sum_congr rfl fun k _ => congrArg _ ?_) rfl
  exact windows_first ..

/-- The layer `second` at a grid point. -/
theorem second (o : Fin 16) (l : Fin 4096) : k120 m c t (ix2 o ⟨33 + l.val, by omega⟩) = act (mix (k2 m c t) (img l) fun e => b18 m c t (ix4 e 1 o 0)) ((∑ k : Fin 144, mix (k2 m c t) (img l) (fun e => b16 m c t (ix4 e 1 o k)) * win3 (k91 m c t) k l) + mix (k2 m c t) (img l) fun e => b17 m c t (ix4 e 1 o 0)) := by
  refine (map_second ..).trans ?_
  refine congrArg₂ (fun u v : EReal => act v (u + mix (k2 m c t) (img l) fun e => b17 m c t (ix4 e 1 o 0))) (Finset.sum_congr rfl fun k _ => congrArg _ ?_) rfl
  exact windows_second ..

/-- The layer `third` at a grid point. -/
theorem third (o : Fin 16) (l : Fin 4096) : k146 m c t (ix2 o l) = act (mix (k2 m c t) (img l) fun e => b18 m c t (ix4 e 2 o 0)) ((∑ k : Fin 144, mix (k2 m c t) (img l) (fun e => b16 m c t (ix4 e 2 o k)) * win3 (k120 m c t) k l) + mix (k2 m c t) (img l) fun e => b17 m c t (ix4 e 2 o 0)) := by
  refine (map_third ..).trans ?_
  refine congrArg₂ (fun u v : EReal => act v (u + mix (k2 m c t) (img l) fun e => b17 m c t (ix4 e 2 o 0))) (Finset.sum_congr rfl fun k _ => congrArg _ ?_) rfl
  exact windows_third ..

/-- The layer `expand` at a grid point. -/
theorem expand (o : Fin 16) (l : Fin 4096) : k172 m c t (ix2 o ⟨33 + l.val, by omega⟩) = act (mix (k2 m c t) (img l) fun e => b21 m c t (ix3 e o 0)) ((∑ k : Fin 16, mix (k2 m c t) (img l) (fun e => b19 m c t (ix3 e o k)) * k146 m c t (ix2 k l)) + mix (k2 m c t) (img l) fun e => b20 m c t (ix3 e o 0)) := by
  exact expand_eq ..

/-- The layer `tail` at a grid point. -/
theorem tail (o : Fin 48) (l : Fin 4096) : k187 m c t (ix2 o l) = (∑ k : Fin 144, mix (k2 m c t) (img l) (fun e => b22 m c t (ix3 e o k)) * win3 (k172 m c t) k l) + mix (k2 m c t) (img l) fun e => b23 m c t (ix3 e o 0) := by
  refine (tail_eq ..).trans ?_
  refine congrArg₂ (fun u v : EReal => u + v) (Finset.sum_congr rfl fun k _ => congrArg _ ?_) rfl
  exact windows_tail ..

/-- The images at a grid point, with their margins, read at an index inside. -/
theorem image (o : Fin 3) (l : Fin 4096) : k4 m c t (ix2 ⟨o.val, by omega⟩ ⟨66 + l.val, by omega⟩) = b0 m c t (ix2 o l) := by
  unfold k4 kernelRun0_A.sl.r_4
  rw [View.readAt_eq_ld]
  pointwise [k0_pay66]
  rw [dif_pos (by omega), Memref.IsWhole.read_unread]

end Cert.KernelIdeal.Points
-- ==== Proof.IdealBlocks.lean ====
/- The result array of the kernel read at extended reals, block by block: block `t` is what grid point `t` wrote. -/
module

public import proofs.«01_k».proof.Proof.IdealFrame
public import Idealize.ShloMosaic.Lib.Pipeline.Value

@[expose] public section

noncomputable section

namespace Cert.KernelIdeal.Blocks

open Cert.KernelIdeal Cert.KernelIdeal.Gen Cert.KernelIdeal.Whole Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 24's array: the run's contents for that window after the body (`Gen.outsAt0`), read through the window's block. -/
theorem flushed24 (c : Dev nD) (t : Fin cfg0.N) :
    (dats m 0 c).flushed 24 t = (cfg0.win 24).cut (grid0.coords t) (outsAt0 m c t) := by
  show (cfg0.win 24).cut (grid0.coords t) ((dats m 0 c).after 24 t) = _
  rw [after0_24]

/-- … so at a point where case A runs, what its write-back would write is that case's NAMED TERM for the window (`Gen.out0_A_24`: the pieces
    its run found, read back) at the point's memrefs and input blocks, and for an output the case reads back what the point before left (`Gen.outsAt0` at `t - 1`) — the kernel's one case, `Gen.outsAt0` by definition. -/
theorem flushed24_A (c : Dev nD) (t : Fin cfg0.N) :
    (dats m 0 c).flushed 24 t = (cfg0.win 24).cut (grid0.coords t) (out0_A_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)) := by
  simp only [flushed24, outsAt0]

/-- The index map sends distinct grid points to distinct block indices (decided over the 128 points). -/
theorem idx_inj24 : ∀ t t' : Fin cfg0.N, win0_24.index t = win0_24.index t' → t = t' :=
  (by decide +kernel : ∀ t t' : Fin grid0.N, win0_24.index t = win0_24.index t' → t = t')

/-- So two flushing points' blocks share no array index (Lib/Pipeline/Cells.lean `Window.disjoint_blk`). -/
theorem disjoint24 : ∀ t t' : Fin cfg0.N, (cfg0.win 24).flush t = true → (cfg0.win 24).flush t' = true → t ≠ t' →
    Disjoint ((cfg0.win 24).blk t).view.set ((cfg0.win 24).blk t').view.set :=
  fun t t' _ _ hne => (cfg0.win 24).disjoint_blk fun h => hne (idx_inj24 t t' h)

/-- BLOCK `t` OF THE FINAL ARRAY, read back through the window, is what point `t` wrote back (`flushed24`), for every
    point that writes back: no other point's block meets it. -/
theorem blocks24 (c : Dev nD) (t : Fin cfg0.N) (hf : (cfg0.win 24).flush t = true) :
    ((cfg0.win 24).blk t).view.read (Elt F) ((dats m 0 c).arrAt 24 cfg0.N) = (dats m 0 c).flushed 24 t :=
  (dats m 0 c).read_blk_arrAt_eq_flushed 24 disjoint24 cfg0.N t t.isLt hf

/-- An index that no flushing point's block covers keeps output window 24's array contents at region entry. -/
theorem entry24 (c : Dev nD) (i : S512x48x1024.Idx) (h : ∀ t : Fin cfg0.N, (cfg0.win 24).flush t = true → i ∉ ((cfg0.win 24).blk t).view.set) :
    (dats m 0 c).arrAt 24 cfg0.N i = V m c (Pipeline.arrRef spec0 24) i := by
  rw [(dats m 0 c).arrAt_apply_of_forall_not_mem 24 cfg0.N i (fun t _ hf => h t hf), A_eq]

/-- After the frame run, output window 24's array is `(dats m 0 c).arrAt 24 N`. -/
theorem post24 (r : PUnit × MemSt nD τ sig (Elt F)) (h : Pipeline.FramePost cfgs (dats m) 0 (V m) r) (c : Dev nD) :
    r.2.mem ((c : Thread nD τ).loc main_v55) = (dats m 0 c).arrAt 24 cfg0.N :=
  (h c).1 24

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- After the frame run, argument `main_arg9` is as launched: no window stages it, and the run leaves the region's other buffers as they were. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- After the frame run, argument `main_arg10` is as launched: no window stages it, and the run leaves the region's other buffers as they were. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

/-- After the frame run, argument `main_arg11` is as launched: no window stages it, and the run leaves the region's other buffers as they were. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

/-- After the frame run, argument `main_arg12` is as launched: no window stages it, and the run leaves the region's other buffers as they were. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)

/-- After the frame run, argument `main_arg13` is as launched: no window stages it, and the run leaves the region's other buffers as they were. -/
theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).2 main_arg13 (Pipeline.mem_restRefs_of main_arg13 (by decide) (by decide))).trans (V_main_arg13 m c)

/-- After the frame run, argument `main_arg14` is as launched: no window stages it, and the run leaves the region's other buffers as they were. -/
theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).2 main_arg14 (Pipeline.mem_restRefs_of main_arg14 (by decide) (by decide))).trans (V_main_arg14 m c)

/-- After the frame run, argument `main_arg15` is as launched: no window stages it, and the run leaves the region's other buffers as they were. -/
theorem kept_main_arg15 (r : PUnit × MemSt nD τ sig (Elt F)) (h : Pipeline.FramePost cfgs (dats m) 0 (V m) r) (c : Dev nD) :
    r.2.mem ((c : Thread nD τ).loc main_arg15) = m ((c : Thread nD τ).loc main_arg15) :=
  ((h c).2 main_arg15 (Pipeline.mem_restRefs_of main_arg15 (by decide) (by decide))).trans (V_main_arg15 m c)

/-- After the frame run, argument `main_arg16` is as launched: no window stages it, and the run leaves the region's other buffers as they were. -/
theorem kept_main_arg16 (r : PUnit × MemSt nD τ sig (Elt F)) (h : Pipeline.FramePost cfgs (dats m) 0 (V m) r) (c : Dev nD) :
    r.2.mem ((c : Thread nD τ).loc main_arg16) = m ((c : Thread nD τ).loc main_arg16) :=
  ((h c).2 main_arg16 (Pipeline.mem_restRefs_of main_arg16 (by decide) (by decide))).trans (V_main_arg16 m c)

/-- After the frame run, argument `main_arg17` is as launched: no window stages it, and the run leaves the region's other buffers as they were. -/
theorem kept_main_arg17 (r : PUnit × MemSt nD τ sig (Elt F)) (h : Pipeline.FramePost cfgs (dats m) 0 (V m) r) (c : Dev nD) :
    r.2.mem ((c : Thread nD τ).loc main_arg17) = m ((c : Thread nD τ).loc main_arg17) :=
  ((h c).2 main_arg17 (Pipeline.mem_restRefs_of main_arg17 (by decide) (by decide))).trans (V_main_arg17 m c)

/-- After the frame run, argument `main_arg18` is as launched: no window stages it, and the run leaves the region's other buffers as they were. -/
theorem kept_main_arg18 (r : PUnit × MemSt nD τ sig (Elt F)) (h : Pipeline.FramePost cfgs (dats m) 0 (V m) r) (c : Dev nD) :
    r.2.mem ((c : Thread nD τ).loc main_arg18) = m ((c : Thread nD τ).loc main_arg18) :=
  ((h c).2 main_arg18 (Pipeline.mem_restRefs_of main_arg18 (by decide) (by decide))).trans (V_main_arg18 m c)

/-- After the frame run, argument `main_arg19` is as launched: no window stages it, and the run leaves the region's other buffers as they were. -/
theorem kept_main_arg19 (r : PUnit × MemSt nD τ sig (Elt F)) (h : Pipeline.FramePost cfgs (dats m) 0 (V m) r) (c : Dev nD) :
    r.2.mem ((c : Thread nD τ).loc main_arg19) = m ((c : Thread nD τ).loc main_arg19) :=
  ((h c).2 main_arg19 (Pipeline.mem_restRefs_of main_arg19 (by decide) (by decide))).trans (V_main_arg19 m c)

/-- After the frame run, argument `main_arg20` is as launched: no window stages it, and the run leaves the region's other buffers as they were. -/
theorem kept_main_arg20 (r : PUnit × MemSt nD τ sig (Elt F)) (h : Pipeline.FramePost cfgs (dats m) 0 (V m) r) (c : Dev nD) :
    r.2.mem ((c : Thread nD τ).loc main_arg20) = m ((c : Thread nD τ).loc main_arg20) :=
  ((h c).2 main_arg20 (Pipeline.mem_restRefs_of main_arg20 (by decide) (by decide))).trans (V_main_arg20 m c)

/-- After the frame run, argument `main_arg21` is as launched: no window stages it, and the run leaves the region's other buffers as they were. -/
theorem kept_main_arg21 (r : PUnit × MemSt nD τ sig (Elt F)) (h : Pipeline.FramePost cfgs (dats m) 0 (V m) r) (c : Dev nD) :
    r.2.mem ((c : Thread nD τ).loc main_arg21) = m ((c : Thread nD τ).loc main_arg21) :=
  ((h c).2 main_arg21 (Pipeline.mem_restRefs_of main_arg21 (by decide) (by decide))).trans (V_main_arg21 m c)

/-- After the frame run, argument `main_arg22` is as launched: no window stages it, and the run leaves the region's other buffers as they were. -/
theorem kept_main_arg22 (r : PUnit × MemSt nD τ sig (Elt F)) (h : Pipeline.FramePost cfgs (dats m) 0 (V m) r) (c : Dev nD) :
    r.2.mem ((c : Thread nD τ).loc main_arg22) = m ((c : Thread nD τ).loc main_arg22) :=
  ((h c).2 main_arg22 (Pipeline.mem_restRefs_of main_arg22 (by decide) (by decide))).trans (V_main_arg22 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v55) = (dats m 0 c).arrAt 24 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22) :=
  (θ_run defs _ _).mono (fun r h c => ⟨post24 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c,
      kept_main_arg15 m r h c,
      kept_main_arg16 m r h c,
      kept_main_arg17 m r h c,
      kept_main_arg18 m r h c,
      kept_main_arg19 m r h c,
      kept_main_arg20 m r h c,
      kept_main_arg21 m r h c,
      kept_main_arg22 m r h c⟩)
    (run_main m ρ)

end Cert.KernelIdeal.Blocks

end
-- ==== Proof.Output.lean ====
/- What a grid point leaves in its output block is the tail's array, cut into the four images. -/
module

public import proofs.«01_k».proof.Proof.Points
public import proofs.«01_k».proof.Proof.IdealBlocks

@[expose] public section

set_option maxRecDepth 16384

noncomputable section

namespace Cert.KernelIdeal.Points

open Cert.KernelIdeal Cert.KernelIdeal.Gen Cert.KernelIdeal.Whole Cert.KernelIdeal.Entry Idealize.ShloMosaic Idealize.ShloMosaic.TcCoe

/-- Four images cut from the lanes and stacked. -/
theorem stacked (T : FVec Ideal S48x4096 .bf16) (i : Fin 4) (o : Fin 48) (j : Fin 1024) :
    View.canon (Val := Elt Ideal) (s := S4x48x1024) (e := .bf16)
      [⟨Rect.unit (s := S4x48x1024) ![3, 0, 0] S1x48x1024.size inb_S4x48x1024_S1x48x1024_3_0_0, k0_pay4 (F := Ideal) T⟩,
       ⟨Rect.unit (s := S4x48x1024) ![2, 0, 0] S1x48x1024.size inb_S4x48x1024_S1x48x1024_2_0_0, k0_pay3 (F := Ideal) T⟩,
       ⟨Rect.unit (s := S4x48x1024) ![1, 0, 0] S1x48x1024.size inb_S4x48x1024_S1x48x1024_1_0_0, k0_pay2 (F := Ideal) T⟩,
       ⟨Rect.unit (s := S4x48x1024) ![0, 0, 0] S1x48x1024.size inb_S4x48x1024_S1x48x1024_0_0_0, k0_pay1 (F := Ideal) T⟩] (ix3 i o j)
      = T (ix2 o ⟨1024 * i.val + j.val, by omega⟩) := by
  canon_tiles z h
  all_goals
    pointwise [k0_pay1, k0_pay2, k0_pay3, k0_pay4]
    exact congrArg₂ (fun u v => T (ix2 u v)) (Fin.ext h1.symm) (Fin.ext (by dsimp only [ix3] at h0 h2 ⊢; first | (simp at h0 h2 ⊢; omega) | omega))

variable (m : (ℓ : Loc nD τ sig) → Buf (Elt Ideal) ℓ) (c : Dev nD) (t : Fin cfg0.N)

set_option maxHeartbeats 4000000 in
/-- The output block at a grid point. -/
theorem output (i : Fin 4) (o : Fin 48) (j : Fin 1024) : outsAt0 m c t (ix3 i o j) = k187 m c t (ix2 o ⟨1024 * i.val + j.val, by omega⟩) := by
  unfold outsAt0 out0_A_24
  rw [View.read_writes_eq_canon _ _ _ (cover0_A_24 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)]
  unfold kernelRun0_A
  dsimp only
  exact stacked (k187 m c t) i o j

/-- Which block of the result each grid point writes. -/
theorem index24 : ∀ t : Fin grid0.N, win0_24.index t = ![t.val, 0, 0] := by decide +kernel

/-- The result array of the kernel's program. -/
def image_of (y : S512x48x1024.Idx) : EReal := k187 m c ⟨(y 0).val / 4, by have : (y 0).val < 512 := (y 0).isLt; show _ < 128; omega⟩ (ix2 (y 1) ⟨1024 * ((y 0).val % 4) + (y 2).val, by have : (y 2).val < 1024 := (y 2).isLt; omega⟩)

set_option maxHeartbeats 4000000 in
/-- The result array after the run. -/
theorem array : (dats m 0 c).arrAt 24 cfg0.N = image_of m c := by
  refine (dats m 0 c).arrAt_eq_of_covers 24 _ (by decide +kernel) fun t hf y => ?_
  blk_simp
  rw [after0_24]
  have e : ∀ j, ((win0_24.blk t).view.emb y j).val = (![4 * t.val + (y 0).val, (y 1).val, (y 2).val] : Fin 3 → Nat) j := fun j => by
    have hi := index24 t
    fin_cases j <;> blk_simp [hi]
    · show t.val * 4 + (y 0).val = 4 * t.val + (y 0).val
      omega
    · rfl
    · rfl
  have e0 : ((win0_24.blk t).view.emb y 0).val = 4 * t.val + (y 0).val := e 0
  have e1 : ((win0_24.blk t).view.emb y 1).val = (y 1).val := e 1
  have e2 : ((win0_24.blk t).view.emb y 2).val = (y 2).val := e 2
  have hy : (y 0).val < 4 := (y 0).isLt
  refine Eq.trans (b := outsAt0 m c t (ix3 (y 0) (y 1) (y 2))) (congrArg _ (by funext j; fin_cases j <;> rfl)) ?_
  refine (output m c t (y 0) (y 1) (y 2)).trans ?_
  unfold image_of
  refine congr (congrArg (k187 m c) (Fin.ext ?_)) (congrArg₂ ix2 (Fin.ext e1.symm) (Fin.ext ?_))
  · show t.val = ((win0_24.blk t).view.emb y 0).val / 4
    omega
  · show 1024 * (y 0).val + (y 2).val = 1024 * (((win0_24.blk t).view.emb y 0).val % 4) + ((win0_24.blk t).view.emb y 2).val
    omega

end Cert.KernelIdeal.Points
-- ==== Proof.RefDots.lean ====
/- The reference's convolutions contract three axes at once. Their dot products are read here as plain triple sums. -/
module

public import proofs.«01_k».proof.Proof.Gen.ReferenceIdeal
public import Idealize.ShloMosaic.Lib.Pointwise

@[expose] public section

set_option maxRecDepth 16384

noncomputable section

namespace Cert.ReferenceIdeal.Dots

open Cert.ReferenceIdeal Idealize.ShloMosaic Idealize.ShloMosaic.TcCoe

section Three
variable {sl sr so : Shape} (d : DotDims sl sr so)

/-- A product that contracts three axes sums over three indices. -/
theorem three_rank {a b e : Fin sl.rank} (hc : d.lhsContracting = [a, b, e]) : d.contr.rank = 3 := by
  rw [d.rank_contr, hc]; rfl

/-- The extent of each contracted axis. -/
theorem three_size {a b e : Fin sl.rank} (hc : d.lhsContracting = [a, b, e]) (p : Fin d.contr.rank) :
    d.contr.size p = if p.val = 0 then sl.size a else if p.val = 1 then sl.size b else sl.size e := by
  have key : ∀ (l : List (Fin sl.rank)) (_ : l = [a, b, e]) (p : Fin (l.map sl.size).length),
      (l.map sl.size)[p] = if p.val = 0 then sl.size a else if p.val = 1 then sl.size b else sl.size e := by
    rintro _ rfl ⟨p, hp⟩
    have h3 : p = 0 ∨ p = 1 ∨ p = 2 := by simp at hp; omega
    rcases h3 with rfl | rfl | rfl <;> rfl
  exact key _ hc p

/-- The index of a contraction over three axes, given its three coordinates. -/
def three {a b e : Fin sl.rank} (hc : d.lhsContracting = [a, b, e]) (i : Fin (sl.size a)) (j : Fin (sl.size b))
    (k : Fin (sl.size e)) : d.contr.Idx := fun p =>
  if h : p.val = 0 then i.cast (by rw [three_size d hc p, if_pos h])
  else if h' : p.val = 1 then j.cast (by rw [three_size d hc p, if_neg h, if_pos h'])
  else k.cast (by rw [three_size d hc p, if_neg h, if_neg h'])

/-- Triples of coordinates are the same thing as indices of the contraction. -/
def threeEquiv {a b e : Fin sl.rank} (hc : d.lhsContracting = [a, b, e]) :
    Fin (sl.size a) × Fin (sl.size b) × Fin (sl.size e) ≃ d.contr.Idx where
  toFun q := three d hc q.1 q.2.1 q.2.2
  invFun z :=
    ((z ⟨0, by rw [three_rank d hc]; omega⟩).cast (by rw [three_size d hc]; rfl),
     (z ⟨1, by rw [three_rank d hc]; omega⟩).cast (by rw [three_size d hc]; rfl),
     (z ⟨2, by rw [three_rank d hc]; omega⟩).cast (by rw [three_size d hc]; rfl))
  left_inv _ := rfl
  right_inv z := by
    funext p
    have h3 : p = ⟨0, by rw [three_rank d hc]; omega⟩ ∨ p = ⟨1, by rw [three_rank d hc]; omega⟩
        ∨ p = ⟨2, by rw [three_rank d hc]; omega⟩ := by
      have := three_rank d hc
      rcases p with ⟨p, hp⟩
      simp only [Fin.mk.injEq]; omega
    rcases h3 with rfl | rfl | rfl <;> rfl

/-- A dot product over three axes is a triple sum over the coordinates on these axes. -/
theorem dot_three {a b e : Fin sl.rank} (hc : d.lhsContracting = [a, b, e])
    (l : FVec Ideal sl .f32) (r : FVec Ideal sr .f32) (j : so.Idx) :
    (Host.dotGeneral d none l r : FVec Ideal so .f32) j
      = ∑ i : Fin (sl.size a), ∑ i' : Fin (sl.size b), ∑ i'' : Fin (sl.size e),
        l (d.lhsIdx j (three d hc i i' i'')) * r (d.rhsIdx j (three d hc i i' i'')) := by
  have h0 : (Host.dotGeneral d none l r : FVec Ideal so .f32) j
      = ∑ z : d.contr.Idx, l (d.lhsIdx j z) * r (d.rhsIdx j z) := by
    simp only [Ideal.dotGeneral_def]
    exact zero_add _
  rw [h0, ← Fintype.sum_equiv (threeEquiv d hc) (fun q => l (d.lhsIdx j (three d hc q.1 q.2.1 q.2.2)) * r (d.rhsIdx j (three d hc q.1 q.2.1 q.2.2))) _ fun _ => rfl]
  simp only [Fintype.sum_prod_type]

end Three

/-- The dot product of the classifier's first convolution. -/
theorem dot_first (w : FVec Ideal S128x3x4x4 .f32) (v : FVec Ideal S512x3x4x4x8x8 .f32) (o : Fin 128) (n : Fin 512) (y x : Fin 8) :
    (Host.dotGeneral dot_S128x3x4x4_S512x3x4x4x8x8_S128x512x8x8_123_123_0_045_n_n none w v) (ix4 o n y x)
      = ∑ c : Fin 3, ∑ i : Fin 4, ∑ j : Fin 4, w (ix4 o c i j) * v (ix6 n c i j y x) := by
  rw [dot_three _ rfl]
  refine Finset.sum_congr rfl fun c _ => Finset.sum_congr rfl fun i _ => Finset.sum_congr rfl fun j _ => ?_
  congr 1 <;> refine congrArg _ (funext fun p => ?_) <;> fin_cases p <;> rfl

/-- The dot product of the classifier's 1x1 convolutions. -/
theorem dot_point (w : FVec Ideal S128x128x1x1 .f32) (v : FVec Ideal S512x128x1x1x8x8 .f32) (o : Fin 128) (n : Fin 512) (y x : Fin 8) :
    (Host.dotGeneral dot_S128x128x1x1_S512x128x1x1x8x8_S128x512x8x8_123_123_0_045_n_n none w v) (ix4 o n y x)
      = ∑ c : Fin 128, ∑ i : Fin 1, ∑ j : Fin 1, w (ix4 o c i j) * v (ix6 n c i j y x) := by
  rw [dot_three _ rfl]
  refine Finset.sum_congr rfl fun c _ => Finset.sum_congr rfl fun i _ => Finset.sum_congr rfl fun j _ => ?_
  congr 1 <;> refine congrArg _ (funext fun p => ?_) <;> fin_cases p <;> rfl

/-- The dot product of the head. -/
theorem dot_head (w : FVec Ideal S3x16x3x5x5 .f32) (v : FVec Ideal S512x3x5x5x32x32 .f32) (e : Fin 3) (o : Fin 16) (n : Fin 512) (y x : Fin 32) :
    (Host.dotGeneral dot_S3x16x3x5x5_S512x3x5x5x32x32_S3x16x512x32x32_234_123_01_045_n_n none w v) (ix5 e o n y x)
      = ∑ c : Fin 3, ∑ i : Fin 5, ∑ j : Fin 5, w (ix5 e o c i j) * v (ix6 n c i j y x) := by
  rw [dot_three _ rfl]
  refine Finset.sum_congr rfl fun c _ => Finset.sum_congr rfl fun i _ => Finset.sum_congr rfl fun j _ => ?_
  congr 1 <;> refine congrArg _ (funext fun p => ?_) <;> fin_cases p <;> rfl

/-- The dot product of the shrinking 1x1 convolution. -/
theorem dot_shrink (w : FVec Ideal S3x12x16x1x1 .f32) (v : FVec Ideal S3x512x16x1x1x32x32 .f32) (e : Fin 3) (o : Fin 12) (n : Fin 512) (y x : Fin 32) :
    (Host.dotGeneral dot_S3x12x16x1x1_S3x512x16x1x1x32x32_S3x12x512x32x32_234_234_1_156_0_0 none w v) (ix5 e o n y x)
      = ∑ c : Fin 16, ∑ i : Fin 1, ∑ j : Fin 1, w (ix5 e o c i j) * v (ix7 e n c i j y x) := by
  rw [dot_three _ rfl]
  refine Finset.sum_congr rfl fun c _ => Finset.sum_congr rfl fun i _ => Finset.sum_congr rfl fun j _ => ?_
  congr 1 <;> refine congrArg _ (funext fun p => ?_) <;> fin_cases p <;> rfl

/-- The dot product of a mapping 3x3 convolution. -/
theorem dot_map (w : FVec Ideal S3x12x12x3x3 .f32) (v : FVec Ideal S3x512x12x3x3x32x32 .f32) (e : Fin 3) (o : Fin 12) (n : Fin 512) (y x : Fin 32) :
    (Host.dotGeneral dot_S3x12x12x3x3_S3x512x12x3x3x32x32_S3x12x512x32x32_234_234_1_156_0_0 none w v) (ix5 e o n y x)
      = ∑ c : Fin 12, ∑ i : Fin 3, ∑ j : Fin 3, w (ix5 e o c i j) * v (ix7 e n c i j y x) := by
  rw [dot_three _ rfl]
  refine Finset.sum_congr rfl fun c _ => Finset.sum_congr rfl fun i _ => Finset.sum_congr rfl fun j _ => ?_
  congr 1 <;> refine congrArg _ (funext fun p => ?_) <;> fin_cases p <;> rfl

/-- The dot product of the expanding 1x1 convolution. -/
theorem dot_expand (w : FVec Ideal S3x16x12x1x1 .f32) (v : FVec Ideal S3x512x12x1x1x32x32 .f32) (e : Fin 3) (o : Fin 16) (n : Fin 512) (y x : Fin 32) :
    (Host.dotGeneral dot_S3x16x12x1x1_S3x512x12x1x1x32x32_S3x16x512x32x32_234_234_1_156_0_0 none w v) (ix5 e o n y x)
      = ∑ c : Fin 12, ∑ i : Fin 1, ∑ j : Fin 1, w (ix5 e o c i j) * v (ix7 e n c i j y x) := by
  rw [dot_three _ rfl]
  refine Finset.sum_congr rfl fun c _ => Finset.sum_congr rfl fun i _ => Finset.sum_congr rfl fun j _ => ?_
  congr 1 <;> refine congrArg _ (funext fun p => ?_) <;> fin_cases p <;> rfl

/-- The dot product of the transposed convolution. -/
theorem dot_tail (w : FVec Ideal S3x3x16x9x9 .f32) (v : FVec Ideal S3x512x16x9x9x128x128 .f32) (e : Fin 3) (o : Fin 3) (n : Fin 512) (y x : Fin 128) :
    (Host.dotGeneral dot_S3x3x16x9x9_S3x512x16x9x9x128x128_S3x3x512x128x128_234_234_1_156_0_0 none w v) (ix5 e o n y x)
      = ∑ c : Fin 16, ∑ i : Fin 9, ∑ j : Fin 9, w (ix5 e o c i j) * v (ix7 e n c i j y x) := by
  rw [dot_three _ rfl]
  refine Finset.sum_congr rfl fun c _ => Finset.sum_congr rfl fun i _ => Finset.sum_congr rfl fun j _ => ?_
  congr 1 <;> refine congrArg _ (funext fun p => ?_) <;> fin_cases p <;> rfl

end Cert.ReferenceIdeal.Dots
-- ==== Proof.RefWindows.lean ====
/- The reference's layers, each read at an index: a convolution is the sum over its channels and taps, a window of the
   padded layer is that layer shifted by the tap, and an activation is taken entrywise. -/
module

public import proofs.«01_k».proof.Proof.RefDots
public import proofs.«01_k».proof.Proof.Gen.ReferenceIdeal.Run
public import Idealize.ShloMosaic.Lib.Pointwise
public import Idealize.ShloMosaic.Lib.Tactic.CleanTypes

@[expose] public section

set_option maxRecDepth 16384

noncomputable section

namespace Cert.ReferenceIdeal.Values

open Cert.ReferenceIdeal Cert.ReferenceIdeal.Gen Cert.ReferenceIdeal.Value Idealize.ShloMosaic Idealize.ShloMosaic.TcCoe

variable (V0 : Valuation τ sig (Elt Ideal))

/-- The parametric rectifier: a positive number kept, any other scaled. -/
def relu (a h : EReal) : EReal := if 0 < h then h else a * h

/-- Argument 0 of the reference. -/
def p0 : FVec Ideal S512x3x32x32 .f32 := V0 (Proc.devRef .tc main_arg0)
/-- Argument 1 of the reference. -/
def p1 : FVec Ideal S128x3x4x4 .f32 := V0 (Proc.devRef .tc main_arg1)
/-- Argument 2 of the reference. -/
def p2 : FVec Ideal S128 .f32 := V0 (Proc.devRef .tc main_arg2)
/-- Argument 3 of the reference. -/
def p3 : FVec Ideal S128x128x1x1 .f32 := V0 (Proc.devRef .tc main_arg3)
/-- Argument 4 of the reference. -/
def p4 : FVec Ideal S128 .f32 := V0 (Proc.devRef .tc main_arg4)
/-- Argument 5 of the reference. -/
def p5 : FVec Ideal S128x128x1x1 .f32 := V0 (Proc.devRef .tc main_arg5)
/-- Argument 6 of the reference. -/
def p6 : FVec Ideal S128 .f32 := V0 (Proc.devRef .tc main_arg6)
/-- Argument 7 of the reference. -/
def p7 : FVec Ideal S3x128 .f32 := V0 (Proc.devRef .tc main_arg7)
/-- Argument 8 of the reference. -/
def p8 : FVec Ideal S3 .f32 := V0 (Proc.devRef .tc main_arg8)
/-- Argument 9 of the reference. -/
def p9 : FVec Ideal S3x16x3x5x5 .f32 := V0 (Proc.devRef .tc main_arg9)
/-- Argument 10 of the reference. -/
def p10 : FVec Ideal S3x16 .f32 := V0 (Proc.devRef .tc main_arg10)
/-- Argument 11 of the reference. -/
def p11 : FVec Ideal S3x16 .f32 := V0 (Proc.devRef .tc main_arg11)
/-- Argument 12 of the reference. -/
def p12 : FVec Ideal S3x12x16x1x1 .f32 := V0 (Proc.devRef .tc main_arg12)
/-- Argument 13 of the reference. -/
def p13 : FVec Ideal S3x12 .f32 := V0 (Proc.devRef .tc main_arg13)
/-- Argument 14 of the reference. -/
def p14 : FVec Ideal S3x12 .f32 := V0 (Proc.devRef .tc main_arg14)
/-- Argument 15 of the reference. -/
def p15 : FVec Ideal S3x3x12x12x3x3 .f32 := V0 (Proc.devRef .tc main_arg15)
/-- Argument 16 of the reference. -/
def p16 : FVec Ideal S3x3x12 .f32 := V0 (Proc.devRef .tc main_arg16)
/-- Argument 17 of the reference. -/
def p17 : FVec Ideal S3x3x12 .f32 := V0 (Proc.devRef .tc main_arg17)
/-- Argument 18 of the reference. -/
def p18 : FVec Ideal S3x16x12x1x1 .f32 := V0 (Proc.devRef .tc main_arg18)
/-- Argument 19 of the reference. -/
def p19 : FVec Ideal S3x16 .f32 := V0 (Proc.devRef .tc main_arg19)
/-- Argument 20 of the reference. -/
def p20 : FVec Ideal S3x16 .f32 := V0 (Proc.devRef .tc main_arg20)
/-- Argument 21 of the reference. -/
def p21 : FVec Ideal S3x3x16x9x9 .f32 := V0 (Proc.devRef .tc main_arg21)
/-- Argument 22 of the reference. -/
def p22 : FVec Ideal S3x3 .f32 := V0 (Proc.devRef .tc main_arg22)
/-- Value 9 of the reference, as an array of extended reals. -/
def w9 : FVec Ideal S512x3x4x8x32 .f32 := res_main_v9 V0
/-- Value 23 of the reference, as an array of extended reals. -/
def w23 : FVec Ideal S512x128x8x8 .f32 := res_main_v23 V0
/-- Value 32 of the reference, as an array of extended reals. -/
def w32 : FVec Ideal S512x128x8x8 .f32 := res_main_v32 V0
/-- Value 41 of the reference, as an array of extended reals. -/
def w41 : FVec Ideal S512x128x8x8 .f32 := res_main_v41 V0
/-- Value 50 of the reference, as an array of extended reals. -/
def w50 : FVec Ideal S512x3 .f32 := res_main_v50 V0
/-- Value 57 of the reference, as an array of extended reals. -/
def w57 : FVec Ideal S512x3 .f32 := res_main_v57 V0
/-- Value 61 of the reference, as an array of extended reals. -/
def w61 : FVec Ideal S512x3 .f32 := res_main_v61 V0
/-- Value 69 of the reference, as an array of extended reals. -/
def w69 : FVec Ideal S512x3 .f32 := res_main_v69 V0
/-- Value 70 of the reference, as an array of extended reals. -/
def w70 : FVec Ideal S512x3x36x36 .f32 := res_main_v70 V0
/-- Value 97 of the reference, as an array of extended reals. -/
def w97 : FVec Ideal S3x512x16x32x32 .f32 := res_main_v97 V0
/-- Value 111 of the reference, as an array of extended reals. -/
def w111 : FVec Ideal S3x512x12x32x32 .f32 := res_main_v111 V0
/-- Value 122 of the reference, as an array of extended reals. -/
def w122 : FVec Ideal S3x512x12x34x34 .f32 := res_main_v122 V0
/-- Value 141 of the reference, as an array of extended reals. -/
def w141 : FVec Ideal S3x512x12x32x32 .f32 := res_main_v141 V0
/-- Value 154 of the reference, as an array of extended reals. -/
def w154 : FVec Ideal S3x512x12x34x34 .f32 := res_main_v154 V0
/-- Value 173 of the reference, as an array of extended reals. -/
def w173 : FVec Ideal S3x512x12x32x32 .f32 := res_main_v173 V0
/-- Value 186 of the reference, as an array of extended reals. -/
def w186 : FVec Ideal S3x512x12x34x34 .f32 := res_main_v186 V0
/-- Value 205 of the reference, as an array of extended reals. -/
def w205 : FVec Ideal S3x512x12x32x32 .f32 := res_main_v205 V0
/-- Value 221 of the reference, as an array of extended reals. -/
def w221 : FVec Ideal S3x512x16x32x32 .f32 := res_main_v221 V0
/-- Value 228 of the reference, as an array of extended reals. -/
def w228 : FVec Ideal S3x512x16x136x136 .f32 := res_main_v228 V0
/-- Value 271 of the reference, as an array of extended reals. -/
def w271 : FVec Ideal S3x512x3x128x128 .f32 := res_main_v271 V0

set_option maxHeartbeats 2000000 in
/-- The rows of the head windows. -/
theorem rows_head (n : Fin 512) (c : Fin 3) (i : Fin 5) (y : Fin 32) (x : Fin 36) :
    res_main_v81 V0 (ix5 n c i y x) = res_main_v70 V0 (ix4 n c ⟨y + i, by omega⟩ x) := by
  unfold res_main_v81
  generalize res_main_v70 V0 = T
  clean_types
  pointwise
  split_ifs <;> exact congrArg (fun z => T (ix4 n c z x)) (Fin.ext (by dsimp only; omega))

set_option maxHeartbeats 2000000 in
/-- The rows of the first mapping windows. -/
theorem rows_first (e : Fin 3) (n : Fin 512) (c : Fin 12) (i : Fin 3) (y : Fin 32) (x : Fin 34) :
    res_main_v129 V0 (ix6 e n c i y x) = res_main_v122 V0 (ix5 e n c ⟨y + i, by omega⟩ x) := by
  unfold res_main_v129
  generalize res_main_v122 V0 = T
  clean_types
  pointwise
  split_ifs <;> exact congrArg (fun z => T (ix5 e n c z x)) (Fin.ext (by dsimp only; omega))

set_option maxHeartbeats 2000000 in
/-- The rows of the second mapping windows. -/
theorem rows_second (e : Fin 3) (n : Fin 512) (c : Fin 12) (i : Fin 3) (y : Fin 32) (x : Fin 34) :
    res_main_v161 V0 (ix6 e n c i y x) = res_main_v154 V0 (ix5 e n c ⟨y + i, by omega⟩ x) := by
  unfold res_main_v161
  generalize res_main_v154 V0 = T
  clean_types
  pointwise
  split_ifs <;> exact congrArg (fun z => T (ix5 e n c z x)) (Fin.ext (by dsimp only; omega))

set_option maxHeartbeats 2000000 in
/-- The rows of the third mapping windows. -/
theorem rows_third (e : Fin 3) (n : Fin 512) (c : Fin 12) (i : Fin 3) (y : Fin 32) (x : Fin 34) :
    res_main_v193 V0 (ix6 e n c i y x) = res_main_v186 V0 (ix5 e n c ⟨y + i, by omega⟩ x) := by
  unfold res_main_v193
  generalize res_main_v186 V0 = T
  clean_types
  pointwise
  split_ifs <;> exact congrArg (fun z => T (ix5 e n c z x)) (Fin.ext (by dsimp only; omega))

set_option maxHeartbeats 2000000 in
/-- The rows of the tail windows. -/
theorem rows_tail (e : Fin 3) (n : Fin 512) (c : Fin 16) (i : Fin 9) (y : Fin 128) (x : Fin 136) :
    res_main_v247 V0 (ix6 e n c i y x) = res_main_v228 V0 (ix5 e n c ⟨y + i, by omega⟩ x) := by
  unfold res_main_v247
  generalize res_main_v228 V0 = T
  clean_types
  pointwise
  split_ifs <;> exact congrArg (fun z => T (ix5 e n c z x)) (Fin.ext (by dsimp only; omega))

set_option maxHeartbeats 2000000 in
/-- The padded images. -/
theorem pad_head (n : Fin 512) (c : Fin 3) (y x : Fin 36) :
    w70 V0 (ix4 n c y x) = if h : (2 ≤ y.val ∧ y.val - 2 < 32) ∧ 2 ≤ x.val ∧ x.val - 2 < 32 then
      p0 V0 (ix4 n c ⟨y - 2, by omega⟩ ⟨x - 2, by omega⟩) else 0 := by
  unfold w70 p0 res_main_v70
  clean_types
  pointwise

set_option maxHeartbeats 2000000 in
/-- The padded input of the first mapping layer. -/
theorem pad_first (e : Fin 3) (n : Fin 512) (c : Fin 12) (y x : Fin 34) :
    w122 V0 (ix5 e n c y x) = if h : (1 ≤ y.val ∧ y.val - 1 < 32) ∧ 1 ≤ x.val ∧ x.val - 1 < 32 then
      relu (p14 V0 (ix2 e c)) (w111 V0 (ix5 e n c ⟨y - 1, by omega⟩ ⟨x - 1, by omega⟩)) else 0 := by
  unfold w122 w111 relu p14 res_main_v122
  generalize res_main_v111 V0 = T
  clean_types
  pointwise

set_option maxHeartbeats 2000000 in
/-- The padded input of the second mapping layer. -/
theorem pad_second (e : Fin 3) (n : Fin 512) (c : Fin 12) (y x : Fin 34) :
    w154 V0 (ix5 e n c y x) = if h : (1 ≤ y.val ∧ y.val - 1 < 32) ∧ 1 ≤ x.val ∧ x.val - 1 < 32 then
      relu (p17 V0 (ix3 e 0 c)) (w141 V0 (ix5 e n c ⟨y - 1, by omega⟩ ⟨x - 1, by omega⟩)) else 0 := by
  unfold w154 w141 relu p17 res_main_v154
  generalize res_main_v141 V0 = T
  clean_types
  pointwise

set_option maxHeartbeats 2000000 in
/-- The padded input of the third mapping layer. -/
theorem pad_third (e : Fin 3) (n : Fin 512) (c : Fin 12) (y x : Fin 34) :
    w186 V0 (ix5 e n c y x) = if h : (1 ≤ y.val ∧ y.val - 1 < 32) ∧ 1 ≤ x.val ∧ x.val - 1 < 32 then
      relu (p17 V0 (ix3 e 1 c)) (w173 V0 (ix5 e n c ⟨y - 1, by omega⟩ ⟨x - 1, by omega⟩)) else 0 := by
  unfold w186 w173 relu p17 res_main_v186
  generalize res_main_v173 V0 = T
  clean_types
  pointwise

set_option maxHeartbeats 2000000 in
/-- The dilated and padded input of the tail. -/
theorem pad_tail (e : Fin 3) (n : Fin 512) (c : Fin 16) (y x : Fin 136) :
    w228 V0 (ix5 e n c y x) = if h : (5 ≤ y.val ∧ (y.val - 5) % 4 = 0 ∧ (y.val - 5) / 4 < 32) ∧ 5 ≤ x.val ∧ (x.val - 5) % 4 = 0 ∧ (x.val - 5) / 4 < 32 then
      relu (p20 V0 (ix2 e c)) (w221 V0 (ix5 e n c ⟨(y - 5) / 4, by omega⟩ ⟨(x - 5) / 4, by omega⟩)) else 0 := by
  unfold w228 w221 relu p20 res_main_v228
  generalize res_main_v221 V0 = T
  clean_types
  pointwise

end Cert.ReferenceIdeal.Values
-- ==== Proof.RefOutput.lean ====
/- The reference's result read at an index. -/
module

public import proofs.«01_k».proof.Proof.RefWindows

@[expose] public section

set_option maxRecDepth 16384

noncomputable section

namespace Cert.ReferenceIdeal.Values

open Cert.ReferenceIdeal Cert.ReferenceIdeal.Gen Cert.ReferenceIdeal.Value Idealize.ShloMosaic Idealize.ShloMosaic.TcCoe

variable (V0 : Valuation τ sig (Elt Ideal))

/-- The reference's result. -/
def w300 : FVec Ideal S512x48x1024 .bf16 := val6 V0 (Proc.devRef .tc main_v300)

set_option maxHeartbeats 4000000 in
/-- The result sums the weighted outputs of the three experts. -/
theorem weighted (n : Fin 512) (o : Fin 48) (l : Fin 1024) :
    w300 V0 (ix3 n o l) = 0 + w69 V0 (ix2 n 0) * w271 V0 (ix5 0 n ⟨o.val / 16, by omega⟩ ⟨4 * (l.val / 32) + o.val / 4 % 4, by omega⟩ ⟨4 * (l.val % 32) + o.val % 4, by omega⟩)
      + w69 V0 (ix2 n 1) * w271 V0 (ix5 1 n ⟨o.val / 16, by omega⟩ ⟨4 * (l.val / 32) + o.val / 4 % 4, by omega⟩ ⟨4 * (l.val % 32) + o.val % 4, by omega⟩)
      + w69 V0 (ix2 n 2) * w271 V0 (ix5 2 n ⟨o.val / 16, by omega⟩ ⟨4 * (l.val / 32) + o.val / 4 % 4, by omega⟩ ⟨4 * (l.val % 32) + o.val % 4, by omega⟩) := by
  unfold w300 w69 w271
  rw [val6_main_v300]
  generalize res_main_v69 V0 = W
  generalize res_main_v271 V0 = T
  clean_types
  pointwise
  simp only [Nat.mul_comm 4]

/-- When the weights choose one expert, the result is that expert's output. -/
theorem result (n : Fin 512) (e : Fin 3) (h : ∀ k, w69 V0 (ix2 n k) = if k = e then 1 else 0) (o : Fin 48) (l : Fin 1024) :
    w300 V0 (ix3 n o l) = w271 V0 (ix5 e n ⟨o.val / 16, by omega⟩ ⟨4 * (l.val / 32) + o.val / 4 % 4, by omega⟩ ⟨4 * (l.val % 32) + o.val % 4, by omega⟩) := by
  rw [weighted, h, h, h]
  fin_cases e <;> simp

end Cert.ReferenceIdeal.Values
-- ==== Proof.Entries.lean ====
/- What the operands of the launch hold: each one read at an index, in terms of the program's arguments. -/
module

public import proofs.«01_k».proof.Proof.Blocks
public import Idealize.ShloMosaic.Lib.StableHlo.RunRead

@[expose] public section

set_option maxRecDepth 16384

noncomputable section

namespace Cert.KernelIdeal.Entry

open Cert.KernelIdeal Cert.KernelIdeal.Gen Cert.KernelIdeal.Whole Idealize.ShloMosaic Idealize.ShloMosaic.TcCoe

variable (m : (ℓ : Loc nD τ sig) → Buf (Elt Ideal) ℓ) (c : Dev nD)

/-- The value that pads an operand is zero. -/
theorem zero_word : (FloatOps.sitofp FTy.f32 0#32 : Ideal .f32) = (0 : EReal) := by
  show (((0#32 : BitVec 32).toInt : ℝ) : EReal) = 0
  simp

/-- The zero constant. -/
theorem zero_const : (Scalar.ofBits .f32 0x00000000#32 : Ideal .f32) = (0 : EReal) := by
  pointwise

/-- A padded entry, with the bounds that hold anyway left out. -/
theorem padded {P Q : Prop} [Decidable P] [Decidable Q] (h : P ↔ Q) (f : P → EReal) (z : EReal) (hz : z = 0) :
    (if p : P then f p else z) = if q : Q then f (h.mpr q) else 0 := by
  by_cases p : P
  · rw [dif_pos p, dif_pos (h.mp p)]
  · rw [dif_neg p, dif_neg fun q => p (h.mpr q), hz]

/-- The table of the tail's kernel rows: for the tap `d` and the phase `r`, the row `4 d + 1 - r` held inside the kernel. -/
theorem table : ∀ (d : Fin 3) (r : Fin 4), min (lit0 (S3x4.rowMajor (ix2 d r))).toInt.toNat 8 = min (4 * d.val + 1 - r.val) 8 := by decide +kernel

/-- The table of the tail's taps that lie inside the kernel. -/
theorem inside : ∀ (d : Fin 3) (r : Fin 4) (d' : Fin 3) (r' : Fin 4), lit1 (S3x4x3x4.rowMajor (ix4 d r d' r')) =
    BitVec.ofBool (decide ((r.val ≤ 4 * d.val + 1 ∧ 4 * d.val + 1 - r.val < 9) ∧ r'.val ≤ 4 * d'.val + 1 ∧ 4 * d'.val + 1 - r'.val < 9)) := by decide +kernel

/-- The gather of the tail's kernel rows. -/
theorem gather_rows (x : FVec Ideal S3x3x16x9x9 .f32) (i : IVec S3x4x1 32) (e o : Fin 3) (k : Fin 16) (a : Fin 3) (b : Fin 4) (j : Fin 9) :
    Host.gather gather_S3x3x16x9x9_S3x4x1_S3x3x16x3x4x9_0125_3_n_n_3_2_331619 x i (ix6 e o k a b j) = x (ix5 e o k ⟨min (i (ix3 a b 0)).toInt.toNat 8, by omega⟩ j) := by
  unfold Host.gather
  congr 1
  funext u
  refine Fin.ext ?_
  match u with
  | ⟨0, _⟩ => change 0 + 0 + e.val = e.val; omega
  | ⟨1, _⟩ => change 0 + 0 + o.val = o.val; omega
  | ⟨2, _⟩ => change 0 + 0 + k.val = k.val; omega
  | ⟨3, _⟩ =>
    change min (i _).toInt.toNat 8 = min (i (ix3 a b 0)).toInt.toNat 8
    congr 4
    funext w
    refine Fin.ext ?_
    match w with
    | ⟨0, _⟩ => rfl
    | ⟨1, _⟩ => rfl
    | ⟨2, _⟩ => rfl
  | ⟨4, _⟩ => change 0 + 0 + j.val = j.val; omega

/-- The gather of the tail's kernel columns. -/
theorem gather_cols (x : FVec Ideal S3x3x16x3x4x9 .f32) (i : IVec S3x4x1 32) (e o : Fin 3) (k : Fin 16) (p : Fin 3) (q : Fin 4) (a : Fin 3) (b : Fin 4) :
    Host.gather gather_S3x3x16x3x4x9_S3x4x1_S3x3x16x3x4x3x4_01234_5_n_n_5_2_3316341 x i (ix7 e o k p q a b) = x (ix6 e o k p q ⟨min (i (ix3 a b 0)).toInt.toNat 8, by omega⟩) := by
  unfold Host.gather
  congr 1
  funext u
  refine Fin.ext ?_
  match u with
  | ⟨0, _⟩ => change 0 + 0 + e.val = e.val; omega
  | ⟨1, _⟩ => change 0 + 0 + o.val = o.val; omega
  | ⟨2, _⟩ => change 0 + 0 + k.val = k.val; omega
  | ⟨3, _⟩ => change 0 + 0 + p.val = p.val; omega
  | ⟨4, _⟩ => change 0 + 0 + q.val = q.val; omega
  | ⟨5, _⟩ =>
    change min (i _).toInt.toNat 8 = min (i (ix3 a b 0)).toInt.toNat 8
    congr 4
    funext w
    refine Fin.ext ?_
    match w with
    | ⟨0, _⟩ => rfl
    | ⟨1, _⟩ => rfl
    | ⟨2, _⟩ => rfl

/-- One tap of the tail: the weight the two gathers reach, and zero where the tap lies outside the kernel. -/
theorem tap (x : FVec Ideal S3x3x16x9x9 .f32) (i j : IVec S3x4x1 32) (hi : ∀ a b, i (ix3 a b 0) = lit0 (S3x4.rowMajor (ix2 a b))) (hj : ∀ a b, j (ix3 a b 0) = lit0 (S3x4.rowMajor (ix2 a b)))
    (z : EReal) (hz : z = 0) (e o : Fin 3) (k : Fin 16) (d : Fin 3) (r : Fin 4) (d' : Fin 3) (r' : Fin 4) :
    Scalar.select (lit1 (S3x4x3x4.rowMajor (ix4 d r d' r'))) (Host.gather gather_S3x3x16x3x4x9_S3x4x1_S3x3x16x3x4x3x4_01234_5_n_n_5_2_3316341
      (Host.gather gather_S3x3x16x9x9_S3x4x1_S3x3x16x3x4x9_0125_3_n_n_3_2_331619 x i) j (ix7 e o k d r d' r')) z
      = if h : (r.val ≤ 4 * d.val + 1 ∧ 4 * d.val + 1 - r.val < 9) ∧ r'.val ≤ 4 * d'.val + 1 ∧ 4 * d'.val + 1 - r'.val < 9 then x (ix5 e o k ⟨4 * d.val + 1 - r.val, h.1.2⟩ ⟨4 * d'.val + 1 - r'.val, h.2.2⟩) else 0 := by
  rw [gather_cols, gather_rows, inside]
  have t1 := table d r
  have t2 := table d' r'
  rw [← hi] at t1
  rw [← hj] at t2
  split_ifs with h
  · rw [decide_eq_true h]
    refine congrArg₂ (fun i j : Fin 9 => x (ix5 e o k i j)) (Fin.ext (t1.trans ?_)) (Fin.ext (t2.trans ?_))
    · dsimp only; omega
    · dsimp only; omega
  · rw [decide_eq_false h]
    exact hz

set_option maxHeartbeats 2000000 in
/-- Operand 0 of the launch, read at an index. -/
theorem entry0 (a : Fin 3) (l : Fin 524288) : u0 m c (ix2 a l) = q0 m c (ix4 ⟨l.val / 1024, by omega⟩ a ⟨l.val / 32 % 32, by omega⟩ ⟨l.val % 32, by omega⟩) := by
  unfold u0
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_reads_simp
  pointwise
  rfl

set_option maxHeartbeats 2000000 in
/-- Operand 1 of the launch, read at an index. -/
theorem entry1 (n : Fin 512) (p : Fin 64) (q : Fin 48) : u1 m c (ix3 n p q) = q0 m c (ix4 n ⟨q.val / 16, by omega⟩ ⟨p.val / 8 * 4 + q.val / 4 % 4, by omega⟩ ⟨p.val % 8 * 4 + q.val % 4, by omega⟩) := by
  unfold u1
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_reads_simp
  pointwise
  rfl

set_option maxHeartbeats 2000000 in
/-- Operand 2 of the launch, read at an index. -/
theorem entry2 (q : Fin 48) (o : Fin 128) : u2 m c (ix2 q o) = q1 m c (ix4 o ⟨q.val / 16, by omega⟩ ⟨q.val / 4 % 4, by omega⟩ ⟨q.val % 4, by omega⟩) := by
  unfold u2
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_reads_simp
  pointwise
  rfl

set_option maxHeartbeats 2000000 in
/-- Operand 3 of the launch, read at an index. -/
theorem entry3 (o : Fin 128) : u3 m c (ix2 0 o) = q2 m c (ix1 o) := by
  unfold u3
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_reads_simp
  pointwise
  rfl

set_option maxHeartbeats 2000000 in
/-- Operand 4 of the launch, read at an index. -/
theorem entry4 (q o : Fin 128) : u4 m c (ix2 q o) = q3 m c (ix4 o q 0 0) := by
  unfold u4
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_reads_simp
  pointwise
  rfl

set_option maxHeartbeats 2000000 in
/-- Operand 5 of the launch, read at an index. -/
theorem entry5 (o : Fin 128) : u5 m c (ix2 0 o) = q4 m c (ix1 o) := by
  unfold u5
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_reads_simp
  pointwise
  rfl

set_option maxHeartbeats 2000000 in
/-- Operand 6 of the launch, read at an index. -/
theorem entry6 (q o : Fin 128) : u6 m c (ix2 q o) = q5 m c (ix4 o q 0 0) := by
  unfold u6
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_reads_simp
  pointwise
  rfl

set_option maxHeartbeats 2000000 in
/-- Operand 7 of the launch, read at an index. -/
theorem entry7 (o : Fin 128) : u7 m c (ix2 0 o) = q6 m c (ix1 o) := by
  unfold u7
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_reads_simp
  pointwise
  rfl

set_option maxHeartbeats 2000000 in
/-- Operand 8 of the launch, read at an index. -/
theorem entry8 (q : Fin 128) (o : Fin 3) : u8 m c (ix2 q o) = q7 m c (ix2 o q) := by
  unfold u8
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_reads_simp
  pointwise
  rfl

set_option maxHeartbeats 2000000 in
/-- Operand 9 of the launch, read at an index. -/
theorem entry9 (o : Fin 3) : u9 m c (ix2 0 o) = q8 m c (ix1 o) := by
  unfold u9
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_reads_simp
  pointwise
  rfl

set_option maxHeartbeats 2000000 in
/-- Operand 10 of the launch, read at an index. -/
theorem entry10 (e : Fin 3) (o : Fin 16) (k : Fin 200) : u10 m c (ix3 e o k) = if h : k.val % 8 < 3 then q9 m c (ix5 e o ⟨k.val % 8, h⟩ ⟨k.val / 40, by omega⟩ ⟨k.val / 8 % 5, by omega⟩) else 0 := by
  unfold u10
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_reads_simp
  simp only [StableHlo.TRef.toBuf, StableHlo.TRef.ofBuf, cast_eq]
  pointwise
  exact padded (by omega) _ _ zero_word

set_option maxHeartbeats 2000000 in
/-- Operand 11 of the launch, read at an index. -/
theorem entry11 (e : Fin 3) (o : Fin 16) : u11 m c (ix3 e o 0) = q10 m c (ix2 e o) := by
  unfold u11
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_reads_simp
  pointwise
  rfl

set_option maxHeartbeats 2000000 in
/-- Operand 12 of the launch, read at an index. -/
theorem entry12 (e : Fin 3) (o : Fin 16) : u12 m c (ix3 e o 0) = q11 m c (ix2 e o) := by
  unfold u12
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_reads_simp
  pointwise
  rfl

set_option maxHeartbeats 2000000 in
/-- Operand 13 of the launch, read at an index. -/
theorem entry13 (e : Fin 3) (o k : Fin 16) : u13 m c (ix3 e o k) = if h : o.val < 12 then q12 m c (ix5 e ⟨o.val, h⟩ k 0 0) else 0 := by
  unfold u13
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_reads_simp
  simp only [StableHlo.TRef.toBuf, StableHlo.TRef.ofBuf, cast_eq]
  pointwise
  exact padded (by omega) _ _ zero_word

set_option maxHeartbeats 2000000 in
/-- Operand 14 of the launch, read at an index. -/
theorem entry14 (e : Fin 3) (o : Fin 16) : u14 m c (ix3 e o 0) = if h : o.val < 12 then q13 m c (ix2 e ⟨o.val, h⟩) else 0 := by
  unfold u14
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_reads_simp
  simp only [StableHlo.TRef.toBuf, StableHlo.TRef.ofBuf, cast_eq]
  pointwise
  exact padded (by omega) _ _ zero_word

set_option maxHeartbeats 2000000 in
/-- Operand 15 of the launch, read at an index. -/
theorem entry15 (e : Fin 3) (o : Fin 16) : u15 m c (ix3 e o 0) = if h : o.val < 12 then q14 m c (ix2 e ⟨o.val, h⟩) else 0 := by
  unfold u15
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_reads_simp
  simp only [StableHlo.TRef.toBuf, StableHlo.TRef.ofBuf, cast_eq]
  pointwise
  exact padded (by omega) _ _ zero_word

set_option maxHeartbeats 2000000 in
/-- Operand 16 of the launch, read at an index. -/
theorem entry16 (e s : Fin 3) (o : Fin 16) (k : Fin 144) : u16 m c (ix4 e s o k) = if h : o.val < 12 ∧ k.val % 16 < 12 then q15 m c (ix6 e s ⟨o.val, h.1⟩ ⟨k.val % 16, h.2⟩ ⟨k.val / 48, by omega⟩ ⟨k.val / 16 % 3, by omega⟩) else 0 := by
  unfold u16
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_reads_simp
  simp only [StableHlo.TRef.toBuf, StableHlo.TRef.ofBuf, cast_eq]
  pointwise
  exact padded (by omega) _ _ zero_word

set_option maxHeartbeats 2000000 in
/-- Operand 17 of the launch, read at an index. -/
theorem entry17 (e s : Fin 3) (o : Fin 16) : u17 m c (ix4 e s o 0) = if h : o.val < 12 then q16 m c (ix3 e s ⟨o.val, h⟩) else 0 := by
  unfold u17
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_reads_simp
  simp only [StableHlo.TRef.toBuf, StableHlo.TRef.ofBuf, cast_eq]
  pointwise
  exact padded (by omega) _ _ zero_word

set_option maxHeartbeats 2000000 in
/-- Operand 18 of the launch, read at an index. -/
theorem entry18 (e s : Fin 3) (o : Fin 16) : u18 m c (ix4 e s o 0) = if h : o.val < 12 then q17 m c (ix3 e s ⟨o.val, h⟩) else 0 := by
  unfold u18
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_reads_simp
  simp only [StableHlo.TRef.toBuf, StableHlo.TRef.ofBuf, cast_eq]
  pointwise
  exact padded (by omega) _ _ zero_word

set_option maxHeartbeats 2000000 in
/-- Operand 19 of the launch, read at an index. -/
theorem entry19 (e : Fin 3) (o k : Fin 16) : u19 m c (ix3 e o k) = if h : k.val < 12 then q18 m c (ix5 e o ⟨k.val, h⟩ 0 0) else 0 := by
  unfold u19
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_reads_simp
  simp only [StableHlo.TRef.toBuf, StableHlo.TRef.ofBuf, cast_eq]
  pointwise
  exact padded (by omega) _ _ zero_word

set_option maxHeartbeats 2000000 in
/-- Operand 20 of the launch, read at an index. -/
theorem entry20 (e : Fin 3) (o : Fin 16) : u20 m c (ix3 e o 0) = q19 m c (ix2 e o) := by
  unfold u20
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_reads_simp
  pointwise
  rfl

set_option maxHeartbeats 2000000 in
/-- Operand 21 of the launch, read at an index. -/
theorem entry21 (e : Fin 3) (o : Fin 16) : u21 m c (ix3 e o 0) = q20 m c (ix2 e o) := by
  unfold u21
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_reads_simp
  pointwise
  rfl

set_option maxHeartbeats 2000000 in
/-- Operand 22 of the launch, read at an index. -/
theorem entry22 (e : Fin 3) (o : Fin 48) (k : Fin 144) : u22 m c (ix3 e o k) = if h : (o.val / 4 % 4 ≤ 4 * (k.val / 48) + 1 ∧ 4 * (k.val / 48) + 1 - o.val / 4 % 4 < 9) ∧ o.val % 4 ≤ 4 * (k.val / 16 % 3) + 1 ∧ 4 * (k.val / 16 % 3) + 1 - o.val % 4 < 9 then q21 m c (ix5 e ⟨o.val / 16, by omega⟩ ⟨k.val % 16, by omega⟩ ⟨4 * (k.val / 48) + 1 - o.val / 4 % 4, h.1.2⟩ ⟨4 * (k.val / 16 % 3) + 1 - o.val % 4, h.2.2⟩) else 0 := by
  unfold u22
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_reads_simp
  simp only [StableHlo.TRef.toBuf, StableHlo.TRef.ofBuf, cast_eq]
  pointwise
  exact tap (q21 m c) _ _ (fun _ _ => rfl) (fun _ _ => rfl) _ zero_const _ _ _ _ _ _ _

set_option maxHeartbeats 2000000 in
/-- Operand 23 of the launch, read at an index. -/
theorem entry23 (e : Fin 3) (o : Fin 48) : u23 m c (ix3 e o 0) = q22 m c (ix2 e ⟨o.val / 16, by omega⟩) := by
  unfold u23
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_reads_simp
  pointwise
  rfl

end Cert.KernelIdeal.Entry
-- ==== Proof.RefLayers.lean ====
/- The reference's convolutions, each read at an index as a sum over its channels and taps. -/
module

public import proofs.«01_k».proof.Proof.RefWindows

@[expose] public section

set_option maxRecDepth 16384

noncomputable section

namespace Cert.ReferenceIdeal.Values

open Cert.ReferenceIdeal Cert.ReferenceIdeal.Gen Cert.ReferenceIdeal.Value Idealize.ShloMosaic Idealize.ShloMosaic.TcCoe

variable (V0 : Valuation τ sig (Elt Ideal))

set_option maxHeartbeats 4000000 in
/-- The head convolution. -/
theorem head (e : Fin 3) (n : Fin 512) (o : Fin 16) (y x : Fin 32) :
    w97 V0 (ix5 e n o y x) = (∑ c : Fin 3, ∑ i : Fin 5, ∑ j : Fin 5, p9 V0 (ix5 e o c i j) * w70 V0 (ix4 n c ⟨y + i, by omega⟩ ⟨x + j, by omega⟩)) + p10 V0 (ix2 e o) := by
  unfold w97 w70 p9 p10 res_main_v97
  have hr := rows_head V0
  revert hr
  generalize res_main_v81 V0 = T
  generalize res_main_v70 V0 = S
  intro hr
  clean_types
  pointwise
  refine congrArg₂ (fun u v : EReal => u + v) ((Dots.dot_head _ _ e o n y x).trans (Finset.sum_congr rfl fun c _ => Finset.sum_congr rfl fun i _ => Finset.sum_congr rfl fun j _ => ?_)) rfl
  pointwise
  simp only [hr]
  congr 1
  split_ifs <;> exact congrArg (fun z => S (ix4 n c ⟨y + i, by omega⟩ z)) (Fin.ext (by dsimp only; omega))

set_option maxHeartbeats 4000000 in
/-- The first mapping convolution. -/
theorem first (e : Fin 3) (n : Fin 512) (o : Fin 12) (y x : Fin 32) :
    w141 V0 (ix5 e n o y x) = (∑ c : Fin 12, ∑ i : Fin 3, ∑ j : Fin 3, p15 V0 (ix6 e 0 o c i j) * w122 V0 (ix5 e n c ⟨y + i, by omega⟩ ⟨x + j, by omega⟩)) + p16 V0 (ix3 e 0 o) := by
  unfold w141 w122 p15 p16 res_main_v141
  have hr := rows_first V0
  revert hr
  generalize res_main_v129 V0 = T
  generalize res_main_v122 V0 = S
  intro hr
  clean_types
  pointwise
  refine congrArg₂ (fun u v : EReal => u + v) ((Dots.dot_map _ _ e o n y x).trans (Finset.sum_congr rfl fun c _ => Finset.sum_congr rfl fun i _ => Finset.sum_congr rfl fun j _ => ?_)) rfl
  pointwise
  simp only [hr]
  congr 1
  split_ifs <;> exact congrArg (fun z => S (ix5 e n c ⟨y + i, by omega⟩ z)) (Fin.ext (by dsimp only; omega))

set_option maxHeartbeats 4000000 in
/-- The second mapping convolution. -/
theorem second (e : Fin 3) (n : Fin 512) (o : Fin 12) (y x : Fin 32) :
    w173 V0 (ix5 e n o y x) = (∑ c : Fin 12, ∑ i : Fin 3, ∑ j : Fin 3, p15 V0 (ix6 e 1 o c i j) * w154 V0 (ix5 e n c ⟨y + i, by omega⟩ ⟨x + j, by omega⟩)) + p16 V0 (ix3 e 1 o) := by
  unfold w173 w154 p15 p16 res_main_v173
  have hr := rows_second V0
  revert hr
  generalize res_main_v161 V0 = T
  generalize res_main_v154 V0 = S
  intro hr
  clean_types
  pointwise
  refine congrArg₂ (fun u v : EReal => u + v) ((Dots.dot_map _ _ e o n y x).trans (Finset.sum_congr rfl fun c _ => Finset.sum_congr rfl fun i _ => Finset.sum_congr rfl fun j _ => ?_)) rfl
  pointwise
  simp only [hr]
  congr 1
  split_ifs <;> exact congrArg (fun z => S (ix5 e n c ⟨y + i, by omega⟩ z)) (Fin.ext (by dsimp only; omega))

set_option maxHeartbeats 4000000 in
/-- The third mapping convolution. -/
theorem third (e : Fin 3) (n : Fin 512) (o : Fin 12) (y x : Fin 32) :
    w205 V0 (ix5 e n o y x) = (∑ c : Fin 12, ∑ i : Fin 3, ∑ j : Fin 3, p15 V0 (ix6 e 2 o c i j) * w186 V0 (ix5 e n c ⟨y + i, by omega⟩ ⟨x + j, by omega⟩)) + p16 V0 (ix3 e 2 o) := by
  unfold w205 w186 p15 p16 res_main_v205
  have hr := rows_third V0
  revert hr
  generalize res_main_v193 V0 = T
  generalize res_main_v186 V0 = S
  intro hr
  clean_types
  pointwise
  refine congrArg₂ (fun u v : EReal => u + v) ((Dots.dot_map _ _ e o n y x).trans (Finset.sum_congr rfl fun c _ => Finset.sum_congr rfl fun i _ => Finset.sum_congr rfl fun j _ => ?_)) rfl
  pointwise
  simp only [hr]
  congr 1
  split_ifs <;> exact congrArg (fun z => S (ix5 e n c ⟨y + i, by omega⟩ z)) (Fin.ext (by dsimp only; omega))

set_option maxHeartbeats 4000000 in
/-- The tail convolution. -/
theorem tail (e : Fin 3) (n : Fin 512) (o : Fin 3) (y x : Fin 128) :
    w271 V0 (ix5 e n o y x) = (∑ c : Fin 16, ∑ i : Fin 9, ∑ j : Fin 9, p21 V0 (ix5 e o c i j) * w228 V0 (ix5 e n c ⟨y + i, by omega⟩ ⟨x + j, by omega⟩)) + p22 V0 (ix2 e o) := by
  unfold w271 w228 p21 p22 res_main_v271
  have hr := rows_tail V0
  revert hr
  generalize res_main_v247 V0 = T
  generalize res_main_v228 V0 = S
  intro hr
  clean_types
  pointwise
  refine congrArg₂ (fun u v : EReal => u + v) ((Dots.dot_tail _ _ e o n y x).trans (Finset.sum_congr rfl fun c _ => Finset.sum_congr rfl fun i _ => Finset.sum_congr rfl fun j _ => ?_)) rfl
  pointwise
  simp only [hr]
  congr 1
  split_ifs <;> exact congrArg (fun z => S (ix5 e n c ⟨y + i, by omega⟩ z)) (Fin.ext (by dsimp only; omega))

set_option maxHeartbeats 4000000 in
/-- The shrinking convolution. -/
theorem shrink (e : Fin 3) (n : Fin 512) (o : Fin 12) (y x : Fin 32) :
    w111 V0 (ix5 e n o y x) = (∑ c : Fin 16, p12 V0 (ix5 e o c 0 0) * relu (p11 V0 (ix2 e c)) (w97 V0 (ix5 e n c y x))) + p13 V0 (ix2 e o) := by
  unfold w111 w97 relu p12 p13 p11 res_main_v111
  generalize res_main_v97 V0 = T
  clean_types
  pointwise
  refine congrArg₂ (fun u v : EReal => u + v) ((Dots.dot_shrink _ _ e o n y x).trans (Finset.sum_congr rfl fun c _ => ?_)) rfl
  simp only [Finset.sum_const, Finset.univ_unique, Finset.sum_singleton]
  pointwise
  rfl

set_option maxHeartbeats 4000000 in
/-- The expanding convolution. -/
theorem expand (e : Fin 3) (n : Fin 512) (o : Fin 16) (y x : Fin 32) :
    w221 V0 (ix5 e n o y x) = (∑ c : Fin 12, p18 V0 (ix5 e o c 0 0) * relu (p17 V0 (ix3 e 2 c)) (w205 V0 (ix5 e n c y x))) + p19 V0 (ix2 e o) := by
  unfold w221 w205 relu p18 p19 p17 res_main_v221
  generalize res_main_v205 V0 = T
  clean_types
  pointwise
  refine congrArg₂ (fun u v : EReal => u + v) ((Dots.dot_expand _ _ e o n y x).trans (Finset.sum_congr rfl fun c _ => ?_)) rfl
  simp only [Finset.sum_const, Finset.univ_unique, Finset.sum_singleton]
  pointwise
  rfl

end Cert.ReferenceIdeal.Values
-- ==== Proof.Chain.lean ====
/- The network the kernel runs for the chosen expert is the reference's network for that expert, layer by layer. -/
module

public import proofs.«01_k».proof.Proof.Entries
public import proofs.«01_k».proof.Proof.Points
public import proofs.«01_k».proof.Proof.RefLayers

@[expose] public section

set_option maxRecDepth 16384

noncomputable section

namespace Cert.Chain

open Cert.KernelIdeal Cert.KernelIdeal.Gen Cert.KernelIdeal.Entry Cert.KernelIdeal.Layers Cert.KernelIdeal.Points Idealize.ShloMosaic Idealize.ShloMosaic.TcCoe
open Cert.ReferenceIdeal.Values (p0 p1 p2 p3 p4 p5 p6 p7 p8 p9 p10 p11 p12 p13 p14 p15 p16 p17 p18 p19 p20 p21 p22 relu w70 w97 w111 w122 w141 w154 w173 w186 w205 w221 w228 w271)

/-- The two programs start from the same arguments. -/
structure Agree (m : (ℓ : Loc nD τ sig) → Buf (Elt Ideal) ℓ) (c : Dev nD) (V0 : Valuation Cert.ReferenceIdeal.τ Cert.ReferenceIdeal.sig (Elt Ideal)) : Prop where
  h0 : q0 m c = p0 V0
  h1 : q1 m c = p1 V0
  h2 : q2 m c = p2 V0
  h3 : q3 m c = p3 V0
  h4 : q4 m c = p4 V0
  h5 : q5 m c = p5 V0
  h6 : q6 m c = p6 V0
  h7 : q7 m c = p7 V0
  h8 : q8 m c = p8 V0
  h9 : q9 m c = p9 V0
  h10 : q10 m c = p10 V0
  h11 : q11 m c = p11 V0
  h12 : q12 m c = p12 V0
  h13 : q13 m c = p13 V0
  h14 : q14 m c = p14 V0
  h15 : q15 m c = p15 V0
  h16 : q16 m c = p16 V0
  h17 : q17 m c = p17 V0
  h18 : q18 m c = p18 V0
  h19 : q19 m c = p19 V0
  h20 : q20 m c = p20 V0
  h21 : q21 m c = p21 V0
  h22 : q22 m c = p22 V0

/-- A 5x5 layer over the lanes is a 5x5 layer over the padded image. -/
theorem taps5 (w : Fin 200 → EReal) (W : Fin 3 → Fin 5 → Fin 5 → EReal) (hw : ∀ k, w k = if h : k.val % 8 < 3 then W ⟨k.val % 8, h⟩ ⟨k.val / 40, by omega⟩ ⟨k.val / 8 % 5, by omega⟩ else 0)
    (T : FVec Ideal S8x4228 .f32) (i0 : Fin 4) (f : Fin 3 → Fin 32 → Fin 32 → EReal)
    (hT : ∀ (a : Fin 3) (l : Fin 4096), img l = i0 → T (ix2 ⟨a.val, by omega⟩ ⟨66 + l.val, by omega⟩) = f a ⟨l.val / 32 % 32, by omega⟩ ⟨l.val % 32, by omega⟩) (l : Fin 4096) (hl : img l = i0) :
    ∑ k, w k * win5 T k l = ∑ a : Fin 3, ∑ i : Fin 5, ∑ j : Fin 5, W a i j * pad 2 (f a) (l.val / 32 % 32 + i.val) (l.val % 32 + j.val) := by
  rw [sum_taps5 _ fun k hk => by rw [hw, dif_neg (by omega), zero_mul]]
  refine Finset.sum_congr rfl fun a _ => Finset.sum_congr rfl fun i _ => Finset.sum_congr rfl fun j _ => ?_
  rw [hw, dif_pos (by dsimp only; omega)]
  refine congrArg₂ (fun u v : EReal => u * v) ?_ (win5_pad T ⟨a.val, by omega⟩ i0 (f a) (hT a) i j l hl)
  congr 1 <;> exact Fin.ext (by dsimp only; omega)

/-- A 3x3 layer over the lanes is a 3x3 layer over the padded image. -/
theorem taps3 (C : Nat) (hC : C ≤ 16) (w : Fin 144 → EReal) (W : Fin C → Fin 3 → Fin 3 → EReal)
    (hw : ∀ k, w k = if h : k.val % 16 < C then W ⟨k.val % 16, h⟩ ⟨k.val / 48, by omega⟩ ⟨k.val / 16 % 3, by omega⟩ else 0)
    (T : FVec Ideal S16x4162 .f32) (i0 : Fin 4) (f : Fin C → Fin 32 → Fin 32 → EReal)
    (hT : ∀ (a : Fin C) (l : Fin 4096), img l = i0 → T (ix2 ⟨a.val, by omega⟩ ⟨33 + l.val, by omega⟩) = f a ⟨l.val / 32 % 32, by omega⟩ ⟨l.val % 32, by omega⟩) (l : Fin 4096) (hl : img l = i0) :
    ∑ k, w k * win3 T k l = ∑ a : Fin C, ∑ i : Fin 3, ∑ j : Fin 3, W a i j * pad 1 (f a) (l.val / 32 % 32 + i.val) (l.val % 32 + j.val) := by
  rw [sum_taps3 C hC _ fun k hk => by rw [hw, dif_neg (by omega), zero_mul]]
  refine Finset.sum_congr rfl fun a _ => Finset.sum_congr rfl fun i _ => Finset.sum_congr rfl fun j _ => ?_
  rw [hw, dif_pos (by dsimp only; omega)]
  refine congrArg₂ (fun u v : EReal => u * v) ?_ (win3_pad T ⟨a.val, by omega⟩ i0 (f a) (hT a) i j l hl)
  congr 1 <;> exact Fin.ext (by dsimp only; omega)

/-- A 9x9 sum whose terms off one phase vanish is a 3x3 sum. -/
theorem phases (r s : Fin 4) (Q : Fin 9 → Fin 9 → EReal) (R : Fin 3 → Fin 3 → EReal)
    (hi : ∀ i j, (i.val + r.val) % 4 ≠ 1 → Q i j = 0) (hj : ∀ i j, (j.val + s.val) % 4 ≠ 1 → Q i j = 0)
    (hR : ∀ (a b : Fin 3) (ha : r.val ≤ 4 * a.val + 1 ∧ 4 * a.val + 1 - r.val < 9) (hb : s.val ≤ 4 * b.val + 1 ∧ 4 * b.val + 1 - s.val < 9),
      Q ⟨4 * a.val + 1 - r.val, ha.2⟩ ⟨4 * b.val + 1 - s.val, hb.2⟩ = R a b)
    (hz : ∀ a b : Fin 3, ¬ ((r.val ≤ 4 * a.val + 1 ∧ 4 * a.val + 1 - r.val < 9) ∧ s.val ≤ 4 * b.val + 1 ∧ 4 * b.val + 1 - s.val < 9) → R a b = 0) :
    ∑ i, ∑ j, Q i j = ∑ a, ∑ b, R a b := by
  rw [sum_phase r (fun i => ∑ j, Q i j) fun i h => Finset.sum_eq_zero fun j _ => hi i j h]
  refine Finset.sum_congr rfl fun a _ => ?_
  by_cases ha : r.val ≤ 4 * a.val + 1 ∧ 4 * a.val + 1 - r.val < 9
  · rw [dif_pos ha, sum_phase s _ fun j h => hj _ j h]
    refine Finset.sum_congr rfl fun b _ => ?_
    by_cases hb : s.val ≤ 4 * b.val + 1 ∧ 4 * b.val + 1 - s.val < 9
    · rw [dif_pos hb, hR a b ha hb]
    · rw [dif_neg hb, hz a b fun h => hb h.2]
  · rw [dif_neg ha]
    exact (Finset.sum_eq_zero fun b _ => hz a b fun h => ha h.1).symm

variable {m : (ℓ : Loc nD τ sig) → Buf (Elt Ideal) ℓ} {c : Dev nD} {t : Fin cfg0.N} {V0 : Valuation Cert.ReferenceIdeal.τ Cert.ReferenceIdeal.sig (Elt Ideal)} {i0 : Fin 4} {e : Fin 3}

/-- The number of an image. -/
def num (t : Fin cfg0.N) (i0 : Fin 4) : Fin 512 := ⟨4 * t.val + i0.val, by have : t.val < 128 := t.isLt; omega⟩

/-- The coefficients of an image choose one expert. -/
def Chosen (m : (ℓ : Loc nD τ sig) → Buf (Elt Ideal) ℓ) (c : Dev nD) (t : Fin cfg0.N) (i0 : Fin 4) (e : Fin 3) : Prop := ∀ k, k2 m c t (ix2 i0 k) = if k = e then 1 else 0

set_option maxHeartbeats 1000000 in
/-- The image at a grid point. -/
theorem at_image (A : Agree m c V0) (a : Fin 3) (l : Fin 4096) (hl : img l = i0) :
    k4 m c t (ix2 ⟨a.val, by omega⟩ ⟨66 + l.val, by omega⟩) = p0 V0 (ix4 (num t i0) a ⟨l.val / 32 % 32, by omega⟩ ⟨l.val % 32, by omega⟩) := by
  have hv : l.val / 1024 = i0.val := congrArg Fin.val hl
  rw [image, block0, entry0, A.h0]
  have e1 : (⟨(4096 * t.val + l.val) / 1024, by have : t.val < 128 := t.isLt; omega⟩ : Fin 512) = num t i0 := Fin.ext (by unfold num; dsimp only; omega)
  have e2 : (⟨(4096 * t.val + l.val) / 32 % 32, by omega⟩ : Fin 32) = ⟨l.val / 32 % 32, by omega⟩ := Fin.ext (by dsimp only; omega)
  have e3 : (⟨(4096 * t.val + l.val) % 32, by omega⟩ : Fin 32) = ⟨l.val % 32, by omega⟩ := Fin.ext (by dsimp only; omega)
  rw [← e1, ← e2, ← e3]

set_option maxHeartbeats 1000000 in
/-- The head. -/
theorem at_head (A : Agree m c V0) (hc : Chosen m c t i0 e) (o : Fin 16) (l : Fin 4096) (hl : img l = i0) :
    k34 m c t (ix2 o l) = relu (p11 V0 (ix2 e o)) (w97 V0 (ix5 e (num t i0) o ⟨l.val / 32 % 32, by omega⟩ ⟨l.val % 32, by omega⟩)) := by
  rw [Points.head, hl]
  simp only [mix_select _ _ e hc]
  rw [block10, block11, block12, entry11, entry12, A.h10, A.h11, Cert.ReferenceIdeal.Values.head]
  refine congrArg₂ act rfl (congrArg₂ (fun u v : EReal => u + v) ((taps5 _ (fun a i j => p9 V0 (ix5 e o a i j)) (fun k => ?_) _ i0 (fun a y x => p0 V0 (ix4 (num t i0) a y x)) (fun a l h => at_image A a l h) l hl).trans ?_) rfl)
  · rw [entry10, A.h9]
  · refine Finset.sum_congr rfl fun a _ => Finset.sum_congr rfl fun i _ => Finset.sum_congr rfl fun j _ => ?_
    rw [Cert.ReferenceIdeal.Values.pad_head]
    rfl

set_option maxHeartbeats 1000000 in
/-- The shrinking layer. -/
theorem at_shrink (A : Agree m c V0) (hc : Chosen m c t i0 e) (o : Fin 12) (l : Fin 4096) (hl : img l = i0) :
    k61 m c t (ix2 ⟨o.val, by omega⟩ ⟨33 + l.val, by omega⟩) = relu (p14 V0 (ix2 e o)) (w111 V0 (ix5 e (num t i0) o ⟨l.val / 32 % 32, by omega⟩ ⟨l.val % 32, by omega⟩)) := by
  rw [Points.shrink, hl]
  simp only [mix_select _ _ e hc]
  rw [block13, block14, block15, entry14, entry15, dif_pos o.isLt, dif_pos o.isLt, A.h13, A.h14, Cert.ReferenceIdeal.Values.shrink]
  refine congrArg₂ act rfl (congrArg₂ (fun u v : EReal => u + v) (Finset.sum_congr rfl fun k _ => ?_) rfl)
  rw [entry13, dif_pos o.isLt, A.h12, at_head A hc k l hl]

/-- The weights of the three maps, for a channel that is not padding. -/
theorem weight (A : Agree m c V0) (e s : Fin 3) (o : Fin 12) (k : Fin 144) :
    u16 m c (ix4 e s ⟨o.val, by omega⟩ k) = if h : k.val % 16 < 12 then p15 V0 (ix6 e s o ⟨k.val % 16, h⟩ ⟨k.val / 48, by omega⟩ ⟨k.val / 16 % 3, by omega⟩) else 0 := by
  rw [entry16, A.h15]
  by_cases h : k.val % 16 < 12
  · rw [dif_pos h, dif_pos ⟨o.isLt, h⟩]
  · rw [dif_neg h, dif_neg fun h' => h h'.2]

set_option maxHeartbeats 1000000 in
/-- The first map. -/
theorem at_first (A : Agree m c V0) (hc : Chosen m c t i0 e) (o : Fin 12) (l : Fin 4096) (hl : img l = i0) :
    k91 m c t (ix2 ⟨o.val, by omega⟩ ⟨33 + l.val, by omega⟩) = relu (p17 V0 (ix3 e 0 o)) (w141 V0 (ix5 e (num t i0) o ⟨l.val / 32 % 32, by omega⟩ ⟨l.val % 32, by omega⟩)) := by
  rw [Points.first, hl]
  simp only [mix_select _ _ e hc]
  rw [block16, block17, block18, entry17, entry18, dif_pos o.isLt, dif_pos o.isLt, A.h16, A.h17, Cert.ReferenceIdeal.Values.first]
  refine congrArg₂ act rfl (congrArg₂ (fun u v : EReal => u + v) ((taps3 12 (by omega) _ (fun a i j => p15 V0 (ix6 e 0 o a i j)) (fun k => weight A e 0 o k) _ i0 (fun a y x => relu (p14 V0 (ix2 e a)) (w111 V0 (ix5 e (num t i0) a y x)))
      (fun a l h => at_shrink A hc a l h) l hl).trans ?_) rfl)
  refine Finset.sum_congr rfl fun a _ => Finset.sum_congr rfl fun i _ => Finset.sum_congr rfl fun j _ => ?_
  rw [Cert.ReferenceIdeal.Values.pad_first]
  rfl

set_option maxHeartbeats 1000000 in
/-- The second map. -/
theorem at_second (A : Agree m c V0) (hc : Chosen m c t i0 e) (o : Fin 12) (l : Fin 4096) (hl : img l = i0) :
    k120 m c t (ix2 ⟨o.val, by omega⟩ ⟨33 + l.val, by omega⟩) = relu (p17 V0 (ix3 e 1 o)) (w173 V0 (ix5 e (num t i0) o ⟨l.val / 32 % 32, by omega⟩ ⟨l.val % 32, by omega⟩)) := by
  rw [Points.second, hl]
  simp only [mix_select _ _ e hc]
  rw [block16, block17, block18, entry17, entry18, dif_pos o.isLt, dif_pos o.isLt, A.h16, A.h17, Cert.ReferenceIdeal.Values.second]
  refine congrArg₂ act rfl (congrArg₂ (fun u v : EReal => u + v) ((taps3 12 (by omega) _ (fun a i j => p15 V0 (ix6 e 1 o a i j)) (fun k => weight A e 1 o k) _ i0 (fun a y x => relu (p17 V0 (ix3 e 0 a)) (w141 V0 (ix5 e (num t i0) a y x)))
      (fun a l h => at_first A hc a l h) l hl).trans ?_) rfl)
  refine Finset.sum_congr rfl fun a _ => Finset.sum_congr rfl fun i _ => Finset.sum_congr rfl fun j _ => ?_
  rw [Cert.ReferenceIdeal.Values.pad_second]
  rfl

set_option maxHeartbeats 1000000 in
/-- The third map. -/
theorem at_third (A : Agree m c V0) (hc : Chosen m c t i0 e) (o : Fin 12) (l : Fin 4096) (hl : img l = i0) :
    k146 m c t (ix2 ⟨o.val, by omega⟩ l) = relu (p17 V0 (ix3 e 2 o)) (w205 V0 (ix5 e (num t i0) o ⟨l.val / 32 % 32, by omega⟩ ⟨l.val % 32, by omega⟩)) := by
  rw [Points.third, hl]
  simp only [mix_select _ _ e hc]
  rw [block16, block17, block18, entry17, entry18, dif_pos o.isLt, dif_pos o.isLt, A.h16, A.h17, Cert.ReferenceIdeal.Values.third]
  refine congrArg₂ act rfl (congrArg₂ (fun u v : EReal => u + v) ((taps3 12 (by omega) _ (fun a i j => p15 V0 (ix6 e 2 o a i j)) (fun k => weight A e 2 o k) _ i0 (fun a y x => relu (p17 V0 (ix3 e 1 a)) (w173 V0 (ix5 e (num t i0) a y x)))
      (fun a l h => at_second A hc a l h) l hl).trans ?_) rfl)
  refine Finset.sum_congr rfl fun a _ => Finset.sum_congr rfl fun i _ => Finset.sum_congr rfl fun j _ => ?_
  rw [Cert.ReferenceIdeal.Values.pad_third]
  rfl

set_option maxHeartbeats 1000000 in
/-- The expanding layer. -/
theorem at_expand (A : Agree m c V0) (hc : Chosen m c t i0 e) (o : Fin 16) (l : Fin 4096) (hl : img l = i0) :
    k172 m c t (ix2 ⟨o.val, by omega⟩ ⟨33 + l.val, by omega⟩) = relu (p20 V0 (ix2 e o)) (w221 V0 (ix5 e (num t i0) o ⟨l.val / 32 % 32, by omega⟩ ⟨l.val % 32, by omega⟩)) := by
  rw [Points.expand, hl]
  simp only [mix_select _ _ e hc]
  rw [block19, block20, block21, entry20, entry21, A.h19, A.h20, Cert.ReferenceIdeal.Values.expand]
  refine congrArg₂ act rfl (congrArg₂ (fun u v : EReal => u + v) ?_ rfl)
  rw [sum_cut 12 (by omega) _ fun k hk => by rw [entry19, dif_neg (by omega), zero_mul]]
  refine Finset.sum_congr rfl fun k _ => ?_
  rw [entry19, dif_pos k.isLt, A.h18, at_third A hc k l hl]

set_option maxHeartbeats 2000000 in
/-- The tail: a row holds one channel at one phase of the upscaled image. -/
theorem at_tail (A : Agree m c V0) (hc : Chosen m c t i0 e) (o : Fin 48) (l : Fin 4096) (hl : img l = i0) :
    k187 m c t (ix2 o l) = w271 V0 (ix5 e (num t i0) ⟨o.val / 16, by omega⟩ ⟨4 * (l.val / 32 % 32) + o.val / 4 % 4, by omega⟩ ⟨4 * (l.val % 32) + o.val % 4, by omega⟩) := by
  rw [Points.tail, hl]
  simp only [mix_select _ _ e hc]
  rw [block22, block23, entry23, A.h22, Cert.ReferenceIdeal.Values.tail]
  refine congrArg₂ (fun u v : EReal => u + v) ((taps3 16 (le_refl _) _ (fun a i j => if h : (o.val / 4 % 4 ≤ 4 * i.val + 1 ∧ 4 * i.val + 1 - o.val / 4 % 4 < 9) ∧ o.val % 4 ≤ 4 * j.val + 1 ∧ 4 * j.val + 1 - o.val % 4 < 9
      then p21 V0 (ix5 e ⟨o.val / 16, by omega⟩ a ⟨4 * i.val + 1 - o.val / 4 % 4, h.1.2⟩ ⟨4 * j.val + 1 - o.val % 4, h.2.2⟩) else 0) (fun k => ?_) _ i0
      (fun a y x => relu (p20 V0 (ix2 e a)) (w221 V0 (ix5 e (num t i0) a y x))) (fun a l h => at_expand A hc a l h) l hl).trans ?_) rfl
  · rw [entry22, A.h21]
    rw [dif_pos (show k.val % 16 < 16 by omega)]
  · refine Finset.sum_congr rfl fun a _ => (phases ⟨o.val / 4 % 4, by omega⟩ ⟨o.val % 4, by omega⟩ _ _ (fun i j h => ?_) (fun i j h => ?_) (fun i j ha hb => ?_) fun i j h => ?_).symm
    · rw [Cert.ReferenceIdeal.Values.pad_tail, dif_neg (by dsimp only at h ⊢; omega), mul_zero]
    · rw [Cert.ReferenceIdeal.Values.pad_tail, dif_neg (by dsimp only at h ⊢; omega), mul_zero]
    · dsimp only at ha hb ⊢
      rw [dif_pos ⟨ha, hb⟩, Cert.ReferenceIdeal.Values.pad_tail]
      unfold Cert.KernelIdeal.Layers.pad
      refine congrArg _ ?_
      by_cases hp : (1 ≤ l.val / 32 % 32 + i.val ∧ l.val / 32 % 32 + i.val - 1 < 32) ∧ 1 ≤ l.val % 32 + j.val ∧ l.val % 32 + j.val - 1 < 32
      · rw [dif_pos hp, dif_pos (by dsimp only; omega)]
        have e1 : ∀ h, (⟨(4 * (l.val / 32 % 32) + o.val / 4 % 4 + (4 * i.val + 1 - o.val / 4 % 4) - 5) / 4, h⟩ : Fin 32) = ⟨l.val / 32 % 32 + i.val - 1, hp.1.2⟩ := fun h => Fin.ext (by dsimp only; omega)
        have e2 : ∀ h, (⟨(4 * (l.val % 32) + o.val % 4 + (4 * j.val + 1 - o.val % 4) - 5) / 4, h⟩ : Fin 32) = ⟨l.val % 32 + j.val - 1, hp.2.2⟩ := fun h => Fin.ext (by dsimp only; omega)
        dsimp only
        rw [e1, e2]
      · rw [dif_neg hp, dif_neg (by dsimp only; omega)]
    · dsimp only at h ⊢
      rw [dif_neg h, zero_mul]

end Cert.Chain
-- ==== Proof.Pick.lean ====
/- The router's choice: the first of three scores that is as large as each of the others, and finite extended reals. -/
module

public import Idealize.ShloMosaic.Lib.IdealHost
public import Idealize.ShloMosaic.Lib.Pointwise

@[expose] public section

noncomputable section

namespace Cert.Router

open Idealize.ShloMosaic

/-- The first of three scores that is as large as each of the others. -/
def pick (s : Fin 3 → EReal) : Fin 3 := if s 1 ≤ s 0 ∧ s 2 ≤ s 0 then 0 else if s 2 ≤ s 1 then 1 else 2

/-- The choice depends on the order of the scores alone. -/
theorem pick_congr (s s' : Fin 3 → EReal) (h : ∀ a b, s a ≤ s b ↔ s' a ≤ s' b) : pick s = pick s' := by
  unfold pick
  simp only [h]

/-- The slope of the classifier's rectifier. -/
def tenth : EReal := Ideal.ofBits .f32 0x3DCCCCCD#32

/-- The classifier's rectifier. -/
def leak (v : EReal) : EReal := if 0 < v then v else tenth * v

/-- The rectifier decided by `0 ≤ v` instead: at zero both give zero. -/
theorem leak_ge (v : EReal) : (if 0 ≤ v then v else tenth * v) = leak v := by
  unfold leak
  rcases lt_trichotomy v 0 with h | h | h
  · rw [if_neg (not_le.mpr h), if_neg (not_lt.mpr h.le)]
  · subst h; simp
  · rw [if_pos h.le, if_pos h]

/-- A finite extended real. -/
def Finite (v : EReal) : Prop := ∃ r : ℝ, v = (r : EReal)

/-- A sum of finite values is finite. -/
theorem Finite.add {u v : EReal} (hu : Finite u) (hv : Finite v) : Finite (u + v) := by
  obtain ⟨a, rfl⟩ := hu; obtain ⟨b, rfl⟩ := hv
  exact ⟨a + b, (EReal.coe_add a b).symm⟩

/-- A product of finite values is finite. -/
theorem Finite.mul {u v : EReal} (hu : Finite u) (hv : Finite v) : Finite (u * v) := by
  obtain ⟨a, rfl⟩ := hu; obtain ⟨b, rfl⟩ := hv
  exact ⟨a * b, (EReal.coe_mul a b).symm⟩

/-- A finite sum of finite values is finite. -/
theorem Finite.sum {ι : Type} (s : Finset ι) (f : ι → EReal) (h : ∀ i, Finite (f i)) : Finite (∑ i ∈ s, f i) := by
  classical
  induction s using Finset.induction_on with
  | empty => exact ⟨0, by simp⟩
  | insert a s ha ih => rw [Finset.sum_insert ha]; exact (h a).add ih

/-- The slope of the classifier is finite. -/
theorem finite_tenth : Finite tenth := by
  unfold tenth
  exact ⟨_, by simp only [Ideal.ofBits, Ideal.ieee]; simp [-EReal.coe_mul]; rfl⟩

/-- The leaky step keeps a value finite. -/
theorem Finite.leak {v : EReal} (h : Finite v) : Finite (leak v) := by
  unfold Router.leak
  split_ifs
  · exact h
  · exact finite_tenth.mul h

/-- The number of places the classifier averages over. -/
theorem places : Ideal.ofBits .f32 0x42800000#32 = ((64 : ℝ) : EReal) := by
  simp [Ideal.ofBits, Ideal.ieee, -EReal.coe_mul]; norm_num

/-- A finite value divided by the number of cells is finite. -/
theorem Finite.mean {v : EReal} (h : Finite v) : Finite (Ideal.div v (Ideal.ofBits .f32 0x42800000#32)) := by
  rw [places, Ideal.div_coe (by norm_num)]
  exact h.mul ⟨_, rfl⟩

/-- The least bound of the running maximum. -/
theorem bottom : Ideal.ofBits .f32 0xFF800000#32 = (⊥ : EReal) := by
  simp [Ideal.ofBits, Ideal.ieee]

/-- The running maximum of three scores. -/
theorem fold_three (s : Fin 3 → EReal) : Finset.fold max (Ideal.ofBits .f32 0xFF800000#32) s Finset.univ = max (s 0) (max (s 1) (s 2)) := by
  rw [bottom]
  have : (Finset.univ : Finset (Fin 3)) = {0, 1, 2} := by decide
  rw [this, Finset.fold_insert (by decide), Finset.fold_insert (by decide), Finset.fold_singleton]
  simp

/-- The running minimum of three words. -/
theorem fold_words (f : Fin 3 → BitVec 32) (b : BitVec 32) : Finset.fold IntOp.minsi b f Finset.univ = IntOp.minsi (f 0) (IntOp.minsi (f 1) (IntOp.minsi (f 2) b)) := by
  have : (Finset.univ : Finset (Fin 3)) = {0, 1, 2} := by decide
  rw [this, Finset.fold_insert (by decide), Finset.fold_insert (by decide), Finset.fold_singleton]

/-- The least position at which the largest score stands, as a one-hot weight. -/
theorem hot (s : Fin 3 → EReal) (e : Fin 3) (M : EReal) (hM : M = max (s 0) (max (s 1) (s 2))) :
    (FloatOps.uitofp FTy.f32 (IntOp.cmpi CmpIPredicate.eq (Finset.fold IntOp.minsi 2147483647#32
      (fun x => if s x = M then BitVec.ofNat 32 x.val else 3#32) Finset.univ) (BitVec.ofNat 32 e.val)) : Ideal .f32) = if e = pick s then (1 : EReal) else 0 := by
  rw [fold_words]
  have h0 : s 0 = M ↔ s 1 ≤ s 0 ∧ s 2 ≤ s 0 := by
    rw [hM]
    constructor
    · intro h; rw [h]; exact ⟨le_trans (le_max_left _ _) (le_max_right _ _), le_trans (le_max_right _ _) (le_max_right _ _)⟩
    · rintro ⟨h, h'⟩; exact (max_eq_left (max_le h h')).symm
  have h1 : ¬ s 0 = M → (s 1 = M ↔ s 2 ≤ s 1) := by
    intro hn
    rw [h0] at hn
    rw [hM]
    constructor
    · intro h; rw [h]; exact le_trans (le_max_right _ _) (le_max_right _ _)
    · intro h
      have : s 0 ≤ s 1 := by
        by_contra hc
        exact hn ⟨(not_le.mp hc).le, h.trans (not_le.mp hc).le⟩
      rw [max_eq_left h, max_eq_right this]
  have h2 : ¬ s 0 = M → ¬ s 1 = M → s 2 = M := by
    intro a b
    rcases max_choice (s 0) (max (s 1) (s 2)) with h | h
    · exact absurd (hM.trans h).symm a
    · rcases max_choice (s 1) (s 2) with h' | h'
      · exact absurd (hM.trans (h.trans h')).symm b
      · exact (hM.trans (h.trans h')).symm
  have one : (FloatOps.uitofp FTy.f32 1#1 : Ideal .f32) = (1 : EReal) := by
    show (((1#1 : BitVec 1).toNat : ℝ) : EReal) = 1
    simp
  have zero : (FloatOps.uitofp FTy.f32 0#1 : Ideal .f32) = (0 : EReal) := by
    show (((0#1 : BitVec 1).toNat : ℝ) : EReal) = 0
    simp
  unfold pick
  by_cases a : s 0 = M
  · rw [if_pos a, if_pos (h0.mp a)]
    by_cases b : s 1 = M <;> by_cases c : s 2 = M <;> simp only [b, c, if_true, if_false] <;> fin_cases e <;> first | exact one | exact zero
  · rw [if_neg a, if_neg (fun h => a (h0.mpr h))]
    by_cases b : s 1 = M
    · rw [if_pos b, if_pos ((h1 a).mp b)]
      by_cases c : s 2 = M <;> simp only [c, if_true, if_false] <;> fin_cases e <;> first | exact one | exact zero
    · rw [if_neg b, if_neg (fun h => b ((h1 a).mpr h)), if_pos (h2 a b)]
      fin_cases e <;> first | exact one | exact zero

/-- The softmax keeps the order of finite scores. -/
theorem softmax_order (s w : Fin 3 → EReal) (hs : ∀ a, Finite (s a)) (M : EReal) (hM : Finite M)
    (hw : ∀ a, w a = Ideal.div (Ideal.exp (s a - M)) (∑ b, Ideal.exp (s b - M))) (a b : Fin 3) : w a ≤ w b ↔ s a ≤ s b := by
  choose r hr using hs
  obtain ⟨μ, rfl⟩ := hM
  have he : ∀ x, Ideal.exp (s x - (μ : EReal)) = ((Real.exp (r x - μ) : ℝ) : EReal) := by
    intro x
    rw [hr, ← EReal.coe_sub]
    rfl
  have hsum : (∑ b, Ideal.exp (s b - (μ : EReal))) = ((∑ b, Real.exp (r b - μ) : ℝ) : EReal) := by
    simp only [he, Fin.sum_univ_three, EReal.coe_add]
  have hpos : 0 < ∑ b, Real.exp (r b - μ) := Finset.sum_pos (fun _ _ => Real.exp_pos _) ⟨0, Finset.mem_univ _⟩
  rw [hw, hw, hsum, Ideal.div_coe hpos.ne', Ideal.div_coe hpos.ne', he, he, ← EReal.coe_mul, ← EReal.coe_mul, EReal.coe_le_coe_iff, hr, hr, EReal.coe_le_coe_iff]
  rw [mul_le_mul_iff_left₀ (by positivity), Real.exp_le_exp]
  exact sub_le_sub_iff_right μ

end Cert.Router
-- ==== Proof.Coefs.lean ====
/- The kernel's router: the classifier read at an index, and the three coefficients of an image as the choice of one expert. -/
module

public import proofs.«01_k».proof.Proof.Points
public import proofs.«01_k».proof.Proof.Pick

@[expose] public section

set_option maxRecDepth 16384

noncomputable section

namespace Cert.KernelIdeal.Points

open Cert.KernelIdeal Cert.KernelIdeal.Gen Cert.KernelIdeal.Whole Cert.KernelIdeal.Entry Cert.Router Idealize.ShloMosaic Idealize.ShloMosaic.TcCoe

/-- The classifier's last layer before the average, at a row and a channel. -/
def deep (v0 : FVec Ideal S4x64x48 .f32) (v3 : FVec Ideal S48x128 .f32) (v6 : FVec Ideal S1x128 .f32) (v15 : FVec Ideal S128x128 .f32) (v18 : FVec Ideal S1x128 .f32) (v27 : FVec Ideal S128x128 .f32) (v30 : FVec Ideal S1x128 .f32)
    (i : Fin 4) (p : Fin 64) (o : Fin 128) : EReal :=
  (∑ q : Fin 128, leak ((∑ s : Fin 128, leak ((∑ k : Fin 48, v0 (ix3 i p k) * v3 (ix2 k s)) + v6 (ix2 0 s)) * v15 (ix2 s q)) + v18 (ix2 0 q)) * v27 (ix2 q o)) + v30 (ix2 0 o)

/-- The layers before the average, as the kernel computes them. -/
theorem deep_eq (v0 : FVec Ideal S4x64x48 .f32) (v3 : FVec Ideal S48x128 .f32) (v6 : FVec Ideal S1x128 .f32) (v15 : FVec Ideal S128x128 .f32) (v18 : FVec Ideal S1x128 .f32) (v27 : FVec Ideal S128x128 .f32) (v30 : FVec Ideal S1x128 .f32)
    (r : Fin 256) (o : Fin 128) : k0_pay5 (F := Ideal) v0 v3 v6 v15 v18 v27 v30 (ix2 r o) = deep v0 v3 v6 v15 v18 v27 v30 ⟨r.val / 64, by omega⟩ ⟨r.val % 64, by omega⟩ o := by
  pointwise [k0_pay5]
  rfl

/-- The average and the last layer: an image's scores. -/
def score (T : FVec Ideal S256x128 .f32) (v43 : FVec Ideal S128x3 .f32) (v46 : FVec Ideal S1x3 .f32) (i : Fin 4) (e : Fin 3) : EReal :=
  (∑ q : Fin 128, Ideal.div (∑ p : Fin 64, leak (T (ix2 ⟨i.val * 64 + p.val, by omega⟩ q))) (Ideal.ofBits .f32 0x42800000#32) * v43 (ix2 q e)) + v46 (ix2 0 e)

/-- A truth value as a weight. -/
theorem word_one : (FloatOps.sitofp FTy.f32 (BitVec.setWidth 32 1#1) : Ideal .f32) = (1 : EReal) := by
  show ((((1#1 : BitVec 1).setWidth 32).toInt : ℝ) : EReal) = 1
  simp

/-- A false truth value as a weight. -/
theorem word_zero : (FloatOps.sitofp FTy.f32 (BitVec.setWidth 32 0#1) : Ideal .f32) = (0 : EReal) := by
  show ((((0#1 : BitVec 1).setWidth 32).toInt : ℝ) : EReal) = 0
  simp

/-- The first comparison of the kernel, as a weight: whether the first score is chosen. -/
theorem choose_zero (s : Fin 3 → EReal) (a b : Prop) [Decidable a] [Decidable b] (ha : a ↔ s 1 ≤ s 0) (hb : b ↔ s 2 ≤ s 0) :
    (FloatOps.sitofp FTy.f32 (BitVec.setWidth 32 (IntOp.andi (BitVec.ofBool (decide a)) (BitVec.ofBool (decide b)))) : Ideal .f32) = if (0 : Fin 3) = pick s then (1 : EReal) else 0 := by
  unfold pick
  simp only [← ha, ← hb]
  by_cases p : a <;> by_cases q : b <;> simp only [p, q, decide_true, decide_false, and_self, and_true, and_false, if_true, if_false]
  · exact word_one
  all_goals (split_ifs <;> first | exact word_zero | exact absurd ‹(0 : Fin 3) = _› (by decide))

/-- The second comparison of the kernel, as a weight: whether the second score is chosen. -/
theorem choose_one (s : Fin 3 → EReal) (a b d : Prop) [Decidable a] [Decidable b] [Decidable d] (ha : a ↔ s 1 ≤ s 0) (hb : b ↔ s 2 ≤ s 0) (hd : d ↔ s 2 ≤ s 1) :
    (FloatOps.sitofp FTy.f32 (BitVec.setWidth 32 (IntOp.andi (IntOp.xori (IntOp.andi (BitVec.ofBool (decide a)) (BitVec.ofBool (decide b))) 1#1) (BitVec.ofBool (decide d)))) : Ideal .f32)
      = if (1 : Fin 3) = pick s then (1 : EReal) else 0 := by
  unfold pick
  simp only [← ha, ← hb, ← hd]
  by_cases p : a <;> by_cases q : b <;> by_cases r : d <;> simp only [p, q, r, decide_true, decide_false, and_self, and_true, and_false, if_true, if_false] <;>
    first | exact word_one | exact word_zero

/-- The third comparison of the kernel, as a weight: whether the third score is chosen. -/
theorem choose_two (s : Fin 3 → EReal) (a b d : Prop) [Decidable a] [Decidable b] [Decidable d] (ha : a ↔ s 1 ≤ s 0) (hb : b ↔ s 2 ≤ s 0) (hd : d ↔ s 2 ≤ s 1) :
    (FloatOps.sitofp FTy.f32 (BitVec.setWidth 32 (IntOp.andi (IntOp.xori (IntOp.andi (BitVec.ofBool (decide a)) (BitVec.ofBool (decide b))) 1#1)
        (IntOp.xori (IntOp.andi (IntOp.xori (IntOp.andi (BitVec.ofBool (decide a)) (BitVec.ofBool (decide b))) 1#1) (BitVec.ofBool (decide d))) 1#1))) : Ideal .f32)
      = if (2 : Fin 3) = pick s then (1 : EReal) else 0 := by
  unfold pick
  simp only [← ha, ← hb, ← hd]
  by_cases p : a <;> by_cases q : b <;> by_cases r : d <;> simp only [p, q, r, decide_true, decide_false, and_self, and_true, and_false, if_true, if_false] <;>
    first | exact word_one | exact word_zero

set_option maxHeartbeats 4000000 in
/-- The coefficients, as the kernel computes them from the layers before the average. -/
theorem coefs_eq (T : FVec Ideal S256x128 .f32) (g : IVec S256x128 1) (hg : ∀ r q, g (ix2 r q) = BitVec.ofBool (decide ((0 : EReal) < T (ix2 r q)))) (v43 : FVec Ideal S128x3 .f32) (v46 : FVec Ideal S1x3 .f32)
    (i : Fin 4) (e : Fin 3) : k0_pay7 (F := Ideal) T g v43 v46 (ix2 i e) = if e = pick (score T v43 v46 i) then (1 : EReal) else 0 := by
  have hl : ∀ r q, Scalar.select (g (ix2 r q)) (T (ix2 r q)) (Ideal.ofBits .f32 0x3DCCCCCD#32 * T (ix2 r q)) = leak (T (ix2 r q)) := fun r q => by
    rw [hg]
    unfold leak tenth
    by_cases h : (0 : EReal) < T (ix2 r q)
    · rw [if_pos h, decide_eq_true h]; rfl
    · rw [if_neg h, decide_eq_false h]; rfl
  fin_cases e
  · pointwise [k0_pay7]
    simp only [hl]
    exact choose_zero (score T v43 v46 i) _ _ Iff.rfl Iff.rfl
  · pointwise [k0_pay7]
    simp only [hl]
    exact choose_one (score T v43 v46 i) _ _ _ Iff.rfl Iff.rfl Iff.rfl
  · pointwise [k0_pay7]
    simp only [hl]
    exact choose_two (score T v43 v46 i) _ _ _ Iff.rfl Iff.rfl Iff.rfl

end Cert.KernelIdeal.Points
-- ==== Proof.Choice.lean ====
/- The kernel's coefficients at a grid point, from the blocks. -/
module

public import proofs.«01_k».proof.Proof.Coefs

@[expose] public section

set_option maxRecDepth 16384

noncomputable section

namespace Cert.KernelIdeal.Points

open Cert.KernelIdeal Cert.KernelIdeal.Gen Cert.KernelIdeal.Whole Cert.KernelIdeal.Entry Cert.Router Idealize.ShloMosaic Idealize.ShloMosaic.TcCoe

variable (m : (ℓ : Loc nD τ sig) → Buf (Elt Ideal) ℓ) (c : Dev nD) (t : Fin cfg0.N)

/-- The scores of an image at a grid point. -/
def level (i : Fin 4) (e : Fin 3) : EReal :=
  (∑ q : Fin 128, Ideal.div (∑ p : Fin 64, leak (deep (b1 m c t) (b2 m c t) (b3 m c t) (b4 m c t) (b5 m c t) (b6 m c t) (b7 m c t) i p q)) (Ideal.ofBits .f32 0x42800000#32) * b8 m c t (ix2 q e)) + b9 m c t (ix2 0 e)

set_option maxHeartbeats 4000000 in
/-- The coefficients of an image choose its largest score. -/
theorem coefs (i : Fin 4) (e : Fin 3) : k2 m c t (ix2 i e) = if e = pick (level m c t i) then (1 : EReal) else 0 := by
  unfold k2 kernelRun0_A.sl.r_2
  refine (coefs_eq _ _ (fun r q => ?_) _ _ i e).trans ?_
  · unfold kernelRun0_A.sl.r_1 kernelRun0_A.sl.r
    pointwise [k0_pay6]
  · have h : ∀ (v43 : FVec Ideal S128x3 .f32) (v46 : FVec Ideal S1x3 .f32) (_ : v43 = b8 m c t) (_ : v46 = b9 m c t), score (kernelRun0_A.sl.r (F := Ideal) c (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (b1 m c t) (b2 m c t) (b3 m c t) (b4 m c t) (b5 m c t) (b6 m c t) (b7 m c t)) v43 v46 i = level m c t i := by
      intro v43 v46 h8 h9
      subst h8 h9
      funext e
      unfold score level kernelRun0_A.sl.r
      simp only [deep_eq]
      unfold deep
      simp only [View.readAt_eq_ld]
      pointwise
      simp only [Memref.IsWhole.read_unread]
      have e1 : ∀ (p : Fin 64) h, (⟨(i.val * 64 + p.val) / 64, h⟩ : Fin 4) = i := fun p h => Fin.ext (by dsimp only; omega)
      have e2 : ∀ (p : Fin 64) h, (⟨(i.val * 64 + p.val) % 64, h⟩ : Fin 64) = p := fun p h => Fin.ext (by dsimp only; omega)
      simp only [e1, e2]
    rw [h _ _ ?_ ?_]
    · rw [View.readAt_eq_ld]
      funext y
      pointwise
      simp only [Memref.IsWhole.read_unread]
    · rw [View.readAt_eq_ld]
      funext y
      pointwise
      simp only [Memref.IsWhole.read_unread]
      refine congrArg (b9 m c t) (funext fun j => ?_)
      fin_cases j
      · exact Subsingleton.elim (α := Fin 1) _ _
      · rfl

end Cert.KernelIdeal.Points
-- ==== Proof.RefRouter.lean ====
/- The reference's router: the classifier's layers read at an index, and its one-hot weights for finite parameters. -/
module

public import proofs.«01_k».proof.Proof.RefWindows
public import proofs.«01_k».proof.Proof.Pick

@[expose] public section

set_option maxRecDepth 16384

noncomputable section

namespace Cert.ReferenceIdeal.Values

open Cert.ReferenceIdeal Cert.ReferenceIdeal.Gen Cert.ReferenceIdeal.Value Cert.Router Idealize.ShloMosaic Idealize.ShloMosaic.TcCoe

variable (V0 : Valuation τ sig (Elt Ideal))

set_option maxHeartbeats 2000000 in
/-- The rows of the patches. -/
theorem rows_patch (n : Fin 512) (c : Fin 3) (i : Fin 4) (y : Fin 8) (x : Fin 32) :
    w9 V0 (ix5 n c i y x) = p0 V0 (ix4 n c ⟨4 * y.val + i.val, by omega⟩ x) := by
  unfold w9 p0 res_main_v9 res_main_v0
  clean_types
  pointwise
  have hz : ∀ a b : Fin 32, a.val = b.val → V0 (Proc.devRef .tc main_arg0) (ix4 n c a x) = V0 (Proc.devRef .tc main_arg0) (ix4 n c b x) := fun a b h => congrArg (fun z => V0 (Proc.devRef .tc main_arg0) (ix4 n c z x)) (Fin.ext h)
  split_ifs <;> first | (exfalso; omega) | (refine hz _ _ ?_; show _ = 4 * y.val + i.val; first | omega | (dsimp only; omega))

set_option maxHeartbeats 4000000 in
/-- The patch convolution. -/
theorem patch (n : Fin 512) (o : Fin 128) (y x : Fin 8) :
    w23 V0 (ix4 n o y x) = (∑ c : Fin 3, ∑ i : Fin 4, ∑ j : Fin 4, p1 V0 (ix4 o c i j) * p0 V0 (ix4 n c ⟨4 * y.val + i.val, by omega⟩ ⟨4 * x.val + j.val, by omega⟩)) + p2 V0 (ix1 o) := by
  have hr := rows_patch V0
  revert hr
  unfold w23 w9 p1 p2 res_main_v23
  generalize res_main_v9 V0 = T
  clean_types
  intro hr
  pointwise
  refine congrArg₂ (fun u v : EReal => u + v) ((Dots.dot_first _ _ o n y x).trans (Finset.sum_congr rfl fun c _ => Finset.sum_congr rfl fun i _ => Finset.sum_congr rfl fun j _ => congrArg _ ?_)) rfl
  rw [← hr]
  pointwise
  split_ifs <;> exact congrArg (fun z => T (ix5 n c i y z)) (Fin.ext (by dsimp only; omega))

set_option maxHeartbeats 4000000 in
/-- The first pointwise layer of the classifier. -/
theorem hidden (n : Fin 512) (o : Fin 128) (y x : Fin 8) :
    w32 V0 (ix4 n o y x) = (∑ q : Fin 128, p3 V0 (ix4 o q 0 0) * leak (w23 V0 (ix4 n q y x))) + p4 V0 (ix1 o) := by
  simp only [← leak_ge]
  unfold w32 w23 p3 p4 res_main_v32
  generalize res_main_v23 V0 = T
  clean_types
  pointwise
  refine congrArg₂ (fun u v : EReal => u + v) ((Dots.dot_point _ _ o n y x).trans (Finset.sum_congr rfl fun q _ => ?_)) rfl
  simp only [Finset.univ_unique, Finset.sum_singleton]
  pointwise
  rfl

set_option maxHeartbeats 4000000 in
/-- The second pointwise layer of the classifier. -/
theorem deeper (n : Fin 512) (o : Fin 128) (y x : Fin 8) :
    w41 V0 (ix4 n o y x) = (∑ q : Fin 128, p5 V0 (ix4 o q 0 0) * leak (w32 V0 (ix4 n q y x))) + p6 V0 (ix1 o) := by
  simp only [← leak_ge]
  unfold w41 w32 p5 p6 res_main_v41
  generalize res_main_v32 V0 = T
  clean_types
  pointwise
  refine congrArg₂ (fun u v : EReal => u + v) ((Dots.dot_point _ _ o n y x).trans (Finset.sum_congr rfl fun q _ => ?_)) rfl
  simp only [Finset.univ_unique, Finset.sum_singleton]
  pointwise
  rfl

set_option maxHeartbeats 4000000 in
/-- The classifier's scores. -/
theorem scores (n : Fin 512) (o : Fin 3) :
    w50 V0 (ix2 n o) = (∑ q : Fin 128, Ideal.div (∑ y : Fin 8, ∑ x : Fin 8, leak (w41 V0 (ix4 n q y x))) (Ideal.ofBits .f32 0x42800000#32) * p7 V0 (ix2 o q)) + p8 V0 (ix1 o) := by
  simp only [← leak_ge]
  unfold w50 w41 p7 p8 res_main_v50
  generalize res_main_v41 V0 = T
  clean_types
  pointwise
  rfl

/-- The exponentials of the scores. -/
theorem exponents (n : Fin 512) (o : Fin 3) :
    w57 V0 (ix2 n o) = Ideal.exp (w50 V0 (ix2 n o) - max (w50 V0 (ix2 n 0)) (max (w50 V0 (ix2 n 1)) (w50 V0 (ix2 n 2)))) := by
  rw [← fold_three fun x => w50 V0 (ix2 n x)]
  unfold w57 w50 res_main_v57
  generalize res_main_v50 V0 = T
  clean_types
  pointwise
  rw [bottom, max_eq_right bot_le]

/-- The softmax of the scores. -/
theorem weights (n : Fin 512) (o : Fin 3) : w61 V0 (ix2 n o) = Ideal.div (w57 V0 (ix2 n o)) (∑ b : Fin 3, w57 V0 (ix2 n b)) := by
  unfold w61 w57 res_main_v61
  generalize res_main_v57 V0 = T
  clean_types
  pointwise

/-- The one-hot weights follow the largest softmax weight. -/
theorem onehot (n : Fin 512) (e : Fin 3) : w69 V0 (ix2 n e) = if e = pick (fun a => w61 V0 (ix2 n a)) then 1 else 0 := by
  rw [← hot (fun a => w61 V0 (ix2 n a)) e _ (fold_three fun a => w61 V0 (ix2 n a))]
  unfold w69 w61 res_main_v69
  generalize res_main_v61 V0 = T
  clean_types
  pointwise
  rfl

/-- With finite scores the one-hot weights follow the largest score. -/
theorem router (n : Fin 512) (h : ∀ a, Finite (w50 V0 (ix2 n a))) (e : Fin 3) : w69 V0 (ix2 n e) = if e = pick (fun a => w50 V0 (ix2 n a)) then 1 else 0 := by
  rw [onehot, pick_congr (fun a => w61 V0 (ix2 n a)) (fun a => w50 V0 (ix2 n a))]
  refine softmax_order _ _ h (max (w50 V0 (ix2 n 0)) (max (w50 V0 (ix2 n 1)) (w50 V0 (ix2 n 2)))) ?_ fun a => ?_
  · rcases max_choice (w50 V0 (ix2 n 0)) (max (w50 V0 (ix2 n 1)) (w50 V0 (ix2 n 2))) with h' | h' <;> rw [h']
    · exact h 0
    · rcases max_choice (w50 V0 (ix2 n 1)) (w50 V0 (ix2 n 2)) with h'' | h'' <;> rw [h'']
      · exact h 1
      · exact h 2
  · rw [weights]
    simp only [exponents]

/-- Finite inputs and classifier parameters make finite scores. -/
theorem finite_scores (h0 : ∀ i, Finite (p0 V0 i)) (h1 : ∀ i, Finite (p1 V0 i)) (h2 : ∀ i, Finite (p2 V0 i)) (h3 : ∀ i, Finite (p3 V0 i)) (h4 : ∀ i, Finite (p4 V0 i))
    (h5 : ∀ i, Finite (p5 V0 i)) (h6 : ∀ i, Finite (p6 V0 i)) (h7 : ∀ i, Finite (p7 V0 i)) (h8 : ∀ i, Finite (p8 V0 i)) (n : Fin 512) (a : Fin 3) : Finite (w50 V0 (ix2 n a)) := by
  have f23 : ∀ o y x, Finite (w23 V0 (ix4 n o y x)) := fun o y x => by
    rw [patch]
    exact (Finite.sum _ _ fun _ => Finite.sum _ _ fun _ => Finite.sum _ _ fun _ => (h1 _).mul (h0 _)).add (h2 _)
  have f32 : ∀ o y x, Finite (w32 V0 (ix4 n o y x)) := fun o y x => by
    rw [hidden]
    exact (Finite.sum _ _ fun _ => (h3 _).mul (f23 _ _ _).leak).add (h4 _)
  have f41 : ∀ o y x, Finite (w41 V0 (ix4 n o y x)) := fun o y x => by
    rw [deeper]
    exact (Finite.sum _ _ fun _ => (h5 _).mul (f32 _ _ _).leak).add (h6 _)
  rw [scores]
  exact (Finite.sum _ _ fun _ => (Finite.sum _ _ fun _ => Finite.sum _ _ fun _ => (f41 _ _ _).leak).mean.mul (h7 _)).add (h8 _)

end Cert.ReferenceIdeal.Values
-- ==== Proof.Scores.lean ====
/- The kernel's scores of an image are the reference's. -/
module

public import proofs.«01_k».proof.Proof.Chain
public import proofs.«01_k».proof.Proof.Choice
public import proofs.«01_k».proof.Proof.RefRouter

@[expose] public section

set_option maxRecDepth 16384

noncomputable section

namespace Cert.Chain

open Cert.KernelIdeal Cert.KernelIdeal.Gen Cert.KernelIdeal.Entry Cert.KernelIdeal.Points Cert.Router Idealize.ShloMosaic Idealize.ShloMosaic.TcCoe
open Cert.ReferenceIdeal.Values (p0 p1 p2 p3 p4 p5 p6 p7 p8 w23 w32 w41 w50 w69)

/-- A sum over a product of two ranges, as a sum over both. -/
theorem sum_split (a b : Nat) (f : Fin (a * b) → EReal) :
    ∑ k, f k = ∑ y : Fin a, ∑ x : Fin b, f ⟨y.val * b + x.val, by have := y.isLt; have := x.isLt; nlinarith⟩ := by
  rw [← Fintype.sum_prod_type']
  refine (Fintype.sum_equiv finProdFinEquiv _ _ fun z => congrArg f (Fin.ext ?_)).symm
  simp [finProdFinEquiv]
  ring

variable {m : (ℓ : Loc nD τ sig) → Buf (Elt Ideal) ℓ} {c : Dev nD} {t : Fin cfg0.N} {V0 : Valuation Cert.ReferenceIdeal.τ Cert.ReferenceIdeal.sig (Elt Ideal)} {i0 : Fin 4} {e : Fin 3}

/-- The patch layer at a place. -/
theorem at_patch (A : Agree m c V0) (p : Fin 64) (o : Fin 128) :
    (∑ k : Fin 48, b1 m c t (ix3 i0 p k) * b2 m c t (ix2 k o)) + b3 m c t (ix2 0 o) = w23 V0 (ix4 (num t i0) o ⟨p.val / 8, by omega⟩ ⟨p.val % 8, by omega⟩) := by
  rw [block2, block3, entry3, A.h2, Cert.ReferenceIdeal.Values.patch]
  refine congrArg₂ (fun u v : EReal => u + v) ?_ rfl
  refine (sum_split 3 16 _).trans (Finset.sum_congr rfl fun a _ => (sum_split 4 4 _).trans (Finset.sum_congr rfl fun i _ => Finset.sum_congr rfl fun j _ => ?_))
  rw [block1, entry1, entry2, A.h0, A.h1, mul_comm]
  refine congrArg₂ (fun u v : EReal => u * v) (congrArg _ ?_) (congrArg _ ?_)
  · congr 1 <;> exact Fin.ext (by dsimp only; omega)
  · congr 1 <;> exact Fin.ext (by dsimp only; omega)

/-- The layers before the average at a place. -/
theorem at_deep (A : Agree m c V0) (p : Fin 64) (o : Fin 128) :
    deep (b1 m c t) (b2 m c t) (b3 m c t) (b4 m c t) (b5 m c t) (b6 m c t) (b7 m c t) i0 p o = w41 V0 (ix4 (num t i0) o ⟨p.val / 8, by omega⟩ ⟨p.val % 8, by omega⟩) := by
  unfold deep
  simp only [at_patch A]
  rw [Cert.ReferenceIdeal.Values.deeper, block7, entry7, A.h6]
  refine congrArg₂ (fun u v : EReal => u + v) (Finset.sum_congr rfl fun q _ => ?_) rfl
  rw [mul_comm, block6, entry6, A.h5, Cert.ReferenceIdeal.Values.hidden, block5, entry5, A.h4]
  refine congrArg (fun u : EReal => p5 V0 (ix4 o q 0 0) * leak (u + p4 V0 (ix1 q))) (Finset.sum_congr rfl fun s _ => ?_)
  rw [mul_comm, block4, entry4, A.h3]

/-- The scores of an image. -/
theorem at_level (A : Agree m c V0) : level m c t i0 = fun a => w50 V0 (ix2 (num t i0) a) := by
  funext a
  unfold level
  simp only [at_deep A]
  rw [Cert.ReferenceIdeal.Values.scores, block9, entry9, A.h8]
  refine congrArg₂ (fun u v : EReal => u + v) (Finset.sum_congr rfl fun q _ => ?_) rfl
  rw [block8, entry8, A.h7]
  refine congrArg (fun u : EReal => Ideal.div u (Ideal.ofBits .f32 0x42800000#32) * p7 V0 (ix2 a q)) ((sum_split 8 8 _).trans (Finset.sum_congr rfl fun y _ => Finset.sum_congr rfl fun x _ => ?_))
  have e1 : ∀ h, (⟨(y.val * 8 + x.val) / 8, h⟩ : Fin 8) = y := fun h => Fin.ext (by dsimp only; omega)
  have e2 : ∀ h, (⟨(y.val * 8 + x.val) % 8, h⟩ : Fin 8) = x := fun h => Fin.ext (by dsimp only; omega)
  simp only [e1, e2]

/-- The kernel's coefficients choose the expert of the reference's largest score. -/
theorem chosen (A : Agree m c V0) : Chosen m c t i0 (pick fun a => w50 V0 (ix2 (num t i0) a)) := fun k => by
  rw [coefs, at_level A]

/-- The reference's weights choose the same expert. -/
theorem chosen_ref (h : ∀ n a, Finite (w50 V0 (ix2 n a))) (n : Fin 512) (k : Fin 3) : w69 V0 (ix2 n k) = if k = pick (fun a => w50 V0 (ix2 n a)) then 1 else 0 :=
  Cert.ReferenceIdeal.Values.router V0 n (h n) k

end Cert.Chain
-- ==== Proof.Equal.lean ====
/- The array the kernel leaves is the reference's result. -/
module

public import proofs.«01_k».proof.Proof.Output
public import proofs.«01_k».proof.Proof.RefOutput
public import proofs.«01_k».proof.Proof.Scores

@[expose] public section

set_option maxRecDepth 16384

noncomputable section

namespace Cert.Chain

open Cert.KernelIdeal Cert.KernelIdeal.Gen Cert.KernelIdeal.Layers Cert.KernelIdeal.Points Cert.KernelIdeal.Whole Cert.Router Idealize.ShloMosaic Idealize.ShloMosaic.TcCoe
open Cert.ReferenceIdeal.Values (w50 w69 w271 w300)

variable {m : (ℓ : Loc nD τ sig) → Buf (Elt Ideal) ℓ} {c : Dev nD} {V0 : Valuation Cert.ReferenceIdeal.τ Cert.ReferenceIdeal.sig (Elt Ideal)}

/-- One element of the result, with its image number split into a grid point and a place there. -/
theorem equal_at (A : Agree m c V0) (hs : ∀ n a, Finite (w50 V0 (ix2 n a))) (t : Fin cfg0.N) (i : Fin 4) (o : Fin 48) (j : Fin 1024) :
    k187 m c t (ix2 o ⟨1024 * i.val + j.val, by omega⟩) = w300 V0 (ix3 (num t i) o j) := by
  have hl : img ⟨1024 * i.val + j.val, by omega⟩ = i := Fin.ext (by unfold img; dsimp only; omega)
  rw [at_tail A (chosen A) o _ hl, Cert.ReferenceIdeal.Values.result V0 (num t i) _ (chosen_ref hs (num t i)) o j]
  have e1 : (1024 * i.val + j.val) / 32 % 32 = j.val / 32 := by omega
  have e2 : (1024 * i.val + j.val) % 32 = j.val % 32 := by omega
  simp only [e1, e2]

/-- The whole array. -/
theorem equal (A : Agree m c V0) (hs : ∀ n a, Finite (w50 V0 (ix2 n a))) : image_of m c = w300 V0 := by
  funext y
  have hy : (y 0).val < 512 := (y 0).isLt
  unfold image_of
  refine (equal_at A hs _ ⟨(y 0).val % 4, by omega⟩ (y 1) (y 2)).trans (congrArg (w300 V0) ?_)
  funext j
  fin_cases j
  · refine Fin.ext ?_
    show 4 * ((y 0).val / 4) + (y 0).val % 4 = (y 0).val
    omega
  · rfl
  · rfl

end Cert.Chain
-- ==== Proof.Finite.lean ====
/- The precondition read at an element: the inputs of the classifier and its parameters are finite. -/
module

public import proofs.«01_k».proof.Pre_finite
public import proofs.«01_k».proof.Proof.Pick
public import Idealize.ShloMosaic.Lib.Tactic.CleanTypes

@[expose] public section

noncomputable section

namespace Cert.Router

open Idealize.ShloMosaic

/-- A value whose absolute value is below infinity is finite. -/
theorem finite_word (v : EReal) (h : BitVec.ofBool (decide (max v (-v) < Ideal.ofBits .f32 0x7F800000#32)) = 1#1) : Finite v := by
  have hi : Ideal.ofBits .f32 0x7F800000#32 = (⊤ : EReal) := by simp [Ideal.ofBits, Ideal.ieee]
  rw [hi] at h
  by_cases hv : max v (-v) < ⊤
  · induction v with
    | bot => simp at hv
    | coe r => exact ⟨r, rfl⟩
    | top => simp at hv
  · rw [decide_eq_false hv] at h
    exact absurd h (by decide)

/-- One array of the precondition. -/
theorem finite_of {S : Shape} (b : Shape.BroadcastsInDim (⟨0, ![]⟩ : Shape) S (![] : Fin 0 → Fin S.rank)) (a : FVec Ideal S .f32)
    (h : cmpf .olt (Host.absf a) (broadcastInDim S ![] b (constant (⟨0, ![]⟩ : Shape) .f32 0x7F800000#32)) = fun _ => 1#1) (i : S.Idx) : Finite (a i) :=
  finite_word (a i) (congrFun h i)

end Cert.Router
-- ==== Proof.Algebraic.lean ====
/- Over exact arithmetic the kernel's result array and the reference's hold the same values. -/
module

public import proofs.«01_k».proof.Defs
public import proofs.«01_k».proof.Proof.Equal
public import proofs.«01_k».proof.Proof.Finite
public import proofs.«01_k».proof.Proof.RefRouter
public import proofs.«01_k».proof.Proof.IdealBlocks

@[expose] public section

set_option maxRecDepth 16384

noncomputable section

namespace Cert.Chain

open Cert.KernelIdeal.Gen Cert.KernelIdeal.Layers Cert.KernelIdeal.Points Cert.KernelIdeal.Whole Cert.Router Idealize.ShloMosaic Idealize.ShloMosaic.TcCoe Idealize.SL.Sem
open Cert.ReferenceIdeal.Values Cert.ReferenceIdeal.Value Idealize.ShloMosaic.StableHlo

/-- The shapes the precondition broadcasts to. -/
theorem facts : Cert.Pre_finite.Facts :=
  ⟨by decide, by decide, by decide, by decide, by decide, by decide⟩

/-- Arguments that agree when the two programs start. -/
theorem agree {m : (ℓ : Loc Cert.KernelIdeal.nD Cert.KernelIdeal.τ Cert.KernelIdeal.sig) → Buf (Elt Ideal) ℓ} {c : Dev Cert.KernelIdeal.nD}
    {m' : (ℓ : Loc Cert.ReferenceIdeal.nD Cert.ReferenceIdeal.τ Cert.ReferenceIdeal.sig) → Buf (Elt Ideal) ℓ}
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) : Agree m c (launchContents m' c) := by
  obtain ⟨a0, a1, a2, a3, a4, a5, a6, a7, a8, a9, a10, a11, a12, a13, a14, a15, a16, a17, a18, a19, a20, a21, a22⟩ := h
  exact ⟨a0.symm, a1.symm, a2.symm, a3.symm, a4.symm, a5.symm, a6.symm, a7.symm, a8.symm, a9.symm, a10.symm, a11.symm, a12.symm, a13.symm, a14.symm,
    a15.symm, a16.symm, a17.symm, a18.symm, a19.symm, a20.symm, a21.symm, a22.symm⟩

/-- The scores of the reference are finite when the inputs of the classifier are. -/
theorem scores {m : (ℓ : Loc Cert.KernelIdeal.nD Cert.KernelIdeal.τ Cert.KernelIdeal.sig) → Buf (Elt Ideal) ℓ} {c : Dev Cert.KernelIdeal.nD}
    {V0 : Valuation Cert.ReferenceIdeal.τ Cert.ReferenceIdeal.sig (Elt Ideal)} (A : Agree m c V0)
    (hp : Cert.Pre_KernelIdeal_finite (hPre_finite := facts) m) (n : Fin 512) (a : Fin 3) : Finite (w50 V0 (ix2 n a)) := by
  obtain ⟨h0, h1, h2, h3, h4, h5, h6, h7, h8⟩ := hp c
  refine finite_scores V0 ?_ ?_ ?_ ?_ ?_ ?_ ?_ ?_ ?_ n a
  · exact fun i => A.h0 ▸ finite_of _ _ h0 i
  · exact fun i => A.h1 ▸ finite_of _ _ h1 i
  · exact fun i => A.h2 ▸ finite_of _ _ h2 i
  · exact fun i => A.h3 ▸ finite_of _ _ h3 i
  · exact fun i => A.h4 ▸ finite_of _ _ h4 i
  · exact fun i => A.h5 ▸ finite_of _ _ h5 i
  · exact fun i => A.h6 ▸ finite_of _ _ h6 i
  · exact fun i => A.h7 ▸ finite_of _ _ h7 i
  · exact fun i => A.h8 ▸ finite_of _ _ h8 i

/-- The two programs leave the same array. -/
theorem algebraic : Cert.algebraic_KernelIdeal_ReferenceIdeal_pre_finite (hKernelIdeal := Cert.KernelIdeal.Gen.facts)
    (hReferenceIdeal := Cert.ReferenceIdeal.Gen.facts) (hPre_finite := facts) := by
  intro m ρ m' ρ' hp hagree
  refine ⟨fun c => (dats m 0 c).arrAt 24 Cert.KernelIdeal.cfg0.N, Cert.KernelIdeal.Blocks.run_blocks m ρ,
    (θ_run Cert.ReferenceIdeal.defs _ _).mono (fun r h c => ⟨(h c).1.trans ?_, (h c).2⟩) (Cert.ReferenceIdeal.Value.run (F := Ideal) m' ρ')⟩
  have A := agree (hagree c)
  exact (val6_main_v300 (launchContents m' c)).symm.trans ((equal A (scores A hp)).symm.trans (array m c).symm)

end Cert.Chain
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.KernelFrame
public import proofs.«01_k».proof.Proof.IdealFrame
public import proofs.«01_k».proof.Proof.Algebraic
public import Idealize.ShloMosaic.Adequacy
public import Idealize.ShloMosaic.Init

@[expose] public section

noncomputable section

namespace Cert.Proof

open Idealize.ShloMosaic Idealize.SL.Sem

/-- The reference runs to the end, keeps its arguments and leaves every semaphore at zero. -/
theorem frame_ref : Cert.quiescent_ReferenceIdeal (hReferenceIdeal := Cert.ReferenceIdeal.Gen.facts) := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- Everything that is claimed. -/
theorem claim : Cert.Claim :=
  ⟨Cert.Kernel.Gen.facts, Cert.KernelIdeal.Gen.facts, Cert.ReferenceIdeal.Gen.facts, Cert.Chain.facts,
    fun m ρ _ => Cert.Kernel.Whole.frame m ρ,
    fun m ρ _ => Cert.KernelIdeal.Whole.frame m ρ,
    fun m ρ _ => Cert.KernelIdeal.Whole.frame m ρ,
    frame_ref,
    fun m ρ _ => frame_ref m ρ trivial,
    trivial,
    Cert.Chain.algebraic⟩

end Cert.Proof

end
